-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2 = (fun _ => 1#1)

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5)
      ∧ r.2.mem ((c.tc : Thread Cert.Reference.nD Cert.Reference.τ).loc Cert.Reference.main_arg6) = m ((c.tc : Thread Cert.Reference.nD Cert.Reference.τ).loc Cert.Reference.main_arg6)
      ∧ r.2.mem ((c.tc : Thread Cert.Reference.nD Cert.Reference.τ).loc Cert.Reference.main_arg7) = m ((c.tc : Thread Cert.Reference.nD Cert.Reference.τ).loc Cert.Reference.main_arg7)
      ∧ r.2.mem ((c.tc : Thread Cert.Reference.nD Cert.Reference.τ).loc Cert.Reference.main_arg8) = m ((c.tc : Thread Cert.Reference.nD Cert.Reference.τ).loc Cert.Reference.main_arg8)
      ∧ r.2.mem ((c.tc : Thread Cert.Reference.nD Cert.Reference.τ).loc Cert.Reference.main_arg9) = m ((c.tc : Thread Cert.Reference.nD Cert.Reference.τ).loc Cert.Reference.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v16_0)) (v1 : (c : Dev Cert.KernelIdeal.nD) → Buf (Elt Ideal) ((c.tc : Thread Cert.KernelIdeal.nD Cert.KernelIdeal.τ).loc Cert.KernelIdeal.main_v16_1)) (v2 : (c : Dev Cert.KernelIdeal.nD) → Buf (Elt Ideal) ((c.tc : Thread Cert.KernelIdeal.nD Cert.KernelIdeal.τ).loc Cert.KernelIdeal.main_v16_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16_0) = v0 c
          ∧ r.2.mem ((c.tc : Thread Cert.KernelIdeal.nD Cert.KernelIdeal.τ).loc Cert.KernelIdeal.main_v16_1) = v1 c
          ∧ r.2.mem ((c.tc : Thread Cert.KernelIdeal.nD Cert.KernelIdeal.τ).loc Cert.KernelIdeal.main_v16_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v67) = v0 c
          ∧ r.2.mem ((c.tc : Thread Cert.ReferenceIdeal.nD Cert.ReferenceIdeal.τ).loc Cert.ReferenceIdeal.main_v68) = v1 c
          ∧ r.2.mem ((c.tc : Thread Cert.ReferenceIdeal.nD Cert.ReferenceIdeal.τ).loc Cert.ReferenceIdeal.main_v69) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ preserves_Reference_ReferenceIdeal
    ∧ algebraic_KernelIdeal_ReferenceIdeal_pre_finite_inputs (hKernelIdeal := hKernelIdeal) (hReferenceIdeal := hReferenceIdeal) (hPre_finite_inputs := hPre_finite_inputs)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite_inputs.lean ====
abbrev S8192x6144 : Shape := ⟨2, ![8192, 6144]⟩
abbrev S128 : Shape := ⟨1, ![128]⟩
abbrev S4x256 : Shape := ⟨2, ![4, 256]⟩
abbrev S2048x5632 : Shape := ⟨2, ![2048, 5632]⟩
abbrev S8192x3072 : Shape := ⟨2, ![8192, 3072]⟩
abbrev S_ : Shape := ⟨0, ![]⟩

class Facts : Prop where
  slices_S8192x6144_S8192x3072_0_3072 : S8192x6144.Slices ![0, 3072] S8192x3072
  bitsLt_bf16_f32 : FTy.bits .bf16 < FTy.bits .f32
  bcast_S_S8192x3072 : S_.BroadcastsInDim S8192x3072 (![] : Fin 0 → Fin S8192x3072.rank)
  bcast_S_S128 : S_.BroadcastsInDim S128 (![] : Fin 0 → Fin S128.rank)

variable [Facts]

def fn {F : FTy → Type} [FloatOps F] (main_arg0 : FVec F S8192x6144 .bf16) (main_arg1 : FVec F S128 .f32) (main_arg2 : FVec F S128 .f32) (main_arg3 : FVec F S128 .f32) (main_arg4 : FVec F S128 .f32) (main_arg5 : FVec F S128 .f32) (main_arg6 : FVec F S128 .f32) (main_arg7 : FVec F S4x256 .f32) (main_arg8 : FVec F S2048x5632 .f32) (main_arg9 : FVec F S2048x5632 .f32) : IVec S8192x3072 1 × IVec S128 1 × IVec S128 1 × IVec S128 1 × IVec S128 1 :=
  let main_v0 : FVec F S8192x3072 .bf16 := (extractStridedSlice S8192x3072 ![0, 3072] · slices_S8192x6144_S8192x3072_0_3072) main_arg0
  let main_v1 : FVec F S8192x3072 .f32 := (extf .f32 · bitsLt_bf16_f32) main_v0
  let main_v2 : FVec F S8192x3072 .f32 := Host.absf main_v1
  let main_cst : FVec F S_ .f32 := constant S_ .f32 0x7F800000#32
  let main_v3 : FVec F S8192x3072 .f32 := broadcastInDim S8192x3072 ![] bcast_S_S8192x3072 main_cst
  let main_v4 : IVec S8192x3072 1 := cmpf .olt main_v2 main_v3
  let main_v5 : FVec F S128 .f32 := Host.absf main_arg3
  let main_cst_0 : FVec F S_ .f32 := constant S_ .f32 0x7F800000#32
  let main_v6 : FVec F S128 .f32 := broadcastInDim S128 ![] bcast_S_S128 main_cst_0
  let main_v7 : IVec S128 1 := cmpf .olt main_v5 main_v6
  let main_v8 : FVec F S128 .f32 := Host.absf main_arg4
  let main_cst_1 : FVec F S_ .f32 := constant S_ .f32 0x7F800000#32
  let main_v9 : FVec F S128 .f32 := broadcastInDim S128 ![] bcast_S_S128 main_cst_1
  let main_v10 : IVec S128 1 := cmpf .olt main_v8 main_v9
  let main_v11 : FVec F S128 .f32 := Host.absf main_arg5
  let main_cst_2 : FVec F S_ .f32 := constant S_ .f32 0x7F800000#32
  let main_v12 : FVec F S128 .f32 := broadcastInDim S128 ![] bcast_S_S128 main_cst_2
  let main_v13 : IVec S128 1 := cmpf .olt main_v11 main_v12
  let main_v14 : FVec F S128 .f32 := Host.absf main_arg6
  let main_cst_3 : FVec F S_ .f32 := constant S_ .f32 0x7F800000#32
  let main_v15 : FVec F S128 .f32 := broadcastInDim S128 ![] bcast_S_S128 main_cst_3
  let main_v16 : IVec S128 1 := cmpf .olt main_v14 main_v15
  (main_v4, main_v7, main_v10, main_v13, main_v16)
-- ==== Kernel.lean ====
abbrev S8192x6144 : Shape := ⟨2, ![8192, 6144]⟩
abbrev S128 : Shape := ⟨1, ![128]⟩
abbrev S4x256 : Shape := ⟨2, ![4, 256]⟩
abbrev S2048x5632 : Shape := ⟨2, ![2048, 5632]⟩
abbrev S1x128 : Shape := ⟨2, ![1, 128]⟩
abbrev S_ : Shape := ⟨0, ![]⟩
abbrev S1 : Shape := ⟨1, ![1]⟩
abbrev S2 : Shape := ⟨1, ![2]⟩
abbrev S8192x1024 : Shape := ⟨2, ![8192, 1024]⟩
abbrev S8192x256 : Shape := ⟨2, ![8192, 256]⟩
abbrev S64x5632 : Shape := ⟨2, ![64, 5632]⟩
abbrev S1024x256 : Shape := ⟨2, ![1024, 256]⟩
abbrev S2x1024x128 : Shape := ⟨3, ![2, 1024, 128]⟩
abbrev S2x1024x256 : Shape := ⟨3, ![2, 1024, 256]⟩
abbrev S2x1024x512 : Shape := ⟨3, ![2, 1024, 512]⟩
abbrev S1024x128 : Shape := ⟨2, ![1024, 128]⟩
abbrev S512x128 : Shape := ⟨2, ![512, 128]⟩
abbrev S1024x512 : Shape := ⟨2, ![1024, 512]⟩
abbrev S1x1024x512 : Shape := ⟨3, ![1, 1024, 512]⟩
abbrev S512x256 : Shape := ⟨2, ![512, 256]⟩
abbrev S1x1024x128 : Shape := ⟨3, ![1, 1024, 128]⟩
abbrev S1x1024x256 : Shape := ⟨3, ![1, 1024, 256]⟩
abbrev S512x512 : Shape := ⟨2, ![512, 512]⟩
abbrev S1x512x512 : Shape := ⟨3, ![1, 512, 512]⟩
abbrev S1x512x128 : Shape := ⟨3, ![1, 512, 128]⟩
abbrev S1x512x256 : Shape := ⟨3, ![1, 512, 256]⟩
abbrev S1x1 : Shape := ⟨2, ![1, 1]⟩
abbrev S1024 : Shape := ⟨1, ![1024]⟩
abbrev S1024x1 : Shape := ⟨2, ![1024, 1]⟩
abbrev S1x256 : Shape := ⟨2, ![1, 256]⟩
abbrev S512 : Shape := ⟨1, ![512]⟩
abbrev S512x1 : Shape := ⟨2, ![512, 1]⟩

abbrev nBuf : Space → Nat
  | .hbm => 34
  | .vmem => 26
  | .smem => 1
  | _ => 0

abbrev bufTy : (tb : Table) → Fin (tcTables nBuf tb) → BufTy
  | .hbm, ⟨0, _⟩ => ⟨S8192x6144, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S4x256, .f32⟩
  | .hbm, ⟨8, _⟩ => ⟨S2048x5632, .f32⟩
  | .hbm, ⟨9, _⟩ => ⟨S2048x5632, .f32⟩
  | .hbm, ⟨10, _⟩ => ⟨S1x128, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S128, .f32⟩
  | .hbm, ⟨15, _⟩ => ⟨S128, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .i1⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S2, .f32⟩
  | .hbm, ⟨31, _⟩ => ⟨S8192x1024, .bf16⟩
  | .hbm, ⟨32, _⟩ => ⟨S2048x5632, .bf16⟩
  | .hbm, ⟨33, _⟩ => ⟨S2048x5632, .bf16⟩
  | .local _ .vmem, ⟨0, _⟩ => ⟨S8192x256, .bf16⟩
  | .local _ .vmem, ⟨1, _⟩ => ⟨S8192x256, .bf16⟩
  | .local _ .vmem, ⟨2, _⟩ => ⟨S8192x256, .bf16⟩
  | .local _ .vmem, ⟨3, _⟩ => ⟨S8192x256, .bf16⟩
  | .local _ .vmem, ⟨4, _⟩ => ⟨S8192x256, .bf16⟩
  | .local _ .vmem, ⟨5, _⟩ => ⟨S8192x256, .bf16⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S4x256, .f32⟩
  | .local _ .vmem, ⟨11, _⟩ => ⟨S64x5632, .f32⟩
  | .local _ .vmem, ⟨12, _⟩ => ⟨S64x5632, .f32⟩
  | .local _ .vmem, ⟨13, _⟩ => ⟨S64x5632, .f32⟩
  | .local _ .vmem, ⟨14, _⟩ => ⟨S64x5632, .f32⟩
  | .local _ .vmem, ⟨15, _⟩ => ⟨S1024x256, .bf16⟩
  | .local _ .vmem, ⟨16, _⟩ => ⟨S1024x256, .bf16⟩
  | .local _ .vmem, ⟨17, _⟩ => ⟨S64x5632, .bf16⟩
  | .local _ .vmem, ⟨18, _⟩ => ⟨S64x5632, .bf16⟩
  | .local _ .vmem, ⟨19, _⟩ => ⟨S64x5632, .bf16⟩
  | .local _ .vmem, ⟨20, _⟩ => ⟨S64x5632, .bf16⟩
  | .local _ .vmem, ⟨21, _⟩ => ⟨S2x1024x128, .f32⟩
  | .local _ .vmem, ⟨22, _⟩ => ⟨S2x1024x128, .f32⟩
  | .local _ .vmem, ⟨23, _⟩ => ⟨S2x1024x256, .f32⟩
  | .local _ .vmem, ⟨24, _⟩ => ⟨S2x1024x512, .f32⟩
  | .local _ .vmem, ⟨25, _⟩ => ⟨S2x1024x512, .f32⟩
  | .local _ .smem, ⟨0, _⟩ => ⟨S2, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_cst_0 : Ref sig .tc := ⟨.hbm, 18, rfl⟩
abbrev main_v7 : Ref sig .tc := ⟨.hbm, 19, rfl⟩
abbrev main_cst_1 : Ref sig .tc := ⟨.hbm, 20, rfl⟩
abbrev main_v8 : Ref sig .tc := ⟨.hbm, 21, rfl⟩
abbrev main_v9 : Ref sig .tc := ⟨.hbm, 22, rfl⟩
abbrev main_cst_2 : Ref sig .tc := ⟨.hbm, 23, rfl⟩
abbrev main_v10 : Ref sig .tc := ⟨.hbm, 24, rfl⟩
abbrev main_cst_3 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16_0 : Ref sig .tc := ⟨.hbm, 31, rfl⟩
abbrev main_v16_1 : Ref sig .tc := ⟨.hbm, 32, rfl⟩
abbrev main_v16_2 : Ref sig .tc := ⟨.hbm, 33, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_stg10_0 : Ref sig .tc := ⟨.vmem, 13, rfl⟩
abbrev cc0_stg10_1 : Ref sig .tc := ⟨.vmem, 14, rfl⟩
abbrev cc0_stg11_0 : Ref sig .tc := ⟨.vmem, 15, rfl⟩
abbrev cc0_stg11_1 : Ref sig .tc := ⟨.vmem, 16, rfl⟩
abbrev cc0_stg12_0 : Ref sig .tc := ⟨.vmem, 17, rfl⟩
abbrev cc0_stg12_1 : Ref sig .tc := ⟨.vmem, 18, rfl⟩
abbrev cc0_stg13_0 : Ref sig .tc := ⟨.vmem, 19, rfl⟩
abbrev cc0_stg13_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c0_i32_1 : BitVec 32 := 0#32
  let v8 : BitVec 1 := Scalar.cmpi .eq arg1 c0_i32_1
  let v9 : BitVec 32 := Scalar.extui v8
  let c0_i32_2 : BitVec 32 := 0#32
  let v10 : BitVec 1 := Scalar.cmpi .ne v9 c0_i32_2
  v10

def k0_mult1 : BitVec 32 :=
  let c0_i32_20 : BitVec 32 := 0#32
  c0_i32_20
def k0_mult2 : BitVec 32 :=
  let c0_i32_22 : BitVec 32 := 0#32
  c0_i32_22
def k0_mult3 : BitVec 32 :=
  let c0_i32_28 : BitVec 32 := 0#32
  c0_i32_28
def k0_mult4 : BitVec 32 :=
  let c0_i32_29 : BitVec 32 := 0#32
  c0_i32_29
@[reducible] def k0_t1_loop (i : grid0.Coords) : Scf.Loop 32 :=
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_5 : BitVec 32 := 1#32
  ⟨c0_i32_4, v15, c1_i32_5⟩
def k0_mult5 (i : grid0.Coords) (k0_t1 : Fin (k0_t1_loop i).trips) : BitVec 32 :=
  let c2_i32 : BitVec 32 := 2#32
  let c0_i32_4 : BitVec 32 := 0#32
  let c1_i32_5 : BitVec 32 := 1#32
  let arg21 : BitVec 32 := Scf.iv c0_i32_4 c1_i32_5 k0_t1
  let v24 : BitVec 32 := Scalar.muli c2_i32 arg21
  let c512_i32 : BitVec 32 := 512#32
  let v25 : BitVec 32 := Scalar.muli v24 c512_i32
  v25
def k0_off1 (i : grid0.Coords) (k0_t1 : Fin (k0_t1_loop i).trips) : Fin 2 → Nat :=
  let c2_i32 : BitVec 32 := 2#32
  let c0_i32_4 : BitVec 32 := 0#32
  let c1_i32_5 : BitVec 32 := 1#32
  let arg21 : BitVec 32 := Scf.iv c0_i32_4 c1_i32_5 k0_t1
  let v24 : BitVec 32 := Scalar.muli c2_i32 arg21
  let c512_i32 : BitVec 32 := 512#32
  let v25 : BitVec 32 := Scalar.muli v24 c512_i32
  let v26 : BitVec 32 := v25
  let v27 : Index := Scalar.indexCast v26
  let c0_12 : Index := 0#32
  ![v27.toNat, 0]
def k0_mult6 (i : grid0.Coords) : BitVec 32 :=
  let arg1 : BitVec 32 := BitVec.ofNat 32 (i 1).val
  let c1024_i32 : BitVec 32 := 1024#32
  let v82 : BitVec 32 := Scalar.muli arg1 c1024_i32
  let c0_i32_46 : BitVec 32 := 0#32
  let v83 : BitVec 32 := Scalar.addi v82 c0_i32_46
  v83
def k0_off2 (i : grid0.Coords) : Fin 2 → Nat :=
  let arg1 : BitVec 32 := BitVec.ofNat 32 (i 1).val
  let c1024_i32 : BitVec 32 := 1024#32
  let v82 : BitVec 32 := Scalar.muli arg1 c1024_i32
  let c0_i32_46 : BitVec 32 := 0#32
  let v83 : BitVec 32 := Scalar.addi v82 c0_i32_46
  let v84 : BitVec 32 := v83
  let v85 : Index := Scalar.indexCast v84
  let c0_47 : Index := 0#32
  ![v85.toNat, 0]
def k0_mult7 (i : grid0.Coords) (k0_t1 : Fin (k0_t1_loop i).trips) : BitVec 32 :=
  let c2_i32 : BitVec 32 := 2#32
  let c0_i32_4 : BitVec 32 := 0#32
  let c1_i32_5 : BitVec 32 := 1#32
  let arg21 : BitVec 32 := Scf.iv c0_i32_4 c1_i32_5 k0_t1
  let v24 : BitVec 32 := Scalar.muli c2_i32 arg21
  let c1_i32_45 : BitVec 32 := 1#32
  let v81 : BitVec 32 := Scalar.addi v24 c1_i32_45
  let c512_i32_48 : BitVec 32 := 512#32
  let v87 : BitVec 32 := Scalar.muli v81 c512_i32_48
  v87
def k0_off3 (i : grid0.Coords) (k0_t1 : Fin (k0_t1_loop i).trips) (c1_i32_45 : BitVec 32) : Fin 2 → Nat :=
  let c2_i32 : BitVec 32 := 2#32
  let c0_i32_4 : BitVec 32 := 0#32
  let c1_i32_5 : BitVec 32 := 1#32
  let arg21 : BitVec 32 := Scf.iv c0_i32_4 c1_i32_5 k0_t1
  let v24 : BitVec 32 := Scalar.muli c2_i32 arg21
  let v81 : BitVec 32 := Scalar.addi v24 c1_i32_45
  let c512_i32_48 : BitVec 32 := 512#32
  let v87 : BitVec 32 := Scalar.muli v81 c512_i32_48
  let v88 : BitVec 32 := v87
  let v89 : Index := Scalar.indexCast v88
  let c0_49 : Index := 0#32
  ![v89.toNat, 0]
def k0_mult8 (i : grid0.Coords) : BitVec 32 :=
  let arg1 : BitVec 32 := BitVec.ofNat 32 (i 1).val
  let c1024_i32_54 : BitVec 32 := 1024#32
  let v95 : BitVec 32 := Scalar.muli arg1 c1024_i32_54
  let c0_i32_55 : BitVec 32 := 0#32
  let v96 : BitVec 32 := Scalar.addi v95 c0_i32_55
  v96
def k0_off4 (i : grid0.Coords) : Fin 2 → Nat :=
  let arg1 : BitVec 32 := BitVec.ofNat 32 (i 1).val
  let c1024_i32_54 : BitVec 32 := 1024#32
  let v95 : BitVec 32 := Scalar.muli arg1 c1024_i32_54
  let c0_i32_55 : BitVec 32 := 0#32
  let v96 : BitVec 32 := Scalar.addi v95 c0_i32_55
  let v97 : BitVec 32 := v96
  let v98 : Index := Scalar.indexCast v97
  let c128 : Index := 128#32
  ![v98.toNat, 128]
def k0_mult9 (i : grid0.Coords) (k0_t1 : Fin (k0_t1_loop i).trips) : BitVec 32 :=
  let c2_i32 : BitVec 32 := 2#32
  let c0_i32_4 : BitVec 32 := 0#32
  let c1_i32_5 : BitVec 32 := 1#32
  let arg21 : BitVec 32 := Scf.iv c0_i32_4 c1_i32_5 k0_t1
  let v24 : BitVec 32 := Scalar.muli c2_i32 arg21
  let c1_i32_45 : BitVec 32 := 1#32
  let v81 : BitVec 32 := Scalar.addi v24 c1_i32_45
  let c512_i32_56 : BitVec 32 := 512#32
  let v100 : BitVec 32 := Scalar.muli v81 c512_i32_56
  v100
def k0_off5 (i : grid0.Coords) (k0_t1 : Fin (k0_t1_loop i).trips) (c1_i32_45 : BitVec 32) : Fin 2 → Nat :=
  let c2_i32 : BitVec 32 := 2#32
  let c0_i32_4 : BitVec 32 := 0#32
  let c1_i32_5 : BitVec 32 := 1#32
  let arg21 : BitVec 32 := Scf.iv c0_i32_4 c1_i32_5 k0_t1
  let v24 : BitVec 32 := Scalar.muli c2_i32 arg21
  let v81 : BitVec 32 := Scalar.addi v24 c1_i32_45
  let c512_i32_56 : BitVec 32 := 512#32
  let v100 : BitVec 32 := Scalar.muli v81 c512_i32_56
  let v101 : BitVec 32 := v100
  let v102 : Index := Scalar.indexCast v101
  let c128_57 : Index := 128#32
  ![v102.toNat, 128]
def k0_mult10 (i : grid0.Coords) (k0_t1 : Fin (k0_t1_loop i).trips) : BitVec 32 :=
  let c2_i32 : BitVec 32 := 2#32
  let c0_i32_4 : BitVec 32 := 0#32
  let c1_i32_5 : BitVec 32 := 1#32
  let arg21 : BitVec 32 := Scf.iv c0_i32_4 c1_i32_5 k0_t1
  let v24 : BitVec 32 := Scalar.muli c2_i32 arg21
  let c1_i32_62 : BitVec 32 := 1#32
  let v108 : BitVec 32 := Scalar.addi v24 c1_i32_62
  let c512_i32_63 : BitVec 32 := 512#32
  let v109 : BitVec 32 := Scalar.muli v108 c512_i32_63
  v109
def k0_off6 (i : grid0.Coords) (k0_t1 : Fin (k0_t1_loop i).trips) : Fin 2 → Nat :=
  let c2_i32 : BitVec 32 := 2#32
  let c0_i32_4 : BitVec 32 := 0#32
  let c1_i32_5 : BitVec 32 := 1#32
  let arg21 : BitVec 32 := Scf.iv c0_i32_4 c1_i32_5 k0_t1
  let v24 : BitVec 32 := Scalar.muli c2_i32 arg21
  let c1_i32_62 : BitVec 32 := 1#32
  let v108 : BitVec 32 := Scalar.addi v24 c1_i32_62
  let c512_i32_63 : BitVec 32 := 512#32
  let v109 : BitVec 32 := Scalar.muli v108 c512_i32_63
  let v110 : BitVec 32 := v109
  let v111 : Index := Scalar.indexCast v110
  let c0_64 : Index := 0#32
  ![v111.toNat, 0]
def k0_mult11 (i : grid0.Coords) : BitVec 32 :=
  let arg1 : BitVec 32 := BitVec.ofNat 32 (i 1).val
  let c1024_i32_98 : BitVec 32 := 1024#32
  let v166 : BitVec 32 := Scalar.muli arg1 c1024_i32_98
  let c0_i32_99 : BitVec 32 := 0#32
  let v167 : BitVec 32 := Scalar.addi v166 c0_i32_99
  v167
def k0_mult12 (i : grid0.Coords) (k0_t1 : Fin (k0_t1_loop i).trips) : BitVec 32 :=
  let c2_i32 : BitVec 32 := 2#32
  let c0_i32_4 : BitVec 32 := 0#32
  let c1_i32_5 : BitVec 32 := 1#32
  let arg21 : BitVec 32 := Scf.iv c0_i32_4 c1_i32_5 k0_t1
  let v24 : BitVec 32 := Scalar.muli c2_i32 arg21
  let c2_i32_97 : BitVec 32 := 2#32
  let v165 : BitVec 32 := Scalar.addi v24 c2_i32_97
  let c512_i32_101 : BitVec 32 := 512#32
  let v171 : BitVec 32 := Scalar.muli v165 c512_i32_101
  v171
def k0_mult13 (i : grid0.Coords) : BitVec 32 :=
  let arg1 : BitVec 32 := BitVec.ofNat 32 (i 1).val
  let c1024_i32_107 : BitVec 32 := 1024#32
  let v179 : BitVec 32 := Scalar.muli arg1 c1024_i32_107
  let c0_i32_108 : BitVec 32 := 0#32
  let v180 : BitVec 32 := Scalar.addi v179 c0_i32_108
  v180
def k0_mult14 (i : grid0.Coords) (k0_t1 : Fin (k0_t1_loop i).trips) : BitVec 32 :=
  let c2_i32 : BitVec 32 := 2#32
  let c0_i32_4 : BitVec 32 := 0#32
  let c1_i32_5 : BitVec 32 := 1#32
  let arg21 : BitVec 32 := Scf.iv c0_i32_4 c1_i32_5 k0_t1
  let v24 : BitVec 32 := Scalar.muli c2_i32 arg21
  let c2_i32_97 : BitVec 32 := 2#32
  let v165 : BitVec 32 := Scalar.addi v24 c2_i32_97
  let c512_i32_110 : BitVec 32 := 512#32
  let v184 : BitVec 32 := Scalar.muli v165 c512_i32_110
  v184
@[reducible] def k0_t2_loop (i : grid0.Coords) : Scf.Loop 32 :=
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let v12 : BitVec 32 := Scalar.addi c0_i32_4 v11
  let c1_i32_6 : BitVec 32 := 1#32
  ⟨v15, v12, c1_i32_6⟩
def k0_mult15 (i : grid0.Coords) (k0_t2 : Fin (k0_t2_loop i).trips) : BitVec 32 :=
  let c2_i32 : BitVec 32 := 2#32
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg21 : BitVec 32 := Scf.iv v15 c1_i32_6 k0_t2
  let v24 : BitVec 32 := Scalar.muli c2_i32 arg21
  let c512_i32 : BitVec 32 := 512#32
  let v25 : BitVec 32 := Scalar.muli v24 c512_i32
  v25
def k0_off7 (i : grid0.Coords) (k0_t2 : Fin (k0_t2_loop i).trips) : Fin 2 → Nat :=
  let c2_i32 : BitVec 32 := 2#32
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg21 : BitVec 32 := Scf.iv v15 c1_i32_6 k0_t2
  let v24 : BitVec 32 := Scalar.muli c2_i32 arg21
  let c512_i32 : BitVec 32 := 512#32
  let v25 : BitVec 32 := Scalar.muli v24 c512_i32
  let v26 : BitVec 32 := v25
  let v27 : Index := Scalar.indexCast v26
  let c0_12 : Index := 0#32
  ![v27.toNat, 0]
def k0_mult16 (i : grid0.Coords) : BitVec 32 :=
  let arg1 : BitVec 32 := BitVec.ofNat 32 (i 1).val
  let c1024_i32 : BitVec 32 := 1024#32
  let v82 : BitVec 32 := Scalar.muli arg1 c1024_i32
  let c0_i32_46 : BitVec 32 := 0#32
  let v83 : BitVec 32 := Scalar.addi v82 c0_i32_46
  v83
def k0_off8 (i : grid0.Coords) : Fin 2 → Nat :=
  let arg1 : BitVec 32 := BitVec.ofNat 32 (i 1).val
  let c1024_i32 : BitVec 32 := 1024#32
  let v82 : BitVec 32 := Scalar.muli arg1 c1024_i32
  let c0_i32_46 : BitVec 32 := 0#32
  let v83 : BitVec 32 := Scalar.addi v82 c0_i32_46
  let v84 : BitVec 32 := v83
  let v85 : Index := Scalar.indexCast v84
  let c0_47 : Index := 0#32
  ![v85.toNat, 0]
def k0_mult17 (i : grid0.Coords) (k0_t2 : Fin (k0_t2_loop i).trips) : BitVec 32 :=
  let c2_i32 : BitVec 32 := 2#32
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg21 : BitVec 32 := Scf.iv v15 c1_i32_6 k0_t2
  let v24 : BitVec 32 := Scalar.muli c2_i32 arg21
  let c1_i32_45 : BitVec 32 := 1#32
  let v81 : BitVec 32 := Scalar.addi v24 c1_i32_45
  let c512_i32_48 : BitVec 32 := 512#32
  let v87 : BitVec 32 := Scalar.muli v81 c512_i32_48
  v87
def k0_off9 (i : grid0.Coords) (k0_t2 : Fin (k0_t2_loop i).trips) (c1_i32_45 : BitVec 32) : Fin 2 → Nat :=
  let c2_i32 : BitVec 32 := 2#32
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg21 : BitVec 32 := Scf.iv v15 c1_i32_6 k0_t2
  let v24 : BitVec 32 := Scalar.muli c2_i32 arg21
  let v81 : BitVec 32 := Scalar.addi v24 c1_i32_45
  let c512_i32_48 : BitVec 32 := 512#32
  let v87 : BitVec 32 := Scalar.muli v81 c512_i32_48
  let v88 : BitVec 32 := v87
  let v89 : Index := Scalar.indexCast v88
  let c0_49 : Index := 0#32
  ![v89.toNat, 0]
def k0_mult18 (i : grid0.Coords) : BitVec 32 :=
  let arg1 : BitVec 32 := BitVec.ofNat 32 (i 1).val
  let c1024_i32_54 : BitVec 32 := 1024#32
  let v95 : BitVec 32 := Scalar.muli arg1 c1024_i32_54
  let c0_i32_55 : BitVec 32 := 0#32
  let v96 : BitVec 32 := Scalar.addi v95 c0_i32_55
  v96
def k0_off10 (i : grid0.Coords) : Fin 2 → Nat :=
  let arg1 : BitVec 32 := BitVec.ofNat 32 (i 1).val
  let c1024_i32_54 : BitVec 32 := 1024#32
  let v95 : BitVec 32 := Scalar.muli arg1 c1024_i32_54
  let c0_i32_55 : BitVec 32 := 0#32
  let v96 : BitVec 32 := Scalar.addi v95 c0_i32_55
  let v97 : BitVec 32 := v96
  let v98 : Index := Scalar.indexCast v97
  let c128 : Index := 128#32
  ![v98.toNat, 128]
def k0_mult19 (i : grid0.Coords) (k0_t2 : Fin (k0_t2_loop i).trips) : BitVec 32 :=
  let c2_i32 : BitVec 32 := 2#32
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg21 : BitVec 32 := Scf.iv v15 c1_i32_6 k0_t2
  let v24 : BitVec 32 := Scalar.muli c2_i32 arg21
  let c1_i32_45 : BitVec 32 := 1#32
  let v81 : BitVec 32 := Scalar.addi v24 c1_i32_45
  let c512_i32_56 : BitVec 32 := 512#32
  let v100 : BitVec 32 := Scalar.muli v81 c512_i32_56
  v100
def k0_off11 (i : grid0.Coords) (k0_t2 : Fin (k0_t2_loop i).trips) (c1_i32_45 : BitVec 32) : Fin 2 → Nat :=
  let c2_i32 : BitVec 32 := 2#32
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg21 : BitVec 32 := Scf.iv v15 c1_i32_6 k0_t2
  let v24 : BitVec 32 := Scalar.muli c2_i32 arg21
  let v81 : BitVec 32 := Scalar.addi v24 c1_i32_45
  let c512_i32_56 : BitVec 32 := 512#32
  let v100 : BitVec 32 := Scalar.muli v81 c512_i32_56
  let v101 : BitVec 32 := v100
  let v102 : Index := Scalar.indexCast v101
  let c128_57 : Index := 128#32
  ![v102.toNat, 128]
def k0_mult20 (i : grid0.Coords) (k0_t2 : Fin (k0_t2_loop i).trips) : BitVec 32 :=
  let c2_i32 : BitVec 32 := 2#32
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg21 : BitVec 32 := Scf.iv v15 c1_i32_6 k0_t2
  let v24 : BitVec 32 := Scalar.muli c2_i32 arg21
  let c1_i32_62 : BitVec 32 := 1#32
  let v108 : BitVec 32 := Scalar.addi v24 c1_i32_62
  let c512_i32_63 : BitVec 32 := 512#32
  let v109 : BitVec 32 := Scalar.muli v108 c512_i32_63
  v109
def k0_off12 (i : grid0.Coords) (k0_t2 : Fin (k0_t2_loop i).trips) : Fin 2 → Nat :=
  let c2_i32 : BitVec 32 := 2#32
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg21 : BitVec 32 := Scf.iv v15 c1_i32_6 k0_t2
  let v24 : BitVec 32 := Scalar.muli c2_i32 arg21
  let c1_i32_62 : BitVec 32 := 1#32
  let v108 : BitVec 32 := Scalar.addi v24 c1_i32_62
  let c512_i32_63 : BitVec 32 := 512#32
  let v109 : BitVec 32 := Scalar.muli v108 c512_i32_63
  let v110 : BitVec 32 := v109
  let v111 : Index := Scalar.indexCast v110
  let c0_64 : Index := 0#32
  ![v111.toNat, 0]
def k0_mult21 (i : grid0.Coords) : BitVec 32 :=
  let arg1 : BitVec 32 := BitVec.ofNat 32 (i 1).val
  let c1024_i32_98 : BitVec 32 := 1024#32
  let v166 : BitVec 32 := Scalar.muli arg1 c1024_i32_98
  let c0_i32_99 : BitVec 32 := 0#32
  let v167 : BitVec 32 := Scalar.addi v166 c0_i32_99
  v167
def k0_mult22 (i : grid0.Coords) (k0_t2 : Fin (k0_t2_loop i).trips) : BitVec 32 :=
  let c2_i32 : BitVec 32 := 2#32
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg21 : BitVec 32 := Scf.iv v15 c1_i32_6 k0_t2
  let v24 : BitVec 32 := Scalar.muli c2_i32 arg21
  let c2_i32_97 : BitVec 32 := 2#32
  let v165 : BitVec 32 := Scalar.addi v24 c2_i32_97
  let c512_i32_101 : BitVec 32 := 512#32
  let v171 : BitVec 32 := Scalar.muli v165 c512_i32_101
  v171
def k0_mult23 (i : grid0.Coords) : BitVec 32 :=
  let arg1 : BitVec 32 := BitVec.ofNat 32 (i 1).val
  let c1024_i32_107 : BitVec 32 := 1024#32
  let v179 : BitVec 32 := Scalar.muli arg1 c1024_i32_107
  let c0_i32_108 : BitVec 32 := 0#32
  let v180 : BitVec 32 := Scalar.addi v179 c0_i32_108
  v180
def k0_mult24 (i : grid0.Coords) (k0_t2 : Fin (k0_t2_loop i).trips) : BitVec 32 :=
  let c2_i32 : BitVec 32 := 2#32
  let c0_i32_4 : BitVec 32 := 0#32
  let arg1 : BitVec 32 := BitVec.ofNat 32 (i 1).val
  let v11 : BitVec 32 := Scalar.subi arg1 c0_i32_4
  let c1_i32 : BitVec 32 := 1#32
  let v13 : BitVec 32 := Scalar.divsi v11 c1_i32
  let v14 : BitVec 32 := Scalar.muli v13 c1_i32
  let v15 : BitVec 32 := Scalar.addi c0_i32_4 v14
  let c1_i32_6 : BitVec 32 := 1#32
  let arg21 : BitVec 32 := Scf.iv v15 c1_i32_6 k0_t2
  let v24 : BitVec 32 := Scalar.muli c2_i32 arg21
  let c2_i32_97 : BitVec 32 := 2#32
  let v165 : BitVec 32 := Scalar.addi v24 c2_i32_97
  let c512_i32_110 : BitVec 32 := 512#32
  let v184 : BitVec 32 := Scalar.muli v165 c512_i32_110
  v184
def k0_cond3 (i : grid0.Coords) : BitVec 1 :=
  let arg1 : BitVec 32 := BitVec.ofNat 32 (i 1).val
  let c1_i32_7 : BitVec 32 := 1#32
  let v16 : BitVec 32 := Scalar.addi arg1 c1_i32_7
  let c8_i32 : BitVec 32 := 8#32
  let v17 : BitVec 1 := Scalar.cmpi .slt v16 c8_i32
  let v18 : BitVec 32 := Scalar.extui v17
  let c0_i32_8 : BitVec 32 := 0#32
  let v19 : BitVec 1 := Scalar.cmpi .ne v18 c0_i32_8
  v19

def k0_mult25 (i : grid0.Coords) : BitVec 32 :=
  let c2_i32 : BitVec 32 := 2#32
  let arg1 : BitVec 32 := BitVec.ofNat 32 (i 1).val
  let v30 : BitVec 32 := Scalar.muli c2_i32 arg1
  let c512_i32 : BitVec 32 := 512#32
  let v31 : BitVec 32 := Scalar.muli v30 c512_i32
  v31
def k0_off13 (i : grid0.Coords) : Fin 2 → Nat :=
  let c2_i32 : BitVec 32 := 2#32
  let arg1 : BitVec 32 := BitVec.ofNat 32 (i 1).val
  let v30 : BitVec 32 := Scalar.muli c2_i32 arg1
  let c512_i32 : BitVec 32 := 512#32
  let v31 : BitVec 32 := Scalar.muli v30 c512_i32
  let v32 : BitVec 32 := v31
  let v33 : Index := Scalar.indexCast v32
  let c0_20 : Index := 0#32
  ![v33.toNat, 0]
def k0_mult26 (i : grid0.Coords) : BitVec 32 :=
  let arg1 : BitVec 32 := BitVec.ofNat 32 (i 1).val
  let c1024_i32 : BitVec 32 := 1024#32
  let v195 : BitVec 32 := Scalar.muli arg1 c1024_i32
  let c512_i32_84 : BitVec 32 := 512#32
  let v196 : BitVec 32 := Scalar.addi v195 c512_i32_84
  v196
def k0_off14 (i : grid0.Coords) : Fin 2 → Nat :=
  let arg1 : BitVec 32 := BitVec.ofNat 32 (i 1).val
  let c1024_i32 : BitVec 32 := 1024#32
  let v195 : BitVec 32 := Scalar.muli arg1 c1024_i32
  let c512_i32_84 : BitVec 32 := 512#32
  let v196 : BitVec 32 := Scalar.addi v195 c512_i32_84
  let v197 : BitVec 32 := v196
  let v198 : Index := Scalar.indexCast v197
  let c0_85 : Index := 0#32
  ![v198.toNat, 0]
def k0_mult27 (i : grid0.Coords) : BitVec 32 :=
  let c2_i32_82 : BitVec 32 := 2#32
  let arg1 : BitVec 32 := BitVec.ofNat 32 (i 1).val
  let v193 : BitVec 32 := Scalar.muli c2_i32_82 arg1
  let c1_i32_83 : BitVec 32 := 1#32
  let v194 : BitVec 32 := Scalar.addi v193 c1_i32_83
  let c512_i32_86 : BitVec 32 := 512#32
  let v200 : BitVec 32 := Scalar.muli v194 c512_i32_86
  v200
def k0_off15 (i : grid0.Coords) : Fin 2 → Nat :=
  let c2_i32_82 : BitVec 32 := 2#32
  let arg1 : BitVec 32 := BitVec.ofNat 32 (i 1).val
  let v193 : BitVec 32 := Scalar.muli c2_i32_82 arg1
  let c1_i32_83 : BitVec 32 := 1#32
  let v194 : BitVec 32 := Scalar.addi v193 c1_i32_83
  let c512_i32_86 : BitVec 32 := 512#32
  let v200 : BitVec 32 := Scalar.muli v194 c512_i32_86
  let v201 : BitVec 32 := v200
  let v202 : Index := Scalar.indexCast v201
  let c0_87 : Index := 0#32
  ![v202.toNat, 0]
def k0_mult28 (i : grid0.Coords) : BitVec 32 :=
  let arg1 : BitVec 32 := BitVec.ofNat 32 (i 1).val
  let c1024_i32_91 : BitVec 32 := 1024#32
  let v208 : BitVec 32 := Scalar.muli arg1 c1024_i32_91
  let c512_i32_92 : BitVec 32 := 512#32
  let v209 : BitVec 32 := Scalar.addi v208 c512_i32_92
  v209
def k0_off16 (i : grid0.Coords) : Fin 2 → Nat :=
  let arg1 : BitVec 32 := BitVec.ofNat 32 (i 1).val
  let c1024_i32_91 : BitVec 32 := 1024#32
  let v208 : BitVec 32 := Scalar.muli arg1 c1024_i32_91
  let c512_i32_92 : BitVec 32 := 512#32
  let v209 : BitVec 32 := Scalar.addi v208 c512_i32_92
  let v210 : BitVec 32 := v209
  let v211 : Index := Scalar.indexCast v210
  let c128 : Index := 128#32
  ![v211.toNat, 128]
def k0_mult29 (i : grid0.Coords) : BitVec 32 :=
  let c2_i32_82 : BitVec 32 := 2#32
  let arg1 : BitVec 32 := BitVec.ofNat 32 (i 1).val
  let v193 : BitVec 32 := Scalar.muli c2_i32_82 arg1
  let c1_i32_83 : BitVec 32 := 1#32
  let v194 : BitVec 32 := Scalar.addi v193 c1_i32_83
  let c512_i32_93 : BitVec 32 := 512#32
  let v213 : BitVec 32 := Scalar.muli v194 c512_i32_93
  v213
def k0_off17 (i : grid0.Coords) : Fin 2 → Nat :=
  let c2_i32_82 : BitVec 32 := 2#32
  let arg1 : BitVec 32 := BitVec.ofNat 32 (i 1).val
  let v193 : BitVec 32 := Scalar.muli c2_i32_82 arg1
  let c1_i32_83 : BitVec 32 := 1#32
  let v194 : BitVec 32 := Scalar.addi v193 c1_i32_83
  let c512_i32_93 : BitVec 32 := 512#32
  let v213 : BitVec 32 := Scalar.muli v194 c512_i32_93
  let v214 : BitVec 32 := v213
  let v215 : Index := Scalar.indexCast v214
  let c128_94 : Index := 128#32
  ![v215.toNat, 128]
def k0_mult30 (i : grid0.Coords) : BitVec 32 :=
  let c2_i32_99 : BitVec 32 := 2#32
  let arg1 : BitVec 32 := BitVec.ofNat 32 (i 1).val
  let v221 : BitVec 32 := Scalar.muli c2_i32_99 arg1
  let c1_i32_100 : BitVec 32 := 1#32
  let v222 : BitVec 32 := Scalar.addi v221 c1_i32_100
  let c512_i32_101 : BitVec 32 := 512#32
  let v223 : BitVec 32 := Scalar.muli v222 c512_i32_101
  v223
def k0_off18 (i : grid0.Coords) : Fin 2 → Nat :=
  let c2_i32_99 : BitVec 32 := 2#32
  let arg1 : BitVec 32 := BitVec.ofNat 32 (i 1).val
  let v221 : BitVec 32 := Scalar.muli c2_i32_99 arg1
  let c1_i32_100 : BitVec 32 := 1#32
  let v222 : BitVec 32 := Scalar.addi v221 c1_i32_100
  let c512_i32_101 : BitVec 32 := 512#32
  let v223 : BitVec 32 := Scalar.muli v222 c512_i32_101
  let v224 : BitVec 32 := v223
  let v225 : Index := Scalar.indexCast v224
  let c0_102 : Index := 0#32
  ![v225.toNat, 0]
def k0_off19 (i : grid0.Coords) : Fin 2 → Nat :=
  let arg0 : BitVec 32 := BitVec.ofNat 32 (i 0).val
  let v435 : Index := Scalar.indexCast arg0
  let c0_195 : Index := 0#32
  ![v435.toNat, 0]
def k0_mult31 (i : grid0.Coords) : BitVec 32 :=
  let arg1 : BitVec 32 := BitVec.ofNat 32 (i 1).val
  let c1_i32_206 : BitVec 32 := 1#32
  let v451 : BitVec 32 := Scalar.addi arg1 c1_i32_206
  let c1024_i32_207 : BitVec 32 := 1024#32
  let v452 : BitVec 32 := Scalar.muli v451 c1024_i32_207
  let c0_i32_208 : BitVec 32 := 0#32
  let v453 : BitVec 32 := Scalar.addi v452 c0_i32_208
  v453
def k0_off20 (i : grid0.Coords) : Fin 2 → Nat :=
  let arg1 : BitVec 32 := BitVec.ofNat 32 (i 1).val
  let c1_i32_206 : BitVec 32 := 1#32
  let v451 : BitVec 32 := Scalar.addi arg1 c1_i32_206
  let c1024_i32_207 : BitVec 32 := 1024#32
  let v452 : BitVec 32 := Scalar.muli v451 c1024_i32_207
  let c0_i32_208 : BitVec 32 := 0#32
  let v453 : BitVec 32 := Scalar.addi v452 c0_i32_208
  let v454 : BitVec 32 := v453
  let v455 : Index := Scalar.indexCast v454
  let c0_209 : Index := 0#32
  ![v455.toNat, 0]
def k0_mult32 : BitVec 32 :=
  let c0_i32_210 : BitVec 32 := 0#32
  c0_i32_210
def k0_mult33 (i : grid0.Coords) : BitVec 32 :=
  let arg1 : BitVec 32 := BitVec.ofNat 32 (i 1).val
  let c1_i32_206 : BitVec 32 := 1#32
  let v451 : BitVec 32 := Scalar.addi arg1 c1_i32_206
  let c1024_i32_216 : BitVec 32 := 1024#32
  let v464 : BitVec 32 := Scalar.muli v451 c1024_i32_216
  let c0_i32_217 : BitVec 32 := 0#32
  let v465 : BitVec 32 := Scalar.addi v464 c0_i32_217
  v465
def k0_off21 (i : grid0.Coords) : Fin 2 → Nat :=
  let arg1 : BitVec 32 := BitVec.ofNat 32 (i 1).val
  let c1_i32_206 : BitVec 32 := 1#32
  let v451 : BitVec 32 := Scalar.addi arg1 c1_i32_206
  let c1024_i32_216 : BitVec 32 := 1024#32
  let v464 : BitVec 32 := Scalar.muli v451 c1024_i32_216
  let c0_i32_217 : BitVec 32 := 0#32
  let v465 : BitVec 32 := Scalar.addi v464 c0_i32_217
  let v466 : BitVec 32 := v465
  let v467 : Index := Scalar.indexCast v466
  let c128_218 : Index := 128#32
  ![v467.toNat, 128]
def k0_mult34 : BitVec 32 :=
  let c0_i32_219 : BitVec 32 := 0#32
  c0_i32_219
def k0_cond4 (i : grid0.Coords) : BitVec 1 :=
  let arg1 : BitVec 32 := BitVec.ofNat 32 (i 1).val
  let c1_i32_9 : BitVec 32 := 1#32
  let v20 : BitVec 32 := Scalar.addi arg1 c1_i32_9
  let c8_i32_10 : BitVec 32 := 8#32
  let v21 : BitVec 1 := Scalar.cmpi .eq v20 c8_i32_10
  let v22 : BitVec 32 := Scalar.extui v21
  let c0_i32_11 : BitVec 32 := 0#32
  let v23 : BitVec 1 := Scalar.cmpi .ne v22 c0_i32_11
  v23

def k0_mult35 (i : grid0.Coords) : BitVec 32 :=
  let c2_i32 : BitVec 32 := 2#32
  let arg1 : BitVec 32 := BitVec.ofNat 32 (i 1).val
  let v30 : BitVec 32 := Scalar.muli c2_i32 arg1
  let c512_i32 : BitVec 32 := 512#32
  let v31 : BitVec 32 := Scalar.muli v30 c512_i32
  v31
def k0_off22 (i : grid0.Coords) : Fin 2 → Nat :=
  let c2_i32 : BitVec 32 := 2#32
  let arg1 : BitVec 32 := BitVec.ofNat 32 (i 1).val
  let v30 : BitVec 32 := Scalar.muli c2_i32 arg1
  let c512_i32 : BitVec 32 := 512#32
  let v31 : BitVec 32 := Scalar.muli v30 c512_i32
  let v32 : BitVec 32 := v31
  let v33 : Index := Scalar.indexCast v32
  let c0_20 : Index := 0#32
  ![v33.toNat, 0]
def k0_mult36 (i : grid0.Coords) : BitVec 32 :=
  let arg1 : BitVec 32 := BitVec.ofNat 32 (i 1).val
  let c1024_i32 : BitVec 32 := 1024#32
  let v195 : BitVec 32 := Scalar.muli arg1 c1024_i32
  let c512_i32_84 : BitVec 32 := 512#32
  let v196 : BitVec 32 := Scalar.addi v195 c512_i32_84
  v196
def k0_off23 (i : grid0.Coords) : Fin 2 → Nat :=
  let arg1 : BitVec 32 := BitVec.ofNat 32 (i 1).val
  let c1024_i32 : BitVec 32 := 1024#32
  let v195 : BitVec 32 := Scalar.muli arg1 c1024_i32
  let c512_i32_84 : BitVec 32 := 512#32
  let v196 : BitVec 32 := Scalar.addi v195 c512_i32_84
  let v197 : BitVec 32 := v196
  let v198 : Index := Scalar.indexCast v197
  let c0_85 : Index := 0#32
  ![v198.toNat, 0]
def k0_mult37 (i : grid0.Coords) : BitVec 32 :=
  let c2_i32_82 : BitVec 32 := 2#32
  let arg1 : BitVec 32 := BitVec.ofNat 32 (i 1).val
  let v193 : BitVec 32 := Scalar.muli c2_i32_82 arg1
  let c1_i32_83 : BitVec 32 := 1#32
  let v194 : BitVec 32 := Scalar.addi v193 c1_i32_83
  let c512_i32_86 : BitVec 32 := 512#32
  let v200 : BitVec 32 := Scalar.muli v194 c512_i32_86
  v200
def k0_off24 (i : grid0.Coords) : Fin 2 → Nat :=
  let c2_i32_82 : BitVec 32 := 2#32
  let arg1 : BitVec 32 := BitVec.ofNat 32 (i 1).val
  let v193 : BitVec 32 := Scalar.muli c2_i32_82 arg1
  let c1_i32_83 : BitVec 32 := 1#32
  let v194 : BitVec 32 := Scalar.addi v193 c1_i32_83
  let c512_i32_86 : BitVec 32 := 512#32
  let v200 : BitVec 32 := Scalar.muli v194 c512_i32_86
  let v201 : BitVec 32 := v200
  let v202 : Index := Scalar.indexCast v201
  let c0_87 : Index := 0#32
  ![v202.toNat, 0]
def k0_mult38 (i : grid0.Coords) : BitVec 32 :=
  let arg1 : BitVec 32 := BitVec.ofNat 32 (i 1).val
  let c1024_i32_91 : BitVec 32 := 1024#32
  let v208 : BitVec 32 := Scalar.muli arg1 c1024_i32_91
  let c512_i32_92 : BitVec 32 := 512#32
  let v209 : BitVec 32 := Scalar.addi v208 c512_i32_92
  v209
def k0_off25 (i : grid0.Coords) : Fin 2 → Nat :=
  let arg1 : BitVec 32 := BitVec.ofNat 32 (i 1).val
  let c1024_i32_91 : BitVec 32 := 1024#32
  let v208 : BitVec 32 := Scalar.muli arg1 c1024_i32_91
  let c512_i32_92 : BitVec 32 := 512#32
  let v209 : BitVec 32 := Scalar.addi v208 c512_i32_92
  let v210 : BitVec 32 := v209
  let v211 : Index := Scalar.indexCast v210
  let c128 : Index := 128#32
  ![v211.toNat, 128]
def k0_mult39 (i : grid0.Coords) : BitVec 32 :=
  let c2_i32_82 : BitVec 32 := 2#32
  let arg1 : BitVec 32 := BitVec.ofNat 32 (i 1).val
  let v193 : BitVec 32 := Scalar.muli c2_i32_82 arg1
  let c1_i32_83 : BitVec 32 := 1#32
  let v194 : BitVec 32 := Scalar.addi v193 c1_i32_83
  let c512_i32_93 : BitVec 32 := 512#32
  let v213 : BitVec 32 := Scalar.muli v194 c512_i32_93
  v213
def k0_off26 (i : grid0.Coords) : Fin 2 → Nat :=
  let c2_i32_82 : BitVec 32 := 2#32
  let arg1 : BitVec 32 := BitVec.ofNat 32 (i 1).val
  let v193 : BitVec 32 := Scalar.muli c2_i32_82 arg1
  let c1_i32_83 : BitVec 32 := 1#32
  let v194 : BitVec 32 := Scalar.addi v193 c1_i32_83
  let c512_i32_93 : BitVec 32 := 512#32
  let v213 : BitVec 32 := Scalar.muli v194 c512_i32_93
  let v214 : BitVec 32 := v213
  let v215 : Index := Scalar.indexCast v214
  let c128_94 : Index := 128#32
  ![v215.toNat, 128]
def k0_mult40 (i : grid0.Coords) : BitVec 32 :=
  let c2_i32_99 : BitVec 32 := 2#32
  let arg1 : BitVec 32 := BitVec.ofNat 32 (i 1).val
  let v221 : BitVec 32 := Scalar.muli c2_i32_99 arg1
  let c1_i32_100 : BitVec 32 := 1#32
  let v222 : BitVec 32 := Scalar.addi v221 c1_i32_100
  let c512_i32_101 : BitVec 32 := 512#32
  let v223 : BitVec 32 := Scalar.muli v222 c512_i32_101
  v223
def k0_off27 (i : grid0.Coords) : Fin 2 → Nat :=
  let c2_i32_99 : BitVec 32 := 2#32
  let arg1 : BitVec 32 := BitVec.ofNat 32 (i 1).val
  let v221 : BitVec 32 := Scalar.muli c2_i32_99 arg1
  let c1_i32_100 : BitVec 32 := 1#32
  let v222 : BitVec 32 := Scalar.addi v221 c1_i32_100
  let c512_i32_101 : BitVec 32 := 512#32
  let v223 : BitVec 32 := Scalar.muli v222 c512_i32_101
  let v224 : BitVec 32 := v223
  let v225 : Index := Scalar.indexCast v224
  let c0_102 : Index := 0#32
  ![v225.toNat, 0]
def k0_off28 (i : grid0.Coords) : Fin 2 → Nat :=
  let arg0 : BitVec 32 := BitVec.ofNat 32 (i 0).val
  let v435 : Index := Scalar.indexCast arg0
  let c0_195 : Index := 0#32
  ![v435.toNat, 0]
@[reducible] def k0_t3_loop (i : grid0.Coords) : Scf.Loop 32 :=
  let c0_i32_22 : BitVec 32 := 0#32
  let c2_i32 : BitVec 32 := 2#32
  let arg1 : BitVec 32 := BitVec.ofNat 32 (i 1).val
  let v26 : BitVec 32 := Scalar.muli c2_i32 arg1
  let v27 : BitVec 32 := Scalar.subi v26 c0_i32_22
  let c1_i32 : BitVec 32 := 1#32
  let v29 : BitVec 32 := Scalar.divsi v27 c1_i32
  let v30 : BitVec 32 := Scalar.muli v29 c1_i32
  let v31 : BitVec 32 := Scalar.addi c0_i32_22 v30
  let c1_i32_23 : BitVec 32 := 1#32
  ⟨c0_i32_22, v31, c1_i32_23⟩
def k0_mult41 (i : grid0.Coords) (k0_t3 : Fin (k0_t3_loop i).trips) : BitVec 32 :=
  let c0_i32_22 : BitVec 32 := 0#32
  let c1_i32_23 : BitVec 32 := 1#32
  let arg21 : BitVec 32 := Scf.iv c0_i32_22 c1_i32_23 k0_t3
  let c512_i32_224 : BitVec 32 := 512#32
  let v513 : BitVec 32 := Scalar.muli arg21 c512_i32_224
  v513
def k0_off29 (i : grid0.Coords) (k0_t3 : Fin (k0_t3_loop i).trips) : Fin 2 → Nat :=
  let c0_i32_22 : BitVec 32 := 0#32
  let c1_i32_23 : BitVec 32 := 1#32
  let arg21 : BitVec 32 := Scf.iv c0_i32_22 c1_i32_23 k0_t3
  let c512_i32_224 : BitVec 32 := 512#32
  let v513 : BitVec 32 := Scalar.muli arg21 c512_i32_224
  let v514 : BitVec 32 := v513
  let v515 : Index := Scalar.indexCast v514
  let c0_225 : Index := 0#32
  ![v515.toNat, 0]
def k0_mult42 (i : grid0.Coords) : BitVec 32 :=
  let arg1 : BitVec 32 := BitVec.ofNat 32 (i 1).val
  let c1024_i32_226 : BitVec 32 := 1024#32
  let v517 : BitVec 32 := Scalar.muli arg1 c1024_i32_226
  let c0_i32_227 : BitVec 32 := 0#32
  let v518 : BitVec 32 := Scalar.addi v517 c0_i32_227
  v518
def k0_off30 (i : grid0.Coords) : Fin 2 → Nat :=
  let arg1 : BitVec 32 := BitVec.ofNat 32 (i 1).val
  let c1024_i32_226 : BitVec 32 := 1024#32
  let v517 : BitVec 32 := Scalar.muli arg1 c1024_i32_226
  let c0_i32_227 : BitVec 32 := 0#32
  let v518 : BitVec 32 := Scalar.addi v517 c0_i32_227
  let v519 : BitVec 32 := v518
  let v520 : Index := Scalar.indexCast v519
  let c0_228 : Index := 0#32
  ![v520.toNat, 0]
def k0_mult43 (i : grid0.Coords) (k0_t3 : Fin (k0_t3_loop i).trips) : BitVec 32 :=
  let c0_i32_22 : BitVec 32 := 0#32
  let c1_i32_23 : BitVec 32 := 1#32
  let arg21 : BitVec 32 := Scf.iv c0_i32_22 c1_i32_23 k0_t3
  let c512_i32_229 : BitVec 32 := 512#32
  let v522 : BitVec 32 := Scalar.muli arg21 c512_i32_229
  v522
def k0_off31 (i : grid0.Coords) (k0_t3 : Fin (k0_t3_loop i).trips) : Fin 2 → Nat :=
  let c0_i32_22 : BitVec 32 := 0#32
  let c1_i32_23 : BitVec 32 := 1#32
  let arg21 : BitVec 32 := Scf.iv c0_i32_22 c1_i32_23 k0_t3
  let c512_i32_229 : BitVec 32 := 512#32
  let v522 : BitVec 32 := Scalar.muli arg21 c512_i32_229
  let v523 : BitVec 32 := v522
  let v524 : Index := Scalar.indexCast v523
  let c0_230 : Index := 0#32
  ![v524.toNat, 0]
def k0_mult44 (i : grid0.Coords) : BitVec 32 :=
  let arg1 : BitVec 32 := BitVec.ofNat 32 (i 1).val
  let c1024_i32_252 : BitVec 32 := 1024#32
  let v567 : BitVec 32 := Scalar.muli arg1 c1024_i32_252
  let c0_i32_253 : BitVec 32 := 0#32
  let v568 : BitVec 32 := Scalar.addi v567 c0_i32_253
  v568
def k0_off32 (i : grid0.Coords) : Fin 2 → Nat :=
  let arg1 : BitVec 32 := BitVec.ofNat 32 (i 1).val
  let c1024_i32_252 : BitVec 32 := 1024#32
  let v567 : BitVec 32 := Scalar.muli arg1 c1024_i32_252
  let c0_i32_253 : BitVec 32 := 0#32
  let v568 : BitVec 32 := Scalar.addi v567 c0_i32_253
  let v569 : BitVec 32 := v568
  let v570 : Index := Scalar.indexCast v569
  let c128_254 : Index := 128#32
  ![v570.toNat, 128]
def k0_mult45 (i : grid0.Coords) (k0_t3 : Fin (k0_t3_loop i).trips) : BitVec 32 :=
  let c0_i32_22 : BitVec 32 := 0#32
  let c1_i32_23 : BitVec 32 := 1#32
  let arg21 : BitVec 32 := Scf.iv c0_i32_22 c1_i32_23 k0_t3
  let c512_i32_255 : BitVec 32 := 512#32
  let v572 : BitVec 32 := Scalar.muli arg21 c512_i32_255
  v572
def k0_off33 (i : grid0.Coords) (k0_t3 : Fin (k0_t3_loop i).trips) : Fin 2 → Nat :=
  let c0_i32_22 : BitVec 32 := 0#32
  let c1_i32_23 : BitVec 32 := 1#32
  let arg21 : BitVec 32 := Scf.iv c0_i32_22 c1_i32_23 k0_t3
  let c512_i32_255 : BitVec 32 := 512#32
  let v572 : BitVec 32 := Scalar.muli arg21 c512_i32_255
  let v573 : BitVec 32 := v572
  let v574 : Index := Scalar.indexCast v573
  let c128_256 : Index := 128#32
  ![v574.toNat, 128]
@[reducible] def k0_t4_loop (i : grid0.Coords) : Scf.Loop 32 :=
  let c0_i32_22 : BitVec 32 := 0#32
  let c2_i32 : BitVec 32 := 2#32
  let arg1 : BitVec 32 := BitVec.ofNat 32 (i 1).val
  let v26 : BitVec 32 := Scalar.muli c2_i32 arg1
  let v27 : BitVec 32 := Scalar.subi v26 c0_i32_22
  let c1_i32 : BitVec 32 := 1#32
  let v29 : BitVec 32 := Scalar.divsi v27 c1_i32
  let v30 : BitVec 32 := Scalar.muli v29 c1_i32
  let v31 : BitVec 32 := Scalar.addi c0_i32_22 v30
  let v28 : BitVec 32 := Scalar.addi c0_i32_22 v27
  let c1_i32_24 : BitVec 32 := 1#32
  ⟨v31, v28, c1_i32_24⟩
def k0_mult46 (i : grid0.Coords) (k0_t4 : Fin (k0_t4_loop i).trips) : BitVec 32 :=
  let c0_i32_22 : BitVec 32 := 0#32
  let c2_i32 : BitVec 32 := 2#32
  let arg1 : BitVec 32 := BitVec.ofNat 32 (i 1).val
  let v26 : BitVec 32 := Scalar.muli c2_i32 arg1
  let v27 : BitVec 32 := Scalar.subi v26 c0_i32_22
  let c1_i32 : BitVec 32 := 1#32
  let v29 : BitVec 32 := Scalar.divsi v27 c1_i32
  let v30 : BitVec 32 := Scalar.muli v29 c1_i32
  let v31 : BitVec 32 := Scalar.addi c0_i32_22 v30
  let c1_i32_24 : BitVec 32 := 1#32
  let arg21 : BitVec 32 := Scf.iv v31 c1_i32_24 k0_t4
  let c512_i32_224 : BitVec 32 := 512#32
  let v513 : BitVec 32 := Scalar.muli arg21 c512_i32_224
  v513
def k0_off34 (i : grid0.Coords) (k0_t4 : Fin (k0_t4_loop i).trips) : Fin 2 → Nat :=
  let c0_i32_22 : BitVec 32 := 0#32
  let c2_i32 : BitVec 32 := 2#32
  let arg1 : BitVec 32 := BitVec.ofNat 32 (i 1).val
  let v26 : BitVec 32 := Scalar.muli c2_i32 arg1
  let v27 : BitVec 32 := Scalar.subi v26 c0_i32_22
  let c1_i32 : BitVec 32 := 1#32
  let v29 : BitVec 32 := Scalar.divsi v27 c1_i32
  let v30 : BitVec 32 := Scalar.muli v29 c1_i32
  let v31 : BitVec 32 := Scalar.addi c0_i32_22 v30
  let c1_i32_24 : BitVec 32 := 1#32
  let arg21 : BitVec 32 := Scf.iv v31 c1_i32_24 k0_t4
  let c512_i32_224 : BitVec 32 := 512#32
  let v513 : BitVec 32 := Scalar.muli arg21 c512_i32_224
  let v514 : BitVec 32 := v513
  let v515 : Index := Scalar.indexCast v514
  let c0_225 : Index := 0#32
  ![v515.toNat, 0]
def k0_mult47 (i : grid0.Coords) : BitVec 32 :=
  let arg1 : BitVec 32 := BitVec.ofNat 32 (i 1).val
  let c1024_i32_226 : BitVec 32 := 1024#32
  let v517 : BitVec 32 := Scalar.muli arg1 c1024_i32_226
  let c0_i32_227 : BitVec 32 := 0#32
  let v518 : BitVec 32 := Scalar.addi v517 c0_i32_227
  v518
def k0_off35 (i : grid0.Coords) : Fin 2 → Nat :=
  let arg1 : BitVec 32 := BitVec.ofNat 32 (i 1).val
  let c1024_i32_226 : BitVec 32 := 1024#32
  let v517 : BitVec 32 := Scalar.muli arg1 c1024_i32_226
  let c0_i32_227 : BitVec 32 := 0#32
  let v518 : BitVec 32 := Scalar.addi v517 c0_i32_227
  let v519 : BitVec 32 := v518
  let v520 : Index := Scalar.indexCast v519
  let c0_228 : Index := 0#32
  ![v520.toNat, 0]
def k0_mult48 (i : grid0.Coords) (k0_t4 : Fin (k0_t4_loop i).trips) : BitVec 32 :=
  let c0_i32_22 : BitVec 32 := 0#32
  let c2_i32 : BitVec 32 := 2#32
  let arg1 : BitVec 32 := BitVec.ofNat 32 (i 1).val
  let v26 : BitVec 32 := Scalar.muli c2_i32 arg1
  let v27 : BitVec 32 := Scalar.subi v26 c0_i32_22
  let c1_i32 : BitVec 32 := 1#32
  let v29 : BitVec 32 := Scalar.divsi v27 c1_i32
  let v30 : BitVec 32 := Scalar.muli v29 c1_i32
  let v31 : BitVec 32 := Scalar.addi c0_i32_22 v30
  let c1_i32_24 : BitVec 32 := 1#32
  let arg21 : BitVec 32 := Scf.iv v31 c1_i32_24 k0_t4
  let c512_i32_229 : BitVec 32 := 512#32
  let v522 : BitVec 32 := Scalar.muli arg21 c512_i32_229
  v522
def k0_off36 (i : grid0.Coords) (k0_t4 : Fin (k0_t4_loop i).trips) : Fin 2 → Nat :=
  let c0_i32_22 : BitVec 32 := 0#32
  let c2_i32 : BitVec 32 := 2#32
  let arg1 : BitVec 32 := BitVec.ofNat 32 (i 1).val
  let v26 : BitVec 32 := Scalar.muli c2_i32 arg1
  let v27 : BitVec 32 := Scalar.subi v26 c0_i32_22
  let c1_i32 : BitVec 32 := 1#32
  let v29 : BitVec 32 := Scalar.divsi v27 c1_i32
  let v30 : BitVec 32 := Scalar.muli v29 c1_i32
  let v31 : BitVec 32 := Scalar.addi c0_i32_22 v30
  let c1_i32_24 : BitVec 32 := 1#32
  let arg21 : BitVec 32 := Scf.iv v31 c1_i32_24 k0_t4
  let c512_i32_229 : BitVec 32 := 512#32
  let v522 : BitVec 32 := Scalar.muli arg21 c512_i32_229
  let v523 : BitVec 32 := v522
  let v524 : Index := Scalar.indexCast v523
  let c0_230 : Index := 0#32
  ![v524.toNat, 0]
def k0_mult49 (i : grid0.Coords) : BitVec 32 :=
  let arg1 : BitVec 32 := BitVec.ofNat 32 (i 1).val
  let c1024_i32_252 : BitVec 32 := 1024#32
  let v567 : BitVec 32 := Scalar.muli arg1 c1024_i32_252
  let c0_i32_253 : BitVec 32 := 0#32
  let v568 : BitVec 32 := Scalar.addi v567 c0_i32_253
  v568
def k0_off37 (i : grid0.Coords) : Fin 2 → Nat :=
  let arg1 : BitVec 32 := BitVec.ofNat 32 (i 1).val
  let c1024_i32_252 : BitVec 32 := 1024#32
  let v567 : BitVec 32 := Scalar.muli arg1 c1024_i32_252
  let c0_i32_253 : BitVec 32 := 0#32
  let v568 : BitVec 32 := Scalar.addi v567 c0_i32_253
  let v569 : BitVec 32 := v568
  let v570 : Index := Scalar.indexCast v569
  let c128_254 : Index := 128#32
  ![v570.toNat, 128]
def k0_mult50 (i : grid0.Coords) (k0_t4 : Fin (k0_t4_loop i).trips) : BitVec 32 :=
  let c0_i32_22 : BitVec 32 := 0#32
  let c2_i32 : BitVec 32 := 2#32
  let arg1 : BitVec 32 := BitVec.ofNat 32 (i 1).val
  let v26 : BitVec 32 := Scalar.muli c2_i32 arg1
  let v27 : BitVec 32 := Scalar.subi v26 c0_i32_22
  let c1_i32 : BitVec 32 := 1#32
  let v29 : BitVec 32 := Scalar.divsi v27 c1_i32
  let v30 : BitVec 32 := Scalar.muli v29 c1_i32
  let v31 : BitVec 32 := Scalar.addi c0_i32_22 v30
  let c1_i32_24 : BitVec 32 := 1#32
  let arg21 : BitVec 32 := Scf.iv v31 c1_i32_24 k0_t4
  let c512_i32_255 : BitVec 32 := 512#32
  let v572 : BitVec 32 := Scalar.muli arg21 c512_i32_255
  v572
def k0_off38 (i : grid0.Coords) (k0_t4 : Fin (k0_t4_loop i).trips) : Fin 2 → Nat :=
  let c0_i32_22 : BitVec 32 := 0#32
  let c2_i32 : BitVec 32 := 2#32
  let arg1 : BitVec 32 := BitVec.ofNat 32 (i 1).val
  let v26 : BitVec 32 := Scalar.muli c2_i32 arg1
  let v27 : BitVec 32 := Scalar.subi v26 c0_i32_22
  let c1_i32 : BitVec 32 := 1#32
  let v29 : BitVec 32 := Scalar.divsi v27 c1_i32
  let v30 : BitVec 32 := Scalar.muli v29 c1_i32
  let v31 : BitVec 32 := Scalar.addi c0_i32_22 v30
  let c1_i32_24 : BitVec 32 := 1#32
  let arg21 : BitVec 32 := Scf.iv v31 c1_i32_24 k0_t4
  let c512_i32_255 : BitVec 32 := 512#32
  let v572 : BitVec 32 := Scalar.muli arg21 c512_i32_255
  let v573 : BitVec 32 := v572
  let v574 : Index := Scalar.indexCast v573
  let c128_256 : Index := 128#32
  ![v574.toNat, 128]
def k0_mult51 (i : grid0.Coords) : BitVec 32 :=
  let c2_i32_25 : BitVec 32 := 2#32
  let arg1 : BitVec 32 := BitVec.ofNat 32 (i 1).val
  let v32 : BitVec 32 := Scalar.muli c2_i32_25 arg1
  let c512_i32 : BitVec 32 := 512#32
  let v33 : BitVec 32 := Scalar.muli v32 c512_i32
  v33
def k0_off39 (i : grid0.Coords) : Fin 2 → Nat :=
  let c2_i32_25 : BitVec 32 := 2#32
  let arg1 : BitVec 32 := BitVec.ofNat 32 (i 1).val
  let v32 : BitVec 32 := Scalar.muli c2_i32_25 arg1
  let c512_i32 : BitVec 32 := 512#32
  let v33 : BitVec 32 := Scalar.muli v32 c512_i32
  let v34 : BitVec 32 := v33
  let v35 : Index := Scalar.indexCast v34
  let c0_26 : Index := 0#32
  ![v35.toNat, 0]
def k0_mult52 (i : grid0.Coords) : BitVec 32 :=
  let arg1 : BitVec 32 := BitVec.ofNat 32 (i 1).val
  let c1024_i32 : BitVec 32 := 1024#32
  let v37 : BitVec 32 := Scalar.muli arg1 c1024_i32
  let c0_i32_27 : BitVec 32 := 0#32
  let v38 : BitVec 32 := Scalar.addi v37 c0_i32_27
  v38
def k0_off40 (i : grid0.Coords) : Fin 2 → Nat :=
  let arg1 : BitVec 32 := BitVec.ofNat 32 (i 1).val
  let c1024_i32 : BitVec 32 := 1024#32
  let v37 : BitVec 32 := Scalar.muli arg1 c1024_i32
  let c0_i32_27 : BitVec 32 := 0#32
  let v38 : BitVec 32 := Scalar.addi v37 c0_i32_27
  let v39 : BitVec 32 := v38
  let v40 : Index := Scalar.indexCast v39
  let c0_28 : Index := 0#32
  ![v40.toNat, 0]
def k0_mult53 (i : grid0.Coords) : BitVec 32 :=
  let c2_i32_25 : BitVec 32 := 2#32
  let arg1 : BitVec 32 := BitVec.ofNat 32 (i 1).val
  let v32 : BitVec 32 := Scalar.muli c2_i32_25 arg1
  let c512_i32_29 : BitVec 32 := 512#32
  let v42 : BitVec 32 := Scalar.muli v32 c512_i32_29
  v42
def k0_off41 (i : grid0.Coords) : Fin 2 → Nat :=
  let c2_i32_25 : BitVec 32 := 2#32
  let arg1 : BitVec 32 := BitVec.ofNat 32 (i 1).val
  let v32 : BitVec 32 := Scalar.muli c2_i32_25 arg1
  let c512_i32_29 : BitVec 32 := 512#32
  let v42 : BitVec 32 := Scalar.muli v32 c512_i32_29
  let v43 : BitVec 32 := v42
  let v44 : Index := Scalar.indexCast v43
  let c0_30 : Index := 0#32
  ![v44.toNat, 0]
def k0_mult54 (i : grid0.Coords) : BitVec 32 :=
  let arg1 : BitVec 32 := BitVec.ofNat 32 (i 1).val
  let c1024_i32_66 : BitVec 32 := 1024#32
  let v140 : BitVec 32 := Scalar.muli arg1 c1024_i32_66
  let c0_i32_67 : BitVec 32 := 0#32
  let v141 : BitVec 32 := Scalar.addi v140 c0_i32_67
  v141
def k0_off42 (i : grid0.Coords) : Fin 2 → Nat :=
  let arg1 : BitVec 32 := BitVec.ofNat 32 (i 1).val
  let c1024_i32_66 : BitVec 32 := 1024#32
  let v140 : BitVec 32 := Scalar.muli arg1 c1024_i32_66
  let c0_i32_67 : BitVec 32 := 0#32
  let v141 : BitVec 32 := Scalar.addi v140 c0_i32_67
  let v142 : BitVec 32 := v141
  let v143 : Index := Scalar.indexCast v142
  let c128 : Index := 128#32
  ![v143.toNat, 128]
def k0_mult55 (i : grid0.Coords) : BitVec 32 :=
  let c2_i32_25 : BitVec 32 := 2#32
  let arg1 : BitVec 32 := BitVec.ofNat 32 (i 1).val
  let v32 : BitVec 32 := Scalar.muli c2_i32_25 arg1
  let c512_i32_68 : BitVec 32 := 512#32
  let v145 : BitVec 32 := Scalar.muli v32 c512_i32_68
  v145
def k0_off43 (i : grid0.Coords) : Fin 2 → Nat :=
  let c2_i32_25 : BitVec 32 := 2#32
  let arg1 : BitVec 32 := BitVec.ofNat 32 (i 1).val
  let v32 : BitVec 32 := Scalar.muli c2_i32_25 arg1
  let c512_i32_68 : BitVec 32 := 512#32
  let v145 : BitVec 32 := Scalar.muli v32 c512_i32_68
  let v146 : BitVec 32 := v145
  let v147 : Index := Scalar.indexCast v146
  let c128_69 : Index := 128#32
  ![v147.toNat, 128]
def k0_mult56 (i : grid0.Coords) : BitVec 32 :=
  let c2_i32_106 : BitVec 32 := 2#32
  let arg1 : BitVec 32 := BitVec.ofNat 32 (i 1).val
  let v243 : BitVec 32 := Scalar.muli c2_i32_106 arg1
  let c1_i32_107 : BitVec 32 := 1#32
  let v244 : BitVec 32 := Scalar.addi v243 c1_i32_107
  let c512_i32_108 : BitVec 32 := 512#32
  let v245 : BitVec 32 := Scalar.muli v244 c512_i32_108
  v245
def k0_off44 (i : grid0.Coords) : Fin 2 → Nat :=
  let c2_i32_106 : BitVec 32 := 2#32
  let arg1 : BitVec 32 := BitVec.ofNat 32 (i 1).val
  let v243 : BitVec 32 := Scalar.muli c2_i32_106 arg1
  let c1_i32_107 : BitVec 32 := 1#32
  let v244 : BitVec 32 := Scalar.addi v243 c1_i32_107
  let c512_i32_108 : BitVec 32 := 512#32
  let v245 : BitVec 32 := Scalar.muli v244 c512_i32_108
  let v246 : BitVec 32 := v245
  let v247 : Index := Scalar.indexCast v246
  let c0_109 : Index := 0#32
  ![v247.toNat, 0]
def k0_mult57 (i : grid0.Coords) : BitVec 32 :=
  let arg1 : BitVec 32 := BitVec.ofNat 32 (i 1).val
  let c1024_i32_110 : BitVec 32 := 1024#32
  let v249 : BitVec 32 := Scalar.muli arg1 c1024_i32_110
  let c512_i32_111 : BitVec 32 := 512#32
  let v250 : BitVec 32 := Scalar.addi v249 c512_i32_111
  v250
def k0_off45 (i : grid0.Coords) : Fin 2 → Nat :=
  let arg1 : BitVec 32 := BitVec.ofNat 32 (i 1).val
  let c1024_i32_110 : BitVec 32 := 1024#32
  let v249 : BitVec 32 := Scalar.muli arg1 c1024_i32_110
  let c512_i32_111 : BitVec 32 := 512#32
  let v250 : BitVec 32 := Scalar.addi v249 c512_i32_111
  let v251 : BitVec 32 := v250
  let v252 : Index := Scalar.indexCast v251
  let c0_112 : Index := 0#32
  ![v252.toNat, 0]
def k0_mult58 (i : grid0.Coords) : BitVec 32 :=
  let c2_i32_106 : BitVec 32 := 2#32
  let arg1 : BitVec 32 := BitVec.ofNat 32 (i 1).val
  let v243 : BitVec 32 := Scalar.muli c2_i32_106 arg1
  let c1_i32_107 : BitVec 32 := 1#32
  let v244 : BitVec 32 := Scalar.addi v243 c1_i32_107
  let c512_i32_113 : BitVec 32 := 512#32
  let v254 : BitVec 32 := Scalar.muli v244 c512_i32_113
  v254
def k0_off46 (i : grid0.Coords) : Fin 2 → Nat :=
  let c2_i32_106 : BitVec 32 := 2#32
  let arg1 : BitVec 32 := BitVec.ofNat 32 (i 1).val
  let v243 : BitVec 32 := Scalar.muli c2_i32_106 arg1
  let c1_i32_107 : BitVec 32 := 1#32
  let v244 : BitVec 32 := Scalar.addi v243 c1_i32_107
  let c512_i32_113 : BitVec 32 := 512#32
  let v254 : BitVec 32 := Scalar.muli v244 c512_i32_113
  let v255 : BitVec 32 := v254
  let v256 : Index := Scalar.indexCast v255
  let c0_114 : Index := 0#32
  ![v256.toNat, 0]
def k0_mult59 (i : grid0.Coords) : BitVec 32 :=
  let arg1 : BitVec 32 := BitVec.ofNat 32 (i 1).val
  let c1024_i32_150 : BitVec 32 := 1024#32
  let v352 : BitVec 32 := Scalar.muli arg1 c1024_i32_150
  let c512_i32_151 : BitVec 32 := 512#32
  let v353 : BitVec 32 := Scalar.addi v352 c512_i32_151
  v353
def k0_off47 (i : grid0.Coords) : Fin 2 → Nat :=
  let arg1 : BitVec 32 := BitVec.ofNat 32 (i 1).val
  let c1024_i32_150 : BitVec 32 := 1024#32
  let v352 : BitVec 32 := Scalar.muli arg1 c1024_i32_150
  let c512_i32_151 : BitVec 32 := 512#32
  let v353 : BitVec 32 := Scalar.addi v352 c512_i32_151
  let v354 : BitVec 32 := v353
  let v355 : Index := Scalar.indexCast v354
  let c128_152 : Index := 128#32
  ![v355.toNat, 128]
def k0_mult60 (i : grid0.Coords) : BitVec 32 :=
  let c2_i32_106 : BitVec 32 := 2#32
  let arg1 : BitVec 32 := BitVec.ofNat 32 (i 1).val
  let v243 : BitVec 32 := Scalar.muli c2_i32_106 arg1
  let c1_i32_107 : BitVec 32 := 1#32
  let v244 : BitVec 32 := Scalar.addi v243 c1_i32_107
  let c512_i32_153 : BitVec 32 := 512#32
  let v357 : BitVec 32 := Scalar.muli v244 c512_i32_153
  v357
def k0_off48 (i : grid0.Coords) : Fin 2 → Nat :=
  let c2_i32_106 : BitVec 32 := 2#32
  let arg1 : BitVec 32 := BitVec.ofNat 32 (i 1).val
  let v243 : BitVec 32 := Scalar.muli c2_i32_106 arg1
  let c1_i32_107 : BitVec 32 := 1#32
  let v244 : BitVec 32 := Scalar.addi v243 c1_i32_107
  let c512_i32_153 : BitVec 32 := 512#32
  let v357 : BitVec 32 := Scalar.muli v244 c512_i32_153
  let v358 : BitVec 32 := v357
  let v359 : Index := Scalar.indexCast v358
  let c128_154 : Index := 128#32
  ![v359.toNat, 128]
def k0_off49 (i : grid0.Coords) : Fin 2 → Nat :=
  let arg0 : BitVec 32 := BitVec.ofNat 32 (i 0).val
  let v505 : Index := Scalar.indexCast arg0
  let c0_221 : Index := 0#32
  ![v505.toNat, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg0
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_12 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S8192x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S64x5632 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S64x5632 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1024x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S64x5632 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S64x5632 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "mask" => some ⊥
  | _ => none
-- ==== Reference.lean ====
abbrev S8192x6144 : Shape := ⟨2, ![8192, 6144]⟩
abbrev S128 : Shape := ⟨1, ![128]⟩
abbrev S4x256 : Shape := ⟨2, ![4, 256]⟩
abbrev S2048x5632 : Shape := ⟨2, ![2048, 5632]⟩
abbrev S8192x3072 : Shape := ⟨2, ![8192, 3072]⟩
abbrev S8192x1024 : Shape := ⟨2, ![8192, 1024]⟩
abbrev S8192x4x2x128 : Shape := ⟨4, ![8192, 4, 2, 128]⟩
abbrev S4x2x8192x128 : Shape := ⟨4, ![4, 2, 8192, 128]⟩
abbrev S8192x4x256 : Shape := ⟨3, ![8192, 4, 256]⟩
abbrev S4x8192x256 : Shape := ⟨3, ![4, 8192, 256]⟩
abbrev S4x2x8192x8192 : Shape := ⟨4, ![4, 2, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S4x2x8192 : Shape := ⟨3, ![4, 2, 8192]⟩
abbrev S4x2x8192x1 : Shape := ⟨4, ![4, 2, 8192, 1]⟩
abbrev S4x1x8192x8192 : Shape := ⟨4, ![4, 1, 8192, 8192]⟩
abbrev S4x8192x8192 : Shape := ⟨3, ![4, 8192, 8192]⟩
abbrev S8192x4 : Shape := ⟨2, ![8192, 4]⟩
abbrev S8192x4x1 : Shape := ⟨3, ![8192, 4, 1]⟩
abbrev S1x4x256 : Shape := ⟨3, ![1, 4, 256]⟩

abbrev nBuf : Space → Nat
  | .hbm => 112
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S128, .f32⟩
  | .hbm, ⟨2, _⟩ => ⟨S128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S4x256, .f32⟩
  | .hbm, ⟨8, _⟩ => ⟨S2048x5632, .f32⟩
  | .hbm, ⟨9, _⟩ => ⟨S2048x5632, .f32⟩
  | .hbm, ⟨10, _⟩ => ⟨S8192x3072, .bf16⟩
  | .hbm, ⟨11, _⟩ => ⟨S8192x3072, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S8192x4x2x128, .f32⟩
  | .hbm, ⟨16, _⟩ => ⟨S4x2x8192x128, .f32⟩
  | .hbm, ⟨17, _⟩ => ⟨S8192x4x2x128, .f32⟩
  | .hbm, ⟨18, _⟩ => ⟨S4x2x8192x128, .f32⟩
  | .hbm, ⟨19, _⟩ => ⟨S8192x4x256, .f32⟩
  | .hbm, ⟨20, _⟩ => ⟨S4x8192x256, .f32⟩
  | .hbm, ⟨21, _⟩ => ⟨S4x2x8192x8192, .f32⟩
  | .hbm, ⟨22, _⟩ => ⟨S_, .f32⟩
  | .hbm, ⟨23, _⟩ => ⟨S_, .f32⟩
  | .hbm, ⟨24, _⟩ => ⟨S4x2x8192x8192, .f32⟩
  | .hbm, ⟨25, _⟩ => ⟨S4x2x8192x8192, .f32⟩
  | .hbm, ⟨26, _⟩ => ⟨S8192, .i32⟩
  | .hbm, ⟨27, _⟩ => ⟨S_, .i32⟩
  | .hbm, ⟨28, _⟩ => ⟨S_, .i32⟩
  | .hbm, ⟨29, _⟩ => ⟨S8192, .i32⟩
  | .hbm, ⟨30, _⟩ => ⟨S8192, .i32⟩
  | .hbm, ⟨31, _⟩ => ⟨S8192, .i32⟩
  | .hbm, ⟨32, _⟩ => ⟨S_, .i32⟩
  | .hbm, ⟨33, _⟩ => ⟨S8192, .i32⟩
  | .hbm, ⟨34, _⟩ => ⟨S8192, .i1⟩
  | .hbm, ⟨35, _⟩ => ⟨S8192, .i32⟩
  | .hbm, ⟨36, _⟩ => ⟨S8192, .i32⟩
  | .hbm, ⟨37, _⟩ => ⟨S_, .i32⟩
  | .hbm, ⟨38, _⟩ => ⟨S8192, .i32⟩
  | .hbm, ⟨39, _⟩ => ⟨S8192, .i1⟩
  | .hbm, ⟨40, _⟩ => ⟨S8192, .i1⟩
  | .hbm, ⟨41, _⟩ => ⟨S_, .i32⟩
  | .hbm, ⟨42, _⟩ => ⟨S8192, .i32⟩
  | .hbm, ⟨43, _⟩ => ⟨S8192, .i32⟩
  | .hbm, ⟨44, _⟩ => ⟨S8192, .i32⟩
  | .hbm, ⟨45, _⟩ => ⟨S1x8192, .i32⟩
  | .hbm, ⟨46, _⟩ => ⟨S8192x1, .i32⟩
  | .hbm, ⟨47, _⟩ => ⟨S8192x8192, .i32⟩
  | .hbm, ⟨48, _⟩ => ⟨S8192x8192, .i32⟩
  | .hbm, ⟨49, _⟩ => ⟨S8192x8192, .i1⟩
  | .hbm, ⟨50, _⟩ => ⟨S_, .f32⟩
  | .hbm, ⟨51, _⟩ => ⟨S_, .f32⟩
  | .hbm, ⟨52, _⟩ => ⟨S4x2x8192x8192, .i1⟩
  | .hbm, ⟨53, _⟩ => ⟨S4x2x8192x8192, .f32⟩
  | .hbm, ⟨54, _⟩ => ⟨S4x2x8192x8192, .f32⟩
  | .hbm, ⟨55, _⟩ => ⟨S_, .f32⟩
  | .hbm, ⟨56, _⟩ => ⟨S4x2x8192, .f32⟩
  | .hbm, ⟨57, _⟩ => ⟨S_, .f32⟩
  | .hbm, ⟨58, _⟩ => ⟨S4x2x8192, .f32⟩
  | .hbm, ⟨59, _⟩ => ⟨S4x2x8192, .f32⟩
  | .hbm, ⟨60, _⟩ => ⟨S4x2x8192x1, .f32⟩
  | .hbm, ⟨61, _⟩ => ⟨S4x2x8192x8192, .f32⟩
  | .hbm, ⟨62, _⟩ => ⟨S4x2x8192x8192, .f32⟩
  | .hbm, ⟨63, _⟩ => ⟨S4x2x8192x8192, .f32⟩
  | .hbm, ⟨64, _⟩ => ⟨S_, .f32⟩
  | .hbm, ⟨65, _⟩ => ⟨S4x2x8192, .f32⟩
  | .hbm, ⟨66, _⟩ => ⟨S4x2x8192x1, .f32⟩
  | .hbm, ⟨67, _⟩ => ⟨S4x2x8192x8192, .f32⟩
  | .hbm, ⟨68, _⟩ => ⟨S4x2x8192x8192, .f32⟩
  | .hbm, ⟨69, _⟩ => ⟨S128, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S128, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S4x1x8192x8192, .f32⟩
  | .hbm, ⟨81, _⟩ => ⟨S4x8192x8192, .f32⟩
  | .hbm, ⟨82, _⟩ => ⟨S4x1x8192x8192, .f32⟩
  | .hbm, ⟨83, _⟩ => ⟨S4x8192x8192, .f32⟩
  | .hbm, ⟨84, _⟩ => ⟨S4x8192x8192, .f32⟩
  | .hbm, ⟨85, _⟩ => ⟨S4x8192x8192, .f32⟩
  | .hbm, ⟨86, _⟩ => ⟨S4x8192x8192, .f32⟩
  | .hbm, ⟨87, _⟩ => ⟨S4x8192x256, .f32⟩
  | .hbm, ⟨88, _⟩ => ⟨S8192x4x256, .f32⟩
  | .hbm, ⟨89, _⟩ => ⟨S8192x4x256, .f32⟩
  | .hbm, ⟨90, _⟩ => ⟨S_, .f32⟩
  | .hbm, ⟨91, _⟩ => ⟨S8192x4, .f32⟩
  | .hbm, ⟨92, _⟩ => ⟨S8192x4x1, .f32⟩
  | .hbm, ⟨93, _⟩ => ⟨S_, .f32⟩
  | .hbm, ⟨94, _⟩ => ⟨S8192x4x1, .f32⟩
  | .hbm, ⟨95, _⟩ => ⟨S8192x4x1, .f32⟩
  | .hbm, ⟨96, _⟩ => ⟨S_, .f32⟩
  | .hbm, ⟨97, _⟩ => ⟨S8192x4x1, .f32⟩
  | .hbm, ⟨98, _⟩ => ⟨S8192x4x1, .f32⟩
  | .hbm, ⟨99, _⟩ => ⟨S8192x4x1, .f32⟩
  | .hbm, ⟨100, _⟩ => ⟨S8192x4x256, .f32⟩
  | .hbm, ⟨101, _⟩ => ⟨S8192x4x256, .f32⟩
  | .hbm, ⟨102, _⟩ => ⟨S1x4x256, .f32⟩
  | .hbm, ⟨103, _⟩ => ⟨S8192x4x256, .f32⟩
  | .hbm, ⟨104, _⟩ => ⟨S8192x4x256, .f32⟩
  | .hbm, ⟨105, _⟩ => ⟨S_, .f32⟩
  | .hbm, ⟨106, _⟩ => ⟨S8192x4x256, .f32⟩
  | .hbm, ⟨107, _⟩ => ⟨S8192x4x256, .f32⟩
  | .hbm, ⟨108, _⟩ => ⟨S8192x1024, .f32⟩
  | .hbm, ⟨109, _⟩ => ⟨S8192x1024, .bf16⟩
  | .hbm, ⟨110, _⟩ => ⟨S2048x5632, .bf16⟩
  | .hbm, ⟨111, _⟩ => ⟨S2048x5632, .bf16⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_call0_v3 : Ref sig .tc := ⟨.hbm, 31, rfl⟩
abbrev main_call0_v4 : Ref sig .tc := ⟨.hbm, 32, rfl⟩
abbrev main_call0_v5 : Ref sig .tc := ⟨.hbm, 33, rfl⟩
abbrev main_call0_v6 : Ref sig .tc := ⟨.hbm, 34, rfl⟩
abbrev main_call0_v7 : Ref sig .tc := ⟨.hbm, 35, rfl⟩
abbrev main_call0_v8 : Ref sig .tc := ⟨.hbm, 36, rfl⟩
abbrev main_call0_c : Ref sig .tc := ⟨.hbm, 37, rfl⟩
abbrev main_call0_v9 : Ref sig .tc := ⟨.hbm, 38, rfl⟩
abbrev main_call0_v10 : Ref sig .tc := ⟨.hbm, 39, rfl⟩
abbrev main_call0_v11 : Ref sig .tc := ⟨.hbm, 40, rfl⟩
abbrev main_call0_c_0 : Ref sig .tc := ⟨.hbm, 41, rfl⟩
abbrev main_call0_v12 : Ref sig .tc := ⟨.hbm, 42, rfl⟩
abbrev main_call0_v13 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_cst_0 : Ref sig .tc := ⟨.hbm, 50, rfl⟩
abbrev main_call1_v0 : Ref sig .tc := ⟨.hbm, 51, rfl⟩
abbrev main_call1_v1 : Ref sig .tc := ⟨.hbm, 52, rfl⟩
abbrev main_call1_v2 : Ref sig .tc := ⟨.hbm, 53, rfl⟩
abbrev main_v22 : Ref sig .tc := ⟨.hbm, 54, rfl⟩
abbrev main_cst_1 : Ref sig .tc := ⟨.hbm, 55, rfl⟩
abbrev main_v23 : Ref sig .tc := ⟨.hbm, 56, rfl⟩
abbrev main_cst_2 : Ref sig .tc := ⟨.hbm, 57, rfl⟩
abbrev main_v24 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_3 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_cst_4 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_5 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_6 : Ref sig .tc := ⟨.hbm, 78, rfl⟩
abbrev main_v41 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_cst_7 : Ref sig .tc := ⟨.hbm, 90, rfl⟩
abbrev main_v52 : Ref sig .tc := ⟨.hbm, 91, rfl⟩
abbrev main_v53 : Ref sig .tc := ⟨.hbm, 92, rfl⟩
abbrev main_cst_8 : Ref sig .tc := ⟨.hbm, 93, rfl⟩
abbrev main_v54 : Ref sig .tc := ⟨.hbm, 94, rfl⟩
abbrev main_v55 : Ref sig .tc := ⟨.hbm, 95, rfl⟩
abbrev main_cst_9 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_cst_10 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩

abbrev nD : Nat := 1
abbrev τ : Topo := Topo.v7x

variable {F : FTy → Type} [FloatOps F]
-- ==== Kernel2.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S1x2048 : Shape := ⟨2, ![1, 2048]⟩
abbrev S1024x2048 : Shape := ⟨2, ![1024, 2048]⟩
abbrev S2048x512 : Shape := ⟨2, ![2048, 512]⟩
abbrev S512x2048 : Shape := ⟨2, ![512, 2048]⟩
abbrev S1024 : Shape := ⟨1, ![1024]⟩
abbrev S1024x1 : Shape := ⟨2, ![1024, 1]⟩
abbrev S1024x512 : Shape := ⟨2, ![1024, 512]⟩

abbrev nBuf : Space → Nat
  | .hbm => 7
  | .vmem => 12
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S1x2048, .f32⟩
  | .hbm, ⟨6, _⟩ => ⟨S8192x2048, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x512, .bf16⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S512x2048, .bf16⟩
  | .local _ .vmem, ⟨8, _⟩ => ⟨S512x2048, .bf16⟩
  | .local _ .vmem, ⟨9, _⟩ => ⟨S1024x2048, .f32⟩
  | .local _ .vmem, ⟨10, _⟩ => ⟨S1024x2048, .f32⟩
  | .local _ .vmem, ⟨11, _⟩ => ⟨S1024x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 11], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S8192x2048 : Shape := ⟨2, ![8192, 2048]⟩
abbrev S2048 : Shape := ⟨1, ![2048]⟩
abbrev S2048x5632 : Shape := ⟨2, ![2048, 5632]⟩
abbrev S5632x2048 : Shape := ⟨2, ![5632, 2048]⟩
abbrev S_ : Shape := ⟨0, ![]⟩
abbrev S8192 : Shape := ⟨1, ![8192]⟩
abbrev S8192x1 : Shape := ⟨2, ![8192, 1]⟩
abbrev S1x2048 : Shape := ⟨2, ![1, 2048]⟩
abbrev S8192x5632 : Shape := ⟨2, ![8192, 5632]⟩

abbrev nBuf : Space → Nat
  | .hbm => 38
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S2048, .f32⟩
  | .hbm, ⟨2, _⟩ => ⟨S2048x5632, .bf16⟩
  | .hbm, ⟨3, _⟩ => ⟨S2048x5632, .bf16⟩
  | .hbm, ⟨4, _⟩ => ⟨S5632x2048, .bf16⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S1x2048, .f32⟩
  | .hbm, ⟨19, _⟩ => ⟨S8192x2048, .f32⟩
  | .hbm, ⟨20, _⟩ => ⟨S8192x2048, .f32⟩
  | .hbm, ⟨21, _⟩ => ⟨S2048x5632, .f32⟩
  | .hbm, ⟨22, _⟩ => ⟨S2048x5632, .f32⟩
  | .hbm, ⟨23, _⟩ => ⟨S5632x2048, .f32⟩
  | .hbm, ⟨24, _⟩ => ⟨S8192x5632, .f32⟩
  | .hbm, ⟨25, _⟩ => ⟨S8192x5632, .f32⟩
  | .hbm, ⟨26, _⟩ => ⟨S8192x5632, .f32⟩
  | .hbm, ⟨27, _⟩ => ⟨S_, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S8192x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x2048, .f32⟩
  | .hbm, ⟨37, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩

abbrev nD : Nat := 1
abbrev τ : Topo := Topo.v7x

variable {F : FTy → Type} [FloatOps F]
-- ==== Kernel3.lean ====
abbrev S8192x1024 : Shape := ⟨2, ![8192, 1024]⟩
abbrev S2048x2048 : Shape := ⟨2, ![2048, 2048]⟩
abbrev S8192x2048 : Shape := ⟨2, ![8192, 2048]⟩
abbrev S512x1024 : Shape := ⟨2, ![512, 1024]⟩
abbrev S1024x2048 : Shape := ⟨2, ![1024, 2048]⟩
abbrev S512x2048 : Shape := ⟨2, ![512, 2048]⟩

abbrev nBuf : Space → Nat
  | .hbm => 5
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S8192x2048, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x2048, .bf16⟩
  | .local _ .vmem, ⟨5, _⟩ => ⟨S1024x2048, .bf16⟩
  | .local _ .vmem, ⟨6, _⟩ => ⟨S512x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c1_i32 : BitVec 32 := 1#32
  let c0_i32 : BitVec 32 := 0#32
  let c0_i32_0 : BitVec 32 := 0#32
  ![c1_i32.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S8192x1024 : Shape := ⟨2, ![8192, 1024]⟩
abbrev S2048x2048 : Shape := ⟨2, ![2048, 2048]⟩
abbrev S8192x2048 : Shape := ⟨2, ![8192, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S2048x2048, .bf16⟩
  | .hbm, ⟨3, _⟩ => ⟨S8192x2048, .f32⟩
  | .hbm, ⟨4, _⟩ => ⟨S8192x1024, .f32⟩
  | .hbm, ⟨5, _⟩ => ⟨S8192x1024, .f32⟩
  | .hbm, ⟨6, _⟩ => ⟨S8192x2048, .f32⟩
  | .hbm, ⟨7, _⟩ => ⟨S2048x2048, .f32⟩
  | .hbm, ⟨8, _⟩ => ⟨S8192x2048, .f32⟩
  | .hbm, ⟨9, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Proof.KernelIdealLoops.lean ====
module

public import proofs.«01_k».proof.Proof.Gen.KernelIdeal.Frame
public import proofs.«01_k».proof.Proof.Gen.KernelIdeal.Skeleton
public import Idealize.ShloMosaic.Lib.Pipeline.Frame
public import Idealize.ShloMosaic.Lib.Tactic
public import Idealize.ShloMosaic.Lib.Exec

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

set_option warn.classDefReducibility false in
/-- Loop 1, by the invariant that says nothing of the buffers it writes: the key, query and value columns it reads
    are held as they are, what it writes at some contents. -/
@[sl_loop] def loopAny_k0_t1 (𝒱 : Variants) (c : Dev nD) (bd : Option 𝒱.V) (E : Set ℕ) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (arg1 : BitVec 32) (v0 : Elt F .f32) (X3 : BufTy.Contents (Elt F) arg3.view.ty) (X4 : BufTy.Contents (Elt F) arg4.view.ty) (X5 : BufTy.Contents (Elt F) arg5.view.ty) :
      LoopInv (M := MT nD τ sig Unit (Elt F) ℕ (UR sig nD τ) ℕ) frame (wpE defs₀ 𝒱 (c : Thread nD τ) bd) E    (k0_t1_loop i).lb (k0_t1_loop i).ub (k0_t1_loop i).st (k0_t1_ok i) () (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v0) where
  inv _ _ := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f : BufTy.Contents (Elt F) arg17.view.ty, arg17.view.loc (c : Thread nD τ) ↦[arg17.view.set]{fullShare} f) ∗ (∃ f : BufTy.Contents (Elt F) arg18.view.ty, arg18.view.loc (c : Thread nD τ) ↦[arg18.view.set]{fullShare} f) ∗ (∃ f : BufTy.Contents (Elt F) arg19.view.ty, arg19.view.loc (c : Thread nD τ) ↦[arg19.view.set]{fullShare} f) ∗ (∃ f : BufTy.Contents (Elt F) arg20.view.ty, arg20.view.loc (c : Thread nD τ) ↦[arg20.view.set]{fullShare} f))
  step k acc := by
    iintro ⟨HR3, HR4, HR5, ⟨%f17, HW17⟩, ⟨%f18, HW18⟩, ⟨%f19, HW19⟩, ⟨%f20, HW20⟩⟩
    unfold k0_t1_body
    sl_exec
    sl_step
    isplitl [HR3]; · iexact HR3
    isplitl [HR4]; · iexact HR4
    isplitl [HR5]; · iexact HR5
    isplitl [HW17]; · iexists _; iexact HW17
    isplitl [HW18]; · iexists _; iexact HW18
    isplitl [HW19]; · iexists _; iexact HW19
    iexists _; iexact HW20

set_option warn.classDefReducibility false in
/-- Loop 2, by the invariant that says nothing of the buffers it writes: the key, query and value columns it reads
    are held as they are, what it writes at some contents. -/
@[sl_loop] def loopAny_k0_t2 (𝒱 : Variants) (c : Dev nD) (bd : Option 𝒱.V) (E : Set ℕ) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (arg1 : BitVec 32) (v0 : Elt F .f32) (v15 : BitVec 32) (X3 : BufTy.Contents (Elt F) arg3.view.ty) (X4 : BufTy.Contents (Elt F) arg4.view.ty) (X5 : BufTy.Contents (Elt F) arg5.view.ty) :
      LoopInv (M := MT nD τ sig Unit (Elt F) ℕ (UR sig nD τ) ℕ) frame (wpE defs₀ 𝒱 (c : Thread nD τ) bd) E    (k0_t2_loop i).lb (k0_t2_loop i).ub (k0_t2_loop i).st (k0_t2_ok i) () (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v0 v15) where
  inv _ _ := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f : BufTy.Contents (Elt F) arg17.view.ty, arg17.view.loc (c : Thread nD τ) ↦[arg17.view.set]{fullShare} f) ∗ (∃ f : BufTy.Contents (Elt F) arg18.view.ty, arg18.view.loc (c : Thread nD τ) ↦[arg18.view.set]{fullShare} f) ∗ (∃ f : BufTy.Contents (Elt F) arg19.view.ty, arg19.view.loc (c : Thread nD τ) ↦[arg19.view.set]{fullShare} f) ∗ (∃ f : BufTy.Contents (Elt F) arg20.view.ty, arg20.view.loc (c : Thread nD τ) ↦[arg20.view.set]{fullShare} f))
  step k acc := by
    iintro ⟨HR3, HR4, HR5, ⟨%f17, HW17⟩, ⟨%f18, HW18⟩, ⟨%f19, HW19⟩, ⟨%f20, HW20⟩⟩
    unfold k0_t2_body
    sl_exec
    sl_step
    isplitl [HR3]; · iexact HR3
    isplitl [HR4]; · iexact HR4
    isplitl [HR5]; · iexact HR5
    isplitl [HW17]; · iexists _; iexact HW17
    isplitl [HW18]; · iexists _; iexact HW18
    isplitl [HW19]; · iexists _; iexact HW19
    iexists _; iexact HW20

set_option warn.classDefReducibility false in
/-- Loop 3, by the invariant that says nothing of the buffers it writes: the key, query and value columns it reads
    are held as they are, what it writes at some contents. -/
@[sl_loop] def loopAny_k0_t3 (𝒱 : Variants) (c : Dev nD) (bd : Option 𝒱.V) (E : Set ℕ) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (arg1 : BitVec 32) (X3 : BufTy.Contents (Elt F) arg3.view.ty) (X4 : BufTy.Contents (Elt F) arg4.view.ty) (X5 : BufTy.Contents (Elt F) arg5.view.ty) :
      LoopInv (M := MT nD τ sig Unit (Elt F) ℕ (UR sig nD τ) ℕ) frame (wpE defs₀ 𝒱 (c : Thread nD τ) bd) E    (k0_t3_loop i).lb (k0_t3_loop i).ub (k0_t3_loop i).st (k0_t3_ok i) () (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1) where
  inv _ _ := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f : BufTy.Contents (Elt F) arg16.view.ty, arg16.view.loc (c : Thread nD τ) ↦[arg16.view.set]{fullShare} f) ∗ (∃ f : BufTy.Contents (Elt F) arg17.view.ty, arg17.view.loc (c : Thread nD τ) ↦[arg17.view.set]{fullShare} f) ∗ (∃ f : BufTy.Contents (Elt F) arg18.view.ty, arg18.view.loc (c : Thread nD τ) ↦[arg18.view.set]{fullShare} f))
  step k acc := by
    iintro ⟨HR3, HR4, HR5, ⟨%f16, HW16⟩, ⟨%f17, HW17⟩, ⟨%f18, HW18⟩⟩
    unfold k0_t3_body
    sl_exec
    sl_step
    isplitl [HR3]; · iexact HR3
    isplitl [HR4]; · iexact HR4
    isplitl [HR5]; · iexact HR5
    isplitl [HW16]; · iexists _; iexact HW16
    isplitl [HW17]; · iexists _; iexact HW17
    iexists _; iexact HW18

set_option warn.classDefReducibility false in
/-- Loop 4, by the invariant that says nothing of the buffers it writes: the key, query and value columns it reads
    are held as they are, what it writes at some contents. -/
@[sl_loop] def loopAny_k0_t4 (𝒱 : Variants) (c : Dev nD) (bd : Option 𝒱.V) (E : Set ℕ) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (arg1 : BitVec 32) (v31 : BitVec 32) (X3 : BufTy.Contents (Elt F) arg3.view.ty) (X4 : BufTy.Contents (Elt F) arg4.view.ty) (X5 : BufTy.Contents (Elt F) arg5.view.ty) :
      LoopInv (M := MT nD τ sig Unit (Elt F) ℕ (UR sig nD τ) ℕ) frame (wpE defs₀ 𝒱 (c : Thread nD τ) bd) E    (k0_t4_loop i).lb (k0_t4_loop i).ub (k0_t4_loop i).st (k0_t4_ok i) () (k0_t4_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v31) where
  inv _ _ := iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (∃ f : BufTy.Contents (Elt F) arg16.view.ty, arg16.view.loc (c : Thread nD τ) ↦[arg16.view.set]{fullShare} f) ∗ (∃ f : BufTy.Contents (Elt F) arg17.view.ty, arg17.view.loc (c : Thread nD τ) ↦[arg17.view.set]{fullShare} f) ∗ (∃ f : BufTy.Contents (Elt F) arg18.view.ty, arg18.view.loc (c : Thread nD τ) ↦[arg18.view.set]{fullShare} f))
  step k acc := by
    iintro ⟨HR3, HR4, HR5, ⟨%f16, HW16⟩, ⟨%f17, HW17⟩, ⟨%f18, HW18⟩⟩
    unfold k0_t4_body
    sl_exec
    sl_step
    isplitl [HR3]; · iexact HR3
    isplitl [HR4]; · iexact HR4
    isplitl [HR5]; · iexact HR5
    isplitl [HW16]; · iexists _; iexact HW16
    isplitl [HW17]; · iexists _; iexact HW17
    iexists _; iexact HW18

end Cert.KernelIdeal.Hand

end
-- ==== Proof.KernelIdealBody.lean ====
module

public import proofs.«01_k».proof.Proof.Gen.KernelIdeal.Frame
public import proofs.«01_k».proof.Proof.Gen.KernelIdeal.Skeleton
public import proofs.«01_k».proof.Proof.KernelIdealLoops
public import Idealize.ShloMosaic.Lib.Pipeline.Frame
public import Idealize.ShloMosaic.Lib.Tactic
public import Idealize.ShloMosaic.Lib.Exec

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

/-- What the body holds at a point, before and after: the input buffers at their contents, everything else at some contents. -/
def held (c : Dev nD) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt F .f32) (X3 : S8192x256.Idx → Elt F .bf16) (X4 : S8192x256.Idx → Elt F .bf16) (X5 : S8192x256.Idx → Elt F .bf16) (X6 : S1x128.Idx → Elt F .f32) (X7 : S1x128.Idx → Elt F .f32) (X8 : S1x128.Idx → Elt F .f32) (X9 : S1x128.Idx → Elt F .f32) (X10 : S4x256.Idx → Elt F .f32) (X11 : S64x5632.Idx → Elt F .f32) (X12 : S64x5632.Idx → Elt F .f32) : sProp 𝕄 :=
  iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12 ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d))

/-- The word the body branches on, of the parameters `X`: is the second one above one half? -/
def flagWord (X : S2.Idx → Elt F .f32) (x : S1.Idx) : BitVec 1 :=
  Scalar.cmpf .ogt (View.ld X (Rect.unit (s := S2) ![1] S1.size inb_S2_S1_1) x) (Scalar.ofBits .f32 0x3F000000#32)

/-- The first branch is taken. -/
def flagOn (X : S2.Idx → Elt F .f32) : Prop := ∀ x, Scalar.cmpi .ne (Scalar.extui (flagWord X x) : BitVec 32) 0#32 = 1#1
/-- The second branch is taken. -/
def flagOff (X : S2.Idx → Elt F .f32) : Prop := ∀ x, ¬ Scalar.cmpi .ne (Scalar.extui (flagWord X x) : BitVec 32) 0#32 = 1#1

/-- The two branches exclude each other. -/
theorem flag_not : ∀ b : BitVec 1, Scalar.cmpi .ne (Scalar.extui b : BitVec 32) 0#32 = 1#1 →
    ¬ Scalar.cmpi .ne (Scalar.extui (Scalar.xori b 1#1) : BitVec 32) 0#32 = 1#1 := by decide
/-- One of the two branches is taken. -/
theorem flag_of_not : ∀ b : BitVec 1, ¬ Scalar.cmpi .ne (Scalar.extui b : BitVec 32) 0#32 = 1#1 →
    Scalar.cmpi .ne (Scalar.extui (Scalar.xori b 1#1) : BitVec 32) 0#32 = 1#1 := by decide
theorem flag_cases (X : S2.Idx → Elt F .f32) : flagOn X ∨ flagOff X := by
  have h : ∀ x y : S1.Idx, x = y := by decide
  rcases Classical.em (flagOn X) with h1 | h1
  · exact .inl h1
  · refine .inr fun x hx => h1 fun y => ?_
    rw [h y x]; exact hx

/-- The body, run in the first case. -/
theorem run_first (c : Dev nD) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt F .f32) (X3 : S8192x256.Idx → Elt F .bf16) (X4 : S8192x256.Idx → Elt F .bf16) (X5 : S8192x256.Idx → Elt F .bf16) (X6 : S1x128.Idx → Elt F .f32) (X7 : S1x128.Idx → Elt F .f32) (X8 : S1x128.Idx → Elt F .f32) (X9 : S1x128.Idx → Elt F .f32) (X10 : S4x256.Idx → Elt F .f32) (X11 : S64x5632.Idx → Elt F .f32) (X12 : S64x5632.Idx → Elt F .f32) (hv : flagOn X2) (h2 : k0_cond2 i = 1#1) (h3 : k0_cond3 i = 1#1) (h4 : ¬ k0_cond4 i = 1#1) (K : PUnit → sProp 𝕄) :
    iprop(held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ (held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 -∗ K ⟨⟩))
      ⊢ wp frame (wpE (defs₀ (F := F)) Variants.none c none) Set.univ (cc0_diffattn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_diffattn_eq_skeleton]; unfold cc0_diffattn_skel held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  subst hf2
  sl_exec
  have hw : run_first.sl.v4 c arg2 f2 = 1#1 := hv _
  sl_exec
  have hw7 : ¬ run_first.sl.v7 c arg2 f2 = 1#1 := flag_not _ hw
  sl_exec
  sl_step
  iapply Hk
  isplitl [H2]
  · iexists _; isplitr; swap; · iexact H2
    ipureintro; rfl
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

/-- The body, run in the middle case. -/
theorem run_middle (c : Dev nD) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt F .f32) (X3 : S8192x256.Idx → Elt F .bf16) (X4 : S8192x256.Idx → Elt F .bf16) (X5 : S8192x256.Idx → Elt F .bf16) (X6 : S1x128.Idx → Elt F .f32) (X7 : S1x128.Idx → Elt F .f32) (X8 : S1x128.Idx → Elt F .f32) (X9 : S1x128.Idx → Elt F .f32) (X10 : S4x256.Idx → Elt F .f32) (X11 : S64x5632.Idx → Elt F .f32) (X12 : S64x5632.Idx → Elt F .f32) (hv : flagOn X2) (h2 : ¬ k0_cond2 i = 1#1) (h3 : k0_cond3 i = 1#1) (h4 : ¬ k0_cond4 i = 1#1) (K : PUnit → sProp 𝕄) :
    iprop(held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ (held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 -∗ K ⟨⟩))
      ⊢ wp frame (wpE (defs₀ (F := F)) Variants.none c none) Set.univ (cc0_diffattn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_diffattn_eq_skeleton]; unfold cc0_diffattn_skel held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  subst hf2
  sl_exec
  have hw : run_middle.sl.v4 c arg2 f2 = 1#1 := hv _
  sl_exec
  have hw7 : ¬ run_middle.sl.v7 c arg2 f2 = 1#1 := flag_not _ hw
  sl_exec
  sl_step
  iapply Hk
  isplitl [H2]
  · iexists _; isplitr; swap; · iexact H2
    ipureintro; rfl
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

/-- The body, run in the last case. -/
theorem run_last (c : Dev nD) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt F .f32) (X3 : S8192x256.Idx → Elt F .bf16) (X4 : S8192x256.Idx → Elt F .bf16) (X5 : S8192x256.Idx → Elt F .bf16) (X6 : S1x128.Idx → Elt F .f32) (X7 : S1x128.Idx → Elt F .f32) (X8 : S1x128.Idx → Elt F .f32) (X9 : S1x128.Idx → Elt F .f32) (X10 : S4x256.Idx → Elt F .f32) (X11 : S64x5632.Idx → Elt F .f32) (X12 : S64x5632.Idx → Elt F .f32) (hv : flagOn X2) (h2 : ¬ k0_cond2 i = 1#1) (h3 : ¬ k0_cond3 i = 1#1) (h4 : k0_cond4 i = 1#1) (K : PUnit → sProp 𝕄) :
    iprop(held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ (held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 -∗ K ⟨⟩))
      ⊢ wp frame (wpE (defs₀ (F := F)) Variants.none c none) Set.univ (cc0_diffattn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_diffattn_eq_skeleton]; unfold cc0_diffattn_skel held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  subst hf2
  sl_exec
  have hw : run_last.sl.v4 c arg2 f2 = 1#1 := hv _
  sl_exec
  have hw7 : ¬ run_last.sl.v7 c arg2 f2 = 1#1 := flag_not _ hw
  sl_exec
  sl_step
  iapply Hk
  isplitl [H2]
  · iexists _; isplitr; swap; · iexact H2
    ipureintro; rfl
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

/-- The body, run in the online case. -/
theorem run_online (c : Dev nD) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt F .f32) (X3 : S8192x256.Idx → Elt F .bf16) (X4 : S8192x256.Idx → Elt F .bf16) (X5 : S8192x256.Idx → Elt F .bf16) (X6 : S1x128.Idx → Elt F .f32) (X7 : S1x128.Idx → Elt F .f32) (X8 : S1x128.Idx → Elt F .f32) (X9 : S1x128.Idx → Elt F .f32) (X10 : S4x256.Idx → Elt F .f32) (X11 : S64x5632.Idx → Elt F .f32) (X12 : S64x5632.Idx → Elt F .f32) (hv : flagOff X2)  (K : PUnit → sProp 𝕄) :
    iprop(held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ (held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 -∗ K ⟨⟩))
      ⊢ wp frame (wpE (defs₀ (F := F)) Variants.none c none) Set.univ (cc0_diffattn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_diffattn_eq_skeleton]; unfold cc0_diffattn_skel held owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩⟩, Hk⟩
  subst hf2
  sl_exec
  have hw : ¬ run_online.sl.v4 c arg2 f2 = 1#1 := hv _
  sl_exec
  have hw7 : run_online.sl.v7 c arg2 f2 = 1#1 := flag_of_not _ hw
  sl_exec
  sl_step
  iapply Hk
  isplitl [H2]
  · iexists _; isplitr; swap; · iexact H2
    ipureintro; rfl
  isplitl [H3]
  · iexists _; isplitr; swap; · iexact H3
    ipureintro; exact hf3
  isplitl [H4]
  · iexists _; isplitr; swap; · iexact H4
    ipureintro; exact hf4
  isplitl [H5]
  · iexists _; isplitr; swap; · iexact H5
    ipureintro; exact hf5
  isplitl [H6]
  · iexists _; isplitr; swap; · iexact H6
    ipureintro; exact hf6
  isplitl [H7]
  · iexists _; isplitr; swap; · iexact H7
    ipureintro; exact hf7
  isplitl [H8]
  · iexists _; isplitr; swap; · iexact H8
    ipureintro; exact hf8
  isplitl [H9]
  · iexists _; isplitr; swap; · iexact H9
    ipureintro; exact hf9
  isplitl [H10]
  · iexists _; isplitr; swap; · iexact H10
    ipureintro; exact hf10
  isplitl [H11]
  · iexists _; isplitr; swap; · iexact H11
    ipureintro; exact hf11
  isplitl [H12]
  · iexists _; isplitr; swap; · iexact H12
    ipureintro; exact hf12
  isplitl [H13]
  · iexists _, _; isplitr; swap; · iexact H13
    ipureintro; rfl
  isplitl [H14]
  · iexists _, _; isplitr; swap; · iexact H14
    ipureintro; rfl
  isplitl [H15]
  · iexists _, _; isplitr; swap; · iexact H15
    ipureintro; rfl
  isplitl [H16]
  · iexists _, _; isplitr; swap; · iexact H16
    ipureintro; rfl
  isplitl [H17]
  · iexists _, _; isplitr; swap; · iexact H17
    ipureintro; rfl
  isplitl [H18]
  · iexists _, _; isplitr; swap; · iexact H18
    ipureintro; rfl
  isplitl [H19]
  · iexists _, _; isplitr; swap; · iexact H19
    ipureintro; rfl
  iexists _, _; isplitr; swap; · iexact H20
  ipureintro; rfl

end Cert.KernelIdeal.Hand

end
-- ==== Proof.KernelIdealRun.lean ====
module

public import proofs.«01_k».proof.Proof.Gen.KernelIdeal.Frame
public import proofs.«01_k».proof.Proof.Gen.KernelIdeal.Skeleton
public import proofs.«01_k».proof.Proof.KernelIdealBody
public import Idealize.ShloMosaic.Lib.Pipeline.Frame
public import Idealize.ShloMosaic.Lib.Tactic
public import Idealize.ShloMosaic.Lib.Exec
public import Idealize.ShloMosaic.Lib.Claim

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [∀ e, Nonempty (Elt F e)] [Named F]

local notation "𝕄" => MT nD τ sig Unit (Elt F) ℕ (UR sig nD τ) ℕ

variable (m : (ℓ : Loc nD τ sig) → Buf (Elt F) ℓ) (ρ : Dev nD → PrngReg)

/-- The three results' windows are forgotten here: the frame says nothing of what the body leaves in them. -/
def forgets0 : Fin 14 → Bool := fun w => decide (11 ≤ w.val)

/-- The proof data of the frame: every input window's block stays in place, the results' windows are unnamed. -/
def dats (_ : Fin 1) (c : Dev nD) : Dat τ (Elt F) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => iblk m c 5 t | 6 => iblk m c 6 t | 7 => iblk m c 7 t | 8 => iblk m c 8 t | 9 => iblk m c 9 t
    | 10 => iblk m c 10 t
    | 11 => Pipeline.Dat.unnamed (cfg := cfg0) 11 t
    | 12 => Pipeline.Dat.unnamed (cfg := cfg0) 12 t
    | 13 => Pipeline.Dat.unnamed (cfg := cfg0) 13 t
  Φ _ := Pipeline.ΦA spec0 c
  q w := Pipeline.shareOf spec0 w
  owed _ := 0

theorem A_eq (c : Dev nD) (w : Fin cfg0.W) : (dats m 0 c).A w = V m c (Pipeline.arrRef spec0 w) := by dsimp only [dats]

/-- What the body is called with at point `t`, and what it returns. -/
def bodyPre (c : Dev nD) (t : Fin cfg0.N) : sProp 𝕄 :=
  iprop((dats m 0 c).Φ t.castSucc ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ (∃ d, owns (c : Thread nD τ) (st0_11 t) fullShare d) ∗ (∃ d, owns (c : Thread nD τ) (st0_12 t) fullShare d) ∗ (∃ d, owns (c : Thread nD τ) (st0_13 t) fullShare d))
def bodyPost (c : Dev nD) (t : Fin cfg0.N) : sProp 𝕄 :=
  iprop((dats m 0 c).Φ t.succ ∗ (dats m 0 c).owesAt () t.succ ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ (∃ d, owns (c : Thread nD τ) (st0_11 t) fullShare d) ∗ (∃ d, owns (c : Thread nD τ) (st0_12 t) fullShare d) ∗ (∃ d, owns (c : Thread nD τ) (st0_13 t) fullShare d))

/-- The grid's points are of three kinds, by the query tile: the first, a middle one, the last. -/
theorem point_cases : ∀ t : Fin cfg0.N,
    (k0_cond2 (grid0.coords t) = 1#1 ∧ k0_cond3 (grid0.coords t) = 1#1 ∧ ¬ k0_cond4 (grid0.coords t) = 1#1)
    ∨ (¬ k0_cond2 (grid0.coords t) = 1#1 ∧ k0_cond3 (grid0.coords t) = 1#1 ∧ ¬ k0_cond4 (grid0.coords t) = 1#1)
    ∨ (¬ k0_cond2 (grid0.coords t) = 1#1 ∧ ¬ k0_cond3 (grid0.coords t) = 1#1 ∧ k0_cond4 (grid0.coords t) = 1#1) :=
  (by decide +kernel : ∀ t : Fin grid0.N,
    (k0_cond2 (grid0.coords t) = 1#1 ∧ k0_cond3 (grid0.coords t) = 1#1 ∧ ¬ k0_cond4 (grid0.coords t) = 1#1)
    ∨ (¬ k0_cond2 (grid0.coords t) = 1#1 ∧ k0_cond3 (grid0.coords t) = 1#1 ∧ ¬ k0_cond4 (grid0.coords t) = 1#1)
    ∨ (¬ k0_cond2 (grid0.coords t) = 1#1 ∧ ¬ k0_cond3 (grid0.coords t) = 1#1 ∧ k0_cond4 (grid0.coords t) = 1#1))

/-- The body at any point: one of the four runs. -/
theorem run_any (c : Dev nD) (t : Fin cfg0.N) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt F .f32) (X3 : S8192x256.Idx → Elt F .bf16) (X4 : S8192x256.Idx → Elt F .bf16) (X5 : S8192x256.Idx → Elt F .bf16) (X6 : S1x128.Idx → Elt F .f32) (X7 : S1x128.Idx → Elt F .f32) (X8 : S1x128.Idx → Elt F .f32) (X9 : S1x128.Idx → Elt F .f32) (X10 : S4x256.Idx → Elt F .f32) (X11 : S64x5632.Idx → Elt F .f32) (X12 : S64x5632.Idx → Elt F .f32) (K : PUnit → sProp 𝕄) :
    iprop(held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ (held c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 -∗ K ⟨⟩))
      ⊢ wp frame (wpE (defs₀ (F := F)) Variants.none c none) Set.univ (cc0_diffattn (grid0.coords t) arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  rcases flag_cases X2 with hv | hv
  · rcases point_cases t with ⟨h2, h3, h4⟩ | ⟨h2, h3, h4⟩ | ⟨h2, h3, h4⟩
    · apply run_first <;> assumption
    · apply run_middle <;> assumption
    · apply run_last <;> assumption
  · apply run_online; assumption

/-- The body at the point, between the obligation's two ends. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl]
  unfold Pipeline.ΦA
  rw [scopedRest0_eq]
  iintro ⟨⟨⟨⟨%g0, S0⟩, ⟨%g1, S1⟩, ⟨%g2, S2⟩, ⟨%g3, S3⟩, ⟨%g4, S4⟩⟩, Hg⟩, HO, H0, H1, H2, H3, H4, H5, H6, H7, H8, H9, H10, H11, H12, H13⟩
  iapply (run_any c t (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0 H1 H2 H3 H4 H5 H6 H7 H8 H9 H10 H11 H12 H13 S0 S1 S2 S3 S4]
  · unfold held
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [S0]
    · iexists g0; rw [owns_whole]; iexact S0
    isplitl [S1]
    · iexists g1; rw [owns_whole]; iexact S1
    isplitl [S2]
    · iexists g2; rw [owns_whole]; iexact S2
    isplitl [S3]
    · iexists g3; rw [owns_whole]; iexact S3
    iexists g4; rw [owns_whole]; iexact S4
  unfold held
  simp only [owns_whole]
  iintro ⟨H0, H1, H2, H3, H4, H5, H6, H7, H8, H9, H10, H11, H12, H13, ⟨%e0, S0⟩, ⟨%e1, S1⟩, ⟨%e2, S2⟩, ⟨%e3, S3⟩, ⟨%e4, S4⟩⟩
  isplitl [S0 S1 S2 S3 S4 Hg]
  · isplitl [S0 S1 S2 S3 S4]
    · isplitl [S0]
      · iexists e0; iexact S0
      isplitl [S1]
      · iexists e1; iexact S1
      isplitl [S2]
      · iexists e2; iexact S2
      isplitl [S3]
      · iexists e3; iexact S3
      iexists e4; iexact S4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at the point is the body as the launch spells it. -/
theorem defs₀_row (t : Fin cfg0.N) : defs₀ (F := F) .tc cfg0.body (cfg0.bodyArgs t (cfg0.slots t)) = bodyAt0 t := by
  unfold defs₀; rw [Defs.onTc_tc]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_6 (c : Dev nD) (t : Fin cfg0.N) (d) : (dats m 0 c).before 6 t d = iblk m c 6 t :=
  before0_6_of m (dats m 0 c) rfl (fun _ => rfl) t d
theorem before_7 (c : Dev nD) (t : Fin cfg0.N) (d) : (dats m 0 c).before 7 t d = iblk m c 7 t :=
  before0_7_of m (dats m 0 c) rfl (fun _ => rfl) t d
theorem before_8 (c : Dev nD) (t : Fin cfg0.N) (d) : (dats m 0 c).before 8 t d = iblk m c 8 t :=
  before0_8_of m (dats m 0 c) rfl (fun _ => rfl) t d
theorem before_9 (c : Dev nD) (t : Fin cfg0.N) (d) : (dats m 0 c).before 9 t d = iblk m c 9 t :=
  before0_9_of m (dats m 0 c) rfl (fun _ => rfl) t d
theorem before_10 (c : Dev nD) (t : Fin cfg0.N) (d) : (dats m 0 c).before 10 t d = iblk m c 10 t :=
  before0_10_of m (dats m 0 c) rfl (fun _ => rfl) t d

/-- The library's body obligation with the results forgotten. -/
theorem body_obligation (c : Dev nD) :
    BodyObligation (dats (F := F) m 0 c) (defs₀ (F := F)) Variants.none () Set.univ forgets0 := fun t => by
  rw [bigSep_W0, bigSep_W0, defs₀_row]
  refine triple_restated (sound_body m c t) rfl ?_ fun _ => .rfl
  unfold bodyPre
  show iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare d) ∗ (∃ d, owns (c : Thread nD τ) (st0_12 t) fullShare d) ∗ (∃ d, owns (c : Thread nD τ) (st0_13 t) fullShare d)) ⊢ _
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, H11, H12, H13⟩
  isplitl [HΦ]; · iexact HΦ
  isplitl [HO]; · iexact HO
  isplitl [H0]
  · rw [← before_0 m c t d0]; iexact H0
  isplitl [H1]
  · rw [← before_1 m c t d1]; iexact H1
  isplitl [H2]
  · rw [← before_2 m c t d2]; iexact H2
  isplitl [H3]
  · rw [← before_3 m c t d3]; iexact H3
  isplitl [H4]
  · rw [← before_4 m c t d4]; iexact H4
  isplitl [H5]
  · rw [← before_5 m c t d5]; iexact H5
  isplitl [H6]
  · rw [← before_6 m c t d6]; iexact H6
  isplitl [H7]
  · rw [← before_7 m c t d7]; iexact H7
  isplitl [H8]
  · rw [← before_8 m c t d8]; iexact H8
  isplitl [H9]
  · rw [← before_9 m c t d9]; iexact H9
  isplitl [H10]
  · rw [← before_10 m c t d10]; iexact H10
  isplitl [H11]; · iexact H11
  isplitl [H12]; · iexact H12
  iexact H13

set_option backward.isDefEq.respectTransparency.types false in
/-- From any memory every run of the program ends, with each array a window reads, and every other buffer, as the program's
    own host lines left it, and every semaphore counter at zero. -/
theorem run_main_counters :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hΦ := fun _ _ => rfl)

/-- The same without the counters. -/
theorem run_main :
    θ_run defs (onTc (τ := τ) (main (F := F))) (s₀ m ρ)
      (fun r => Pipeline.RDat.FramePost (cfgs 0) (fun c => (dats m 0 c).toRForget forgets0) (V m) r) :=
  (θ_run defs _ _).mono (fun _ h => h.1) (run_main_counters m ρ)

/-- Every argument array ends as it began. -/
theorem unchanged :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) := by
  have arr : ∀ (r : PUnit × MemSt nD τ sig (Elt F)),
      Pipeline.RDat.FramePost (cfgs 0) (fun c => (dats m 0 c).toRForget forgets0) (V m) r → ∀ (c : Dev nD) (w : Fin 14),
      (spec0 w).isOut = false → r.2.mem ((spec0 w).arr.view.loc (c.tc : Thread nD τ)) = V m c (Pipeline.arrRef spec0 w) :=
    fun r h c w hw => (Pipeline.RDat.FramePost.arr_in h c w hw).trans (A_eq m c w)
  refine (θ_run defs _ _).mono (fun r h c => ⟨?_, ?_, ?_, ?_, ?_, ?_, ?_, ?_, ?_, ?_⟩) (run_main m ρ)
  · exact (arr r h c 3 rfl).trans (V_main_arg0 m c)
  · exact ((h c).2 main_arg1 (Pipeline.mem_restRefs_of main_arg1 (by decide) (by decide))).trans (V_main_arg1 m c)
  · exact ((h c).2 main_arg2 (Pipeline.mem_restRefs_of main_arg2 (by decide) (by decide))).trans (V_main_arg2 m c)
  · exact ((h c).2 main_arg3 (Pipeline.mem_restRefs_of main_arg3 (by decide) (by decide))).trans (V_main_arg3 m c)
  · exact ((h c).2 main_arg4 (Pipeline.mem_restRefs_of main_arg4 (by decide) (by decide))).trans (V_main_arg4 m c)
  · exact ((h c).2 main_arg5 (Pipeline.mem_restRefs_of main_arg5 (by decide) (by decide))).trans (V_main_arg5 m c)
  · exact ((h c).2 main_arg6 (Pipeline.mem_restRefs_of main_arg6 (by decide) (by decide))).trans (V_main_arg6 m c)
  · exact (arr r h c 8 rfl).trans (V_main_arg7 m c)
  · exact (arr r h c 9 rfl).trans (V_main_arg8 m c)
  · exact (arr r h c 10 rfl).trans (V_main_arg9 m c)

/-- The frame: every argument array ends as it began, and every semaphore counter reads zero again. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_counters m ρ))

end Cert.KernelIdeal.Hand

end
-- ==== Proof.OutProj.lean ====
/-
  The output projection. After the run of the projection's kernel its result array is the reference's: the residual
  plus the product of the two joined head outputs with the weight. The kernel multiplies the first head outputs by the
  upper half of the weight and the second by the lower half, and adds; the reference joins them and multiplies once.
-/
module

public import proofs.«01_k».proof.Proof.Gen.Kernel3Ideal.Value
public import proofs.«01_k».proof.Proof.Gen.Reference3Ideal.Run
public import proofs.«01_k».proof.Proof.Gen.Reference3Ideal.Read
public import Idealize.ShloMosaic.Lib.Pointwise
public import Idealize.ShloMosaic.Lib.Pipeline.ValueKit.Geometry
public import proofs.«01_k».proof.Defs

@[expose] public section

set_option maxRecDepth 16384

noncomputable section

namespace Cert.Kernel3Ideal.Hand

open Cert.Kernel3Ideal Cert.Kernel3Ideal.Gen Cert.Kernel3Ideal.Value Idealize.ShloMosaic Idealize.ShloMosaic.TcCoe Idealize.SL.Sem
open scoped BigOperators

variable (m : (ℓ : Loc nD τ sig) → Buf (Elt Ideal) ℓ) (ρ : Dev nD → PrngReg) (c : Dev nD)

/-- The head outputs, the weight and the residual, as launched. -/
abbrev hmArr : S8192x1024.Idx → EReal := m ((c : Thread nD τ).loc main_arg0)
abbrev haArr : S8192x1024.Idx → EReal := m ((c : Thread nD τ).loc main_arg1)
abbrev wArr : S2048x2048.Idx → EReal := m ((c : Thread nD τ).loc main_arg2)
abbrev xArr : S8192x2048.Idx → EReal := m ((c : Thread nD τ).loc main_arg3)

/-- The block index of every window at every grid point. -/
theorem index_closed : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 1 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0 :=
  (by decide +kernel : ∀ t : Fin grid0.N, _)

variable (t : Fin cfg0.N)

theorem point_lt : t.val < 16 := t.isLt

/-- Row `a` of block `t`. -/
abbrev rowOf (a : Fin 512) : Fin 8192 := ⟨512 * t.val + a.val, by have := point_lt t; omega⟩

/-- The blocks the body is handed at a point, read from the arrays as launched. -/
theorem hm_block (a : Fin 512) (k : Fin 1024) : iblk m c 0 t (ix2 a k) = hmArr m c (ix2 (rowOf t a) k) := by
  obtain ⟨h0, h1, -⟩ := index_closed t
  show V m c (Pipeline.arrRef spec0 0) (((cfg0.win 0).blk t).view.emb (ix2 a k)) = _
  refine congrArg (hmArr m c) (funext fun d => Fin.ext ?_)
  match d with
  | ⟨0, _⟩ => show win0_0.index t (0 : Fin 2) * 512 + 1 * a.val = 512 * t.val + a.val; omega
  | ⟨1, _⟩ => show win0_0.index t (1 : Fin 2) * 1024 + 1 * k.val = k.val; omega
theorem ha_block (a : Fin 512) (k : Fin 1024) : iblk m c 1 t (ix2 a k) = haArr m c (ix2 (rowOf t a) k) := by
  obtain ⟨-, -, h0, h1, -⟩ := index_closed t
  show V m c (Pipeline.arrRef spec0 1) (((cfg0.win 1).blk t).view.emb (ix2 a k)) = _
  refine congrArg (haArr m c) (funext fun d => Fin.ext ?_)
  match d with
  | ⟨0, _⟩ => show win0_1.index t (0 : Fin 2) * 512 + 1 * a.val = 512 * t.val + a.val; omega
  | ⟨1, _⟩ => show win0_1.index t (1 : Fin 2) * 1024 + 1 * k.val = k.val; omega
theorem upper_block (k : Fin 1024) (b : Fin 2048) : iblk m c 2 t (ix2 k b) = wArr m c (ix2 ⟨k.val, by omega⟩ b) := by
  obtain ⟨-, -, -, -, h0, h1, -⟩ := index_closed t
  show V m c (Pipeline.arrRef spec0 2) (((cfg0.win 2).blk t).view.emb (ix2 k b)) = _
  refine congrArg (wArr m c) (funext fun d => Fin.ext ?_)
  match d with
  | ⟨0, _⟩ => show win0_2.index t (0 : Fin 2) * 1024 + 1 * k.val = k.val; omega
  | ⟨1, _⟩ => show win0_2.index t (1 : Fin 2) * 2048 + 1 * b.val = b.val; omega
theorem lower_block (k : Fin 1024) (b : Fin 2048) : iblk m c 3 t (ix2 k b) = wArr m c (ix2 ⟨1024 + k.val, by omega⟩ b) := by
  obtain ⟨-, -, -, -, -, -, h0, h1, -⟩ := index_closed t
  show V m c (Pipeline.arrRef spec0 3) (((cfg0.win 3).blk t).view.emb (ix2 k b)) = _
  refine congrArg (wArr m c) (funext fun d => Fin.ext ?_)
  match d with
  | ⟨0, _⟩ => show win0_3.index t (0 : Fin 2) * 1024 + 1 * k.val = 1024 + k.val; omega
  | ⟨1, _⟩ => show win0_3.index t (1 : Fin 2) * 2048 + 1 * b.val = b.val; omega
theorem x_block (a : Fin 512) (b : Fin 2048) : iblk m c 4 t (ix2 a b) = xArr m c (ix2 (rowOf t a) b) := by
  obtain ⟨-, -, -, -, -, -, -, -, h0, h1, -⟩ := index_closed t
  show V m c (Pipeline.arrRef spec0 4) (((cfg0.win 4).blk t).view.emb (ix2 a b)) = _
  refine congrArg (xArr m c) (funext fun d => Fin.ext ?_)
  match d with
  | ⟨0, _⟩ => show win0_4.index t (0 : Fin 2) * 512 + 1 * a.val = 512 * t.val + a.val; omega
  | ⟨1, _⟩ => show win0_4.index t (1 : Fin 2) * 2048 + 1 * b.val = b.val; omega

/-- The reference's result from the kernel's arguments. -/
abbrev result : S8192x2048.Idx → EReal :=
  Cert.Reference3Ideal.Read.val_main_v5 (F := Ideal) (hmArr m c) (haArr m c) (wArr m c) (xArr m c)

/-- The reference's result at an index: the residual and one sum for each half of the joined columns. -/
theorem result_apply (r : Fin 8192) (b : Fin 2048) : result m c (ix2 r b)
    = xArr m c (ix2 r b) + (∑ k : Fin 1024, hmArr m c (ix2 r k) * wArr m c (ix2 ⟨k.val, by omega⟩ b)
        + ∑ k : Fin 1024, haArr m c (ix2 r k) * wArr m c (ix2 ⟨1024 + k.val, by omega⟩ b)) := by
  unfold result
  rw [Cert.Reference3Ideal.Read.val_main_v5_apply]
  unfold Cert.Reference3Ideal.Read.val_main_v4 Cert.Reference3Ideal.Read.val_main_v2 Cert.Reference3Ideal.Read.val_main_v0 Cert.Reference3Ideal.Read.val_main_v1 Cert.Reference3Ideal.Read.val_main_v3
  pointwise

/-- What the body computes from the blocks at a point, at an index of its block. -/
theorem out_apply (a : Fin 512) (b : Fin 2048) :
    out0_5 (iblk m c 0 t) (iblk m c 1 t) (iblk m c 2 t) (iblk m c 3 t) (iblk m c 4 t) (ix2 a b)
      = result m c (ix2 (rowOf t a) b) := by
  unfold out0_5
  rw [View.canon_unit_zero (by funext d; fin_cases d <;> rfl)]
  have key : ∀ (A B : Vec Ideal S512x1024 .bf16) (U L : Vec Ideal S1024x2048 .bf16) (X : Vec Ideal S512x2048 .f32),
      k0_pay1 (F := Ideal) (View.ld X r0_0) (View.ld A r0_1) (View.ld U r0_2) (View.ld B r0_1) (View.ld L r0_2) (ix2 a b)
        = X (ix2 a b) + ∑ k, A (ix2 a k) * U (ix2 k b) + ∑ k, B (ix2 a k) * L (ix2 k b) := by
    intro A B U L X
    unfold_payloads
    pointwise
  refine (key _ _ _ _ _).trans ?_
  rw [result_apply, x_block, add_assoc]
  congr 2
  · exact Finset.sum_congr rfl fun k _ => by rw [hm_block, upper_block]
  · exact Finset.sum_congr rfl fun k _ => by rw [ha_block, lower_block]

/-- The kernel's result array after the run is the reference's result. -/
theorem final : (dats m 0 c).arrAt 5 cfg0.N = result m c := by
  refine (dats m 0 c).arrAt_eq_of_covers 5 (result m c) (by decide +kernel) fun t hf y => ?_
  blk_simp
  rw [after0_5]
  obtain ⟨a, b, rfl⟩ : ∃ (a : Fin 512) (b : Fin 2048), y = ix2 a b := ⟨y 0, y 1, eq_ix2 y⟩
  refine (out_apply m c t a b).trans (congrArg (result m c) (funext fun d => Fin.ext ?_))
  obtain ⟨-, -, -, -, -, -, -, -, -, -, h0, h1⟩ := index_closed t
  match d with
  | ⟨0, _⟩ => show 512 * t.val + a.val = win0_5.index t (0 : Fin 2) * 512 + 1 * a.val; omega
  | ⟨1, _⟩ => show b.val = win0_5.index t (1 : Fin 2) * 2048 + 1 * b.val; omega

/-- The value claim of the output projection. -/
theorem algebraic : Cert.algebraic_Kernel3Ideal_Reference3Ideal := by
  intro m g m' g' _ hargs
  refine ⟨fun c => result m c, ?_, ?_⟩
  · exact (θ_run defs _ _).mono (fun r h c => ⟨(h c).1.trans (final m c), (h c).2⟩) (run_blocks m g)
  · refine (θ_run Cert.Reference3Ideal.defs _ _).mono (fun r h c => ⟨(h c).1.trans ?_, (h c).2⟩) (Cert.Reference3Ideal.Value.run m' g')
    obtain ⟨e0, e1, e2, e3⟩ := hargs c
    rw [e0, e1, e2, e3]
    exact Cert.Reference3Ideal.Read.val_main_v5_eq _ _ _ _

end Cert.Kernel3Ideal.Hand

end
-- ==== Proof.Ffn.lean ====
/-
  The feed-forward block. After the run of its kernel the result array is the reference's: the residual plus the gated
  product of the normalised rows with the three weights. The kernel walks the hidden columns in eleven tiles of 512 and
  adds one partial product a tile to the residual; the reference sums over all 5632 hidden columns at once.
-/
module

public import proofs.«01_k».proof.Defs
public import proofs.«01_k».proof.Proof.Gen.Kernel2Ideal.Value
public import proofs.«01_k».proof.Proof.Gen.Reference2Ideal.Run
public import proofs.«01_k».proof.Proof.Gen.Reference2Ideal.Read
public import Idealize.ShloMosaic.Lib.Pointwise
public import Idealize.ShloMosaic.Lib.Pipeline.ValueKit

@[expose] public section

set_option maxRecDepth 16384

noncomputable section

namespace Cert.Kernel2Ideal.Hand

open Cert.Kernel2Ideal Cert.Kernel2Ideal.Gen Cert.Kernel2Ideal.Value Idealize.ShloMosaic Idealize.ShloMosaic.TcCoe Idealize.SL.Sem
open scoped BigOperators

variable (m : (ℓ : Loc nD τ sig) → Buf (Elt Ideal) ℓ) (ρ : Dev nD → PrngReg) (c : Dev nD)

/-- The residual, the norm's weights and the three weights, as launched. -/
abbrev xArr : S8192x2048.Idx → EReal := m ((c : Thread nD τ).loc main_arg0)
abbrev nArr : S2048.Idx → EReal := m ((c : Thread nD τ).loc main_arg1)
abbrev gArr : S2048x5632.Idx → EReal := m ((c : Thread nD τ).loc main_arg2)
abbrev uArr : S2048x5632.Idx → EReal := m ((c : Thread nD τ).loc main_arg3)
abbrev dArr : S5632x2048.Idx → EReal := m ((c : Thread nD τ).loc main_arg4)

/-- The block index of every window at every grid point. -/
theorem index_closed : ∀ t : Fin cfg0.N,
    win0_0.index t (0 : Fin 2) = t.val / 11 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = t.val % 11
    ∧ win0_3.index t (0 : Fin 2) = 0 ∧ win0_3.index t (1 : Fin 2) = t.val % 11
    ∧ win0_4.index t (0 : Fin 2) = t.val % 11 ∧ win0_4.index t (1 : Fin 2) = 0
    ∧ win0_5.index t (0 : Fin 2) = t.val / 11 ∧ win0_5.index t (1 : Fin 2) = 0 :=
  (by decide +kernel : ∀ t : Fin grid0.N, _)

theorem point_lt (t : Fin cfg0.N) : t.val < 88 := lt_of_lt_of_eq t.isLt N_0

/-- Row `a` of row block `q`, and column `x` of hidden tile `s`. -/
abbrev rowOf (q : Fin 8) (a : Fin 1024) : Fin 8192 := ⟨1024 * q.val + a.val, by omega⟩
abbrev colOf (s : Fin 11) (x : Fin 512) : Fin 5632 := ⟨512 * s.val + x.val, by omega⟩
/-- The row block and the hidden tile of a point. -/
abbrev qOf (t : Fin cfg0.N) : Fin 8 := ⟨t.val / 11, by have := point_lt t; omega⟩
abbrev sOf (t : Fin cfg0.N) : Fin 11 := ⟨t.val % 11, by omega⟩

variable (t : Fin cfg0.N)

/-- The blocks the body is handed at a point, read from the arrays as launched. -/
theorem x_block (a : Fin 1024) (k : Fin 2048) : iblk m c 0 t (ix2 a k) = xArr m c (ix2 (rowOf (qOf t) a) k) := by
  obtain ⟨h0, h1, -⟩ := index_closed t
  show V m c (Pipeline.arrRef spec0 0) (((cfg0.win 0).blk t).view.emb (ix2 a k)) = _
  refine congrArg (xArr m c) (funext fun d => Fin.ext ?_)
  match d with
  | ⟨0, _⟩ => show win0_0.index t (0 : Fin 2) * 1024 + 1 * a.val = 1024 * (t.val / 11) + a.val; omega
  | ⟨1, _⟩ => show win0_0.index t (1 : Fin 2) * 2048 + 1 * k.val = k.val; omega
theorem g_block (k : Fin 2048) (x : Fin 512) : iblk m c 2 t (ix2 k x) = gArr m c (ix2 k (colOf (sOf t) x)) := by
  obtain ⟨-, -, -, -, h0, h1, -⟩ := index_closed t
  show V m c (Pipeline.arrRef spec0 2) (((cfg0.win 2).blk t).view.emb (ix2 k x)) = _
  refine congrArg (gArr m c) (funext fun d => Fin.ext ?_)
  match d with
  | ⟨0, _⟩ => show win0_2.index t (0 : Fin 2) * 2048 + 1 * k.val = k.val; omega
  | ⟨1, _⟩ => show win0_2.index t (1 : Fin 2) * 512 + 1 * x.val = 512 * (t.val % 11) + x.val; omega
theorem u_block (k : Fin 2048) (x : Fin 512) : iblk m c 3 t (ix2 k x) = uArr m c (ix2 k (colOf (sOf t) x)) := by
  obtain ⟨-, -, -, -, -, -, h0, h1, -⟩ := index_closed t
  show V m c (Pipeline.arrRef spec0 3) (((cfg0.win 3).blk t).view.emb (ix2 k x)) = _
  refine congrArg (uArr m c) (funext fun d => Fin.ext ?_)
  match d with
  | ⟨0, _⟩ => show win0_3.index t (0 : Fin 2) * 2048 + 1 * k.val = k.val; omega
  | ⟨1, _⟩ => show win0_3.index t (1 : Fin 2) * 512 + 1 * x.val = 512 * (t.val % 11) + x.val; omega
theorem d_block (x : Fin 512) (b : Fin 2048) : iblk m c 4 t (ix2 x b) = dArr m c (ix2 (colOf (sOf t) x) b) := by
  obtain ⟨-, -, -, -, -, -, -, -, h0, h1, -⟩ := index_closed t
  show V m c (Pipeline.arrRef spec0 4) (((cfg0.win 4).blk t).view.emb (ix2 x b)) = _
  refine congrArg (dArr m c) (funext fun d => Fin.ext ?_)
  match d with
  | ⟨0, _⟩ => show win0_4.index t (0 : Fin 2) * 512 + 1 * x.val = 512 * (t.val % 11) + x.val; omega
  | ⟨1, _⟩ => show win0_4.index t (1 : Fin 2) * 2048 + 1 * b.val = b.val; omega
theorem n_block (k : Fin 2048) : iblk m c 1 t (ix2 (0 : Fin 1) k) = nArr m c (ix1 k) := by
  obtain ⟨-, -, h0, h1, -⟩ := index_closed t
  have e : ((cfg0.win 1).blk t).view.emb (ix2 (0 : Fin 1) k) = ix2 (0 : Fin 1) k := funext fun d => Fin.ext (by
    match d with
    | ⟨0, _⟩ => show win0_1.index t (0 : Fin 2) * 1 + 1 * 0 = 0; omega
    | ⟨1, _⟩ => show win0_1.index t (1 : Fin 2) * 2048 + 1 * k.val = k.val; omega)
  show V m c (Pipeline.arrRef spec0 1) (((cfg0.win 1).blk t).view.emb (ix2 (0 : Fin 1) k)) = _
  rw [e]
  show V m c main_v0 (ix2 (0 : Fin 1) k) = _
  entry_read
  pointwise

/-! ### The mathematics -/

/-- The normalised row `r` at column `k`. -/
def hVal (r : Fin 8192) (k : Fin 2048) : EReal :=
  Cert.Reference2Ideal.Read.val_main_v12 (F := Ideal) (xArr m c) (nArr m c) (ix2 r k)
/-- The gated product at row `r` and hidden column `j`. -/
def actVal (r : Fin 8192) (j : Fin 5632) : EReal :=
  Cert.Reference2Ideal.Read.val_main_v19 (F := Ideal) (xArr m c) (nArr m c) (gArr m c) (uArr m c) (ix2 r j)
/-- What hidden tile `s` adds to row `r`, column `b` of the result. -/
def tileVal (r : Fin 8192) (s : Fin 11) (b : Fin 2048) : EReal :=
  ∑ x : Fin 512, actVal m c r (colOf s x) * dArr m c (ix2 (colOf s x) b)

/-- The reference's result from the kernel's arguments. -/
abbrev result : S8192x2048.Idx → EReal :=
  Cert.Reference2Ideal.Read.val_main_v21 (F := Ideal) (xArr m c) (nArr m c) (gArr m c) (uArr m c) (dArr m c)

/-- The gated product from the normalised row. -/
theorem actVal_eq (r : Fin 8192) (j : Fin 5632) : actVal m c r j
    = (∑ k, hVal m c r k * gArr m c (ix2 k j)) * Ideal.logistic (∑ k, hVal m c r k * gArr m c (ix2 k j))
      * ∑ k, hVal m c r k * uArr m c (ix2 k j) := by
  unfold actVal hVal
  open Cert.Reference2Ideal.Read in
  unfold val_main_v19 val_main_v17 val_main_call0_v5 val_main_call0_v4 val_main_call0_v3 val_main_call0_v2 val_main_call0_v1 val_main_call0_v0 val_main_v18 val_main_v16 val_main_call0_cst val_main_call0_cst_0 val_main_v13 val_main_v14
  generalize Cert.Reference2Ideal.Read.val_main_v12 (F := Ideal) (xArr m c) (nArr m c) = h
  pointwise
  rfl

/-- The reference's result at an index. -/
theorem result_apply (r : Fin 8192) (b : Fin 2048) : result m c (ix2 r b)
    = xArr m c (ix2 r b) + ∑ j : Fin 5632, actVal m c r j * dArr m c (ix2 j b) := by
  unfold result
  rw [Cert.Reference2Ideal.Read.val_main_v21_apply]
  unfold Cert.Reference2Ideal.Read.val_main_v20 Cert.Reference2Ideal.Read.val_main_v15 actVal
  generalize Cert.Reference2Ideal.Read.val_main_v19 (F := Ideal) _ _ _ _ = h
  pointwise

/-! ### The body at an index -/

theorem pay1_apply (X : Vec Ideal S1024x2048 .f32) (W : Vec Ideal S1x2048 .f32)
    (q : Fin 8) (hX : ∀ a k, X (ix2 a k) = xArr m c (ix2 (rowOf q a) k)) (hW : ∀ k, W (ix2 (0 : Fin 1) k) = nArr m c (ix1 k))
    (a : Fin 1024) (k : Fin 2048) : k0_pay1 (F := Ideal) X W (ix2 a k) = hVal m c (rowOf q a) k := by
  unfold hVal
  open Cert.Reference2Ideal.Read in
  unfold val_main_v12 val_main_v11 val_main_v10 val_main_v9 val_main_v8 val_main_v7 val_main_v6 val_main_v5 val_main_v4 val_main_v3 val_main_v2 val_main_v1 val_main_v0 val_main_cst val_main_cst_0 val_main_cst_1
  unfold_payloads
  pointwise
  simp only [hX, hW]

/-- A tile's gated product, from a stored block `H` of normalised rows. -/
theorem tile_apply (H : Vec Ideal S1024x2048 .bf16) (U G : Vec Ideal S2048x512 .bf16) (D : Vec Ideal S512x2048 .bf16)
    (q : Fin 8) (s : Fin 11) (hH : ∀ a k, H (ix2 a k) = hVal m c (rowOf q a) k)
    (hG : ∀ k x, G (ix2 k x) = gArr m c (ix2 k (colOf s x))) (hU : ∀ k x, U (ix2 k x) = uArr m c (ix2 k (colOf s x)))
    (hD : ∀ x b, D (ix2 x b) = dArr m c (ix2 (colOf s x) b)) (a : Fin 1024) (b : Fin 2048) :
    (∑ x : Fin 512, (∑ k, H (ix2 a k) * G (ix2 k x)) * Ideal.logistic (∑ k, H (ix2 a k) * G (ix2 k x))
      * (∑ k, H (ix2 a k) * U (ix2 k x)) * D (ix2 x b)) = tileVal m c (rowOf q a) s b := by
  unfold tileVal
  refine Finset.sum_congr rfl fun x _ => ?_
  rw [actVal_eq]
  simp only [hH, hG, hU, hD]

/-- The two stored sums at an index, over the normalised rows. -/
theorem pay3_apply (X : Vec Ideal S1024x2048 .f32) (W : Vec Ideal S1x2048 .f32) (G U : Vec Ideal S2048x512 .bf16)
    (D : Vec Ideal S512x2048 .bf16) (a : Fin 1024) (b : Fin 2048) : k0_pay3 (F := Ideal) X W G U D (ix2 a b)
    = X (ix2 a b) + ∑ x : Fin 512, (∑ k, k0_pay1 (F := Ideal) X W (ix2 a k) * G (ix2 k x)) * Ideal.logistic (∑ k, k0_pay1 (F := Ideal) X W (ix2 a k) * G (ix2 k x))
      * (∑ k, k0_pay1 (F := Ideal) X W (ix2 a k) * U (ix2 k x)) * D (ix2 x b) := by
  unfold k0_pay3
  generalize k0_pay1 (F := Ideal) X W = H
  pointwise
theorem pay4_apply (X : Vec Ideal S1024x2048 .f32) (H : Vec Ideal S1024x2048 .bf16) (G U : Vec Ideal S2048x512 .bf16)
    (D : Vec Ideal S512x2048 .bf16) (a : Fin 1024) (b : Fin 2048) : k0_pay4 (F := Ideal) X H G U D (ix2 a b)
    = X (ix2 a b) + ∑ x : Fin 512, (∑ k, H (ix2 a k) * G (ix2 k x)) * Ideal.logistic (∑ k, H (ix2 a k) * G (ix2 k x))
      * (∑ k, H (ix2 a k) * U (ix2 k x)) * D (ix2 x b) := by
  unfold k0_pay4
  pointwise

/-! ### The states between points -/

/-- What the output block and the kept normalised rows hold after point `n`: the residual plus the hidden tiles walked so
    far in this row block, and the normalised rows of the block. -/
def After (n : ℕ) (hn : n < 88) (st : Vec Ideal S1024x2048 .f32 × Vec Ideal S1024x2048 .bf16) : Prop :=
  (∀ (a : Fin 1024) (b : Fin 2048), st.1 (ix2 a b) = xArr m c (ix2 (rowOf ⟨n / 11, by omega⟩ a) b)
      + ∑ s ∈ Finset.range (n % 11 + 1), if h : s < 11 then tileVal m c (rowOf ⟨n / 11, by omega⟩ a) ⟨s, h⟩ b else 0)
  ∧ ∀ (a : Fin 1024) (k : Fin 2048), st.2 (ix2 a k) = hVal m c (rowOf ⟨n / 11, by omega⟩ a) k

/-- The first point of a row block. -/
theorem step_first (acc : Vec Ideal S1024x2048 .f32 × Vec Ideal S1024x2048 .bf16) (h0 : t.val % 11 = 0) :
    After m c t.val (point_lt t) (stAt0 m c t.val t.isLt acc) := by
  rw [stAt0_A m c t acc h0 (by omega)]
  have hH := pay1_apply m c (iblk m c 0 t) (iblk m c 1 t) (qOf t) (x_block m c t) (n_block m c t)
  refine ⟨fun a b => ?_, fun a k => ?_⟩
  · frame_out
    refine (pay3_apply _ _ _ _ _ a b).trans ?_
    rw [tile_apply m c _ _ _ _ (qOf t) (sOf t) hH (g_block m c t) (u_block m c t) (d_block m c t) a b, x_block]
    have e : sOf t = ⟨0, by omega⟩ := Fin.ext h0
    rw [e, h0, Finset.sum_range_one, dif_pos (by omega)]
  · frame_out
    unfold k0_pay2
    rw [shapeCast_self]
    exact hH a k

/-- Any later point of a row block. -/
theorem step_next (acc : Vec Ideal S1024x2048 .f32 × Vec Ideal S1024x2048 .bf16) (h0 : ¬t.val % 11 = 0)
    (hacc : After m c (t.val - 1) (by have := point_lt t; omega) acc) :
    After m c t.val (point_lt t) (stAt0 m c t.val t.isLt acc) := by
  rw [stAt0_B m c t acc h0 (by omega)]
  obtain ⟨h1, h2⟩ := hacc
  have eq : (⟨(t.val - 1) / 11, by have := point_lt t; omega⟩ : Fin 8) = qOf t := Fin.ext (by show (t.val - 1) / 11 = t.val / 11; omega)
  have es : (t.val - 1) % 11 + 1 = t.val % 11 := by omega
  simp only [eq, es] at h1 h2
  refine ⟨fun a b => ?_, fun a k => ?_⟩
  · frame_out
    have e : View.read (Elt Ideal) (View.whole cc0_scratch0) ((Memref.isWhole_whole cc0_scratch0).unread acc.2) = acc.2 :=
      (Memref.isWhole_whole cc0_scratch0).read_unread _
    rw [e]
    refine (pay4_apply _ _ _ _ _ a b).trans ?_
    rw [tile_apply m c _ _ _ _ (qOf t) (sOf t) h2 (g_block m c t) (u_block m c t) (d_block m c t) a b, h1,
      Finset.sum_range_succ, dif_pos (by omega), add_assoc]
  · exact h2 a k

/-- Every point's state. -/
theorem state (j : ℕ) (hj : 0 + j < cfg0.N) :
    After m c j (lt_of_lt_of_eq (show j < cfg0.N by omega) N_0)
      (Pipeline.accAt (fun n h => stAt0 m c n h junk0) (stAt0 m c) 0 j hj) := by
  induction j with
  | zero => exact step_first m c ⟨0, hj⟩ junk0 rfl
  | succ j ih =>
    rw [Pipeline.accAt_succ]
    have hj' : j + 1 < cfg0.N := by omega
    have e : ∀ acc, stAt0 m c (0 + (j + 1)) hj acc = stAt0 m c (j + 1) hj' acc := fun acc => by
      congr 1; omega
    rw [e]
    by_cases h : (j + 1) % 11 = 0
    · exact step_first m c ⟨j + 1, hj'⟩ _ h
    · exact step_next m c ⟨j + 1, hj'⟩ _ h (ih (by omega))

/-- The kernel's result array is the reference's result. -/
theorem final : G5 m c = result m c := by
  funext i
  obtain ⟨r, b, rfl⟩ : ∃ (r : Fin 8192) (b : Fin 2048), i = ix2 r b := ⟨i 0, i 1, eq_ix2 i⟩
  unfold G5
  have hp : pt5Of (ix2 r b) = 11 * (r.val / 1024) + 10 := by
    show 11 * (1 * (r.val / 1024 - 0) + 1 * (b.val / 2048 - 0)) + 10 = _
    omega
  have hlt : pt5Of (ix2 r b) < 88 := by rw [hp]; omega
  rw [dif_pos (lt_of_lt_of_eq hlt N_0.symm)]
  have hl : loc5Of (ix2 r b) = ix2 (⟨r.val % 1024, Nat.mod_lt _ (by decide)⟩ : Fin 1024) b := funext fun d => Fin.ext (by
    match d with
    | ⟨0, _⟩ => rfl
    | ⟨1, _⟩ => show b.val % 2048 = b.val; omega)
  rw [hl, (state m c _ _).1]
  have hr : rowOf ⟨pt5Of (ix2 r b) / 11, by omega⟩ ⟨r.val % 1024, Nat.mod_lt _ (by decide)⟩ = r :=
    Fin.ext (by show 1024 * (pt5Of (ix2 r b) / 11) + r.val % 1024 = r.val; rw [hp]; omega)
  have hm : pt5Of (ix2 r b) % 11 + 1 = 11 := by rw [hp]; omega
  rw [hr, hm, result_apply]
  congr 1
  rw [Finset.sum_range]
  unfold tileVal
  rw [← (finProdFinEquiv (m := 11) (n := 512)).sum_comp, Fintype.sum_prod_type]
  refine Finset.sum_congr rfl fun s _ => ?_
  rw [dif_pos s.isLt]
  refine Finset.sum_congr rfl fun x _ => ?_
  have ej : colOf s x = finProdFinEquiv (s, x) := Fin.ext (by show 512 * s.val + x.val = x.val + 512 * s.val; omega)
  rw [← ej, hr]

/-- The value claim of the feed-forward block. -/
theorem algebraic : Cert.algebraic_Kernel2Ideal_Reference2Ideal := by
  intro m g m' g' _ hargs
  refine ⟨fun c => result m c, ?_, ?_⟩
  · exact (θ_run defs _ _).mono (fun r h c => ⟨(h c).1.trans (final m c), (h c).2⟩) (run m g)
  · refine (θ_run Cert.Reference2Ideal.defs _ _).mono (fun r h c => ⟨(h c).1.trans ?_, (h c).2⟩) (Cert.Reference2Ideal.Value.run m' g')
    obtain ⟨e0, e1, e2, e3, e4⟩ := hargs c
    rw [e0, e1, e2, e3, e4]
    exact Cert.Reference2Ideal.Read.val_main_v21_eq _ _ _ _ _

end Cert.Kernel2Ideal.Hand

end
-- ==== Proof.AttnPay.lean ====
module

public import proofs.«01_k».proof.Proof.Gen.KernelIdeal.Skeleton
public import Idealize.ShloMosaic.Lib.Pointwise
public import Idealize.ShloMosaic.Lib.Pipeline.ValueKit

/-! The kernel's stored values read at an index: what each of the attention's payloads is there, as an expression of extended
reals over the values it was computed from. -/

@[expose] public section

set_option maxRecDepth 16384
set_option maxHeartbeats 4000000

noncomputable section

namespace Cert.KernelIdeal.Attn

open Cert.KernelIdeal Cert.KernelIdeal.Gen Idealize.ShloMosaic Idealize.ShloMosaic.TcCoe Idealize.SL.Sem
open scoped BigOperators

/-- The four entries of a row of 512 that fall on lane `x`, added first to last. -/
def lane4 (p : Fin 512 → EReal) (x : Fin 128) : EReal :=
  p ⟨0 + x.val, by omega⟩ + p ⟨128 + x.val, by omega⟩ + p ⟨256 + x.val, by omega⟩ + p ⟨384 + x.val, by omega⟩

theorem pay3_apply (v34 : Vec Ideal S1024x128 .bf16) (v37 : Vec Ideal S512x128 .bf16) (r : Fin 1024) (x : Fin 512) :
    k0_pay3 (F := Ideal) v34 v37 (ix3 (0 : Fin 1) r x) = ∑ e : Fin 128, v34 (ix2 r e) * v37 (ix2 x e) := by unfold k0_pay3; pointwise

theorem pay4_apply (v44 : Vec Ideal S1024x128 .bf16) (v47 : Vec Ideal S512x128 .bf16) (r : Fin 1024) (x : Fin 512) :
    k0_pay4 (F := Ideal) v44 v47 (ix3 (0 : Fin 1) r x) = ∑ e : Fin 128, v44 (ix2 r e) * v47 (ix2 x e) := by unfold k0_pay4; pointwise

theorem pay5_apply (v170 : Vec Ideal S1024x128 .bf16) (v174 : Vec Ideal S512x128 .bf16) (r : Fin 1024) (x : Fin 512) :
    k0_pay5 (F := Ideal) v170 v174 (ix3 (0 : Fin 1) r x) = ∑ e : Fin 128, v170 (ix2 r e) * v174 (ix2 x e) := by unfold k0_pay5; pointwise

theorem pay6_apply (v183 : Vec Ideal S1024x128 .bf16) (v187 : Vec Ideal S512x128 .bf16) (r : Fin 1024) (x : Fin 512) :
    k0_pay6 (F := Ideal) v183 v187 (ix3 (0 : Fin 1) r x) = ∑ e : Fin 128, v183 (ix2 r e) * v187 (ix2 x e) := by unfold k0_pay6; pointwise

theorem pay10_apply (v468 : Vec Ideal S1024x128 .bf16) (v471 : Vec Ideal S512x128 .bf16) (r : Fin 1024) (x : Fin 512) :
    k0_pay10 (F := Ideal) v468 v471 (ix3 (0 : Fin 1) r x) = ∑ e : Fin 128, v468 (ix2 r e) * v471 (ix2 x e) := by unfold k0_pay10; pointwise

theorem pay22_apply (v99 : Vec Ideal S1024x128 .bf16) (v103 : Vec Ideal S512x128 .bf16) (r : Fin 1024) (x : Fin 512) :
    k0_pay22 (F := Ideal) v99 v103 (ix3 (0 : Fin 1) r x) = ∑ e : Fin 128, v99 (ix2 r e) * v103 (ix2 x e) := by unfold k0_pay22; pointwise

theorem pay20_apply (v86 : Vec Ideal S1024x128 .bf16) (v90 : Vec Ideal S512x128 .bf16) (r : Fin 1024) (x : Fin 512) :
    k0_pay20 (F := Ideal) v86 v90 (ix2 r x) = ∑ e : Fin 128, v86 (ix2 r e) * v90 (ix2 x e) := by unfold k0_pay20; pointwise

theorem pay85_apply (v456 : Vec Ideal S1024x128 .bf16) (v459 : Vec Ideal S512x128 .bf16) (r : Fin 1024) (x : Fin 512) :
    k0_pay85 (F := Ideal) v456 v459 (ix2 r x) = ∑ e : Fin 128, v456 (ix2 r e) * v459 (ix2 x e) := by unfold k0_pay85; pointwise

theorem pay123_apply (v521 : Vec Ideal S1024x128 .bf16) (v525 : Vec Ideal S512x128 .bf16) (r : Fin 1024) (x : Fin 512) :
    k0_pay123 (F := Ideal) v521 v525 (ix2 r x) = ∑ e : Fin 128, v521 (ix2 r e) * v525 (ix2 x e) := by unfold k0_pay123; pointwise

theorem pay131_apply (v571 : Vec Ideal S1024x128 .bf16) (v575 : Vec Ideal S512x128 .bf16) (r : Fin 1024) (x : Fin 512) :
    k0_pay131 (F := Ideal) v571 v575 (ix2 r x) = ∑ e : Fin 128, v571 (ix2 r e) * v575 (ix2 x e) := by unfold k0_pay131; pointwise

theorem pay160_apply (v41 : Vec Ideal S1024x128 .bf16) (v45 : Vec Ideal S512x128 .bf16) (r : Fin 1024) (x : Fin 512) :
    k0_pay160 (F := Ideal) v41 v45 (ix2 r x) = ∑ e : Fin 128, v41 (ix2 r e) * v45 (ix2 x e) := by unfold k0_pay160; pointwise

theorem pay173_apply (v144 : Vec Ideal S1024x128 .bf16) (v148 : Vec Ideal S512x128 .bf16) (r : Fin 1024) (x : Fin 512) :
    k0_pay173 (F := Ideal) v144 v148 (ix2 r x) = ∑ e : Fin 128, v144 (ix2 r e) * v148 (ix2 x e) := by unfold k0_pay173; pointwise

theorem pay61_apply (v199 : Vec Ideal S512x128 .bf16) (v203 : Vec Ideal S512x128 .bf16) (r : Fin 512) (x : Fin 512) :
    k0_pay61 (F := Ideal) v199 v203 (ix3 (0 : Fin 1) r x) = ∑ e : Fin 128, v199 (ix2 r e) * v203 (ix2 x e) := by unfold k0_pay61; pointwise

theorem pay62_apply (v212 : Vec Ideal S512x128 .bf16) (v216 : Vec Ideal S512x128 .bf16) (r : Fin 512) (x : Fin 512) :
    k0_pay62 (F := Ideal) v212 v216 (ix3 (0 : Fin 1) r x) = ∑ e : Fin 128, v212 (ix2 r e) * v216 (ix2 x e) := by unfold k0_pay62; pointwise

theorem pay102_apply (v199 : Vec Ideal S512x128 .bf16) (v203 : Vec Ideal S512x128 .bf16) (r : Fin 512) (x : Fin 512) :
    k0_pay102 (F := Ideal) v199 v203 (ix3 (0 : Fin 1) r x) = ∑ e : Fin 128, v199 (ix2 r e) * v203 (ix2 x e) := by unfold k0_pay102; pointwise

theorem pay103_apply (v212 : Vec Ideal S512x128 .bf16) (v216 : Vec Ideal S512x128 .bf16) (r : Fin 512) (x : Fin 512) :
    k0_pay103 (F := Ideal) v212 v216 (ix3 (0 : Fin 1) r x) = ∑ e : Fin 128, v212 (ix2 r e) * v216 (ix2 x e) := by unfold k0_pay103; pointwise

theorem pay185_apply (v253 : Vec Ideal S512x128 .bf16) (v257 : Vec Ideal S512x128 .bf16) (r : Fin 512) (x : Fin 512) :
    k0_pay185 (F := Ideal) v253 v257 (ix2 r x) = ∑ e : Fin 128, v253 (ix2 r e) * v257 (ix2 x e) := by unfold k0_pay185; pointwise

theorem pay198_apply (v356 : Vec Ideal S512x128 .bf16) (v360 : Vec Ideal S512x128 .bf16) (r : Fin 512) (x : Fin 512) :
    k0_pay198 (F := Ideal) v356 v360 (ix2 r x) = ∑ e : Fin 128, v356 (ix2 r e) * v360 (ix2 x e) := by unfold k0_pay198; pointwise

theorem pay9_apply (v460 : FVec Ideal S1024x512 .f32) (r : Fin 1024) (x : Fin 512) :
    k0_pay9 (F := Ideal) v460 (ix3 (0 : Fin 1) r x) = v460 (ix2 r x) := by unfold k0_pay9; pointwise

theorem pay21_apply (v91 : FVec Ideal S1024x512 .f32) (r : Fin 1024) (x : Fin 512) :
    k0_pay21 (F := Ideal) v91 (ix3 (0 : Fin 1) r x) = v91 (ix2 r x) := by unfold k0_pay21; pointwise

theorem pay130_apply (v532 : FVec Ideal S1024x128 .f32) (r : Fin 1024) (x : Fin 128) :
    k0_pay130 (F := Ideal) v532 (ix3 (0 : Fin 1) r x) = v532 (ix2 r x) := by unfold k0_pay130; pointwise

theorem pay156_apply (v582 : FVec Ideal S1024x128 .f32) (r : Fin 1024) (x : Fin 128) :
    k0_pay156 (F := Ideal) v582 (ix3 (0 : Fin 1) r x) = v582 (ix2 r x) := by unfold k0_pay156; pointwise

theorem pay170_apply (v122 : FVec Ideal S1024x128 .f32) (r : Fin 1024) (x : Fin 128) :
    k0_pay170 (F := Ideal) v122 (ix3 (0 : Fin 1) r x) = v122 (ix2 r x) := by unfold k0_pay170; pointwise

theorem pay124_apply (v527 : Vec Ideal S1x1024x128 .f32) (r : Fin 1024) (x : Fin 128) :
    k0_pay124 (F := Ideal) v527 (ix2 r x) = v527 (ix3 (0 : Fin 1) r x) := by unfold k0_pay124; pointwise

theorem pay132_apply (v577 : Vec Ideal S1x1024x128 .f32) (r : Fin 1024) (x : Fin 128) :
    k0_pay132 (F := Ideal) v577 (ix2 r x) = v577 (ix3 (0 : Fin 1) r x) := by unfold k0_pay132; pointwise

theorem pay58_apply (v185 : Vec Ideal S1x1024x256 .f32) (r : Fin 1024) (x : Fin 256) :
    k0_pay58 (F := Ideal) v185 (ix2 r x) = v185 (ix3 (0 : Fin 1) r x) := by unfold k0_pay58; pointwise

theorem pay13_apply (v0 : Elt Ideal .f32) (v29 : Vec Ideal S1x1024x512 .f32) (r : Fin 1024) (x : Fin 512) :
    k0_pay13 (F := Ideal) v0 v29 (ix2 r x) = Ideal.exp2 (v29 (ix3 (0 : Fin 1) r x) - v0) := by unfold k0_pay13; pointwise <;> rfl

theorem pay23_apply (v0 : Elt Ideal .f32) (v113 : Vec Ideal S1x1024x512 .f32) (r : Fin 1024) (x : Fin 512) :
    k0_pay23 (F := Ideal) v0 v113 (ix2 r x) = Ideal.exp2 (v113 (ix3 (0 : Fin 1) r x) - v0) := by unfold k0_pay23; pointwise <;> rfl

theorem pay26_apply (v0 : Elt Ideal .f32) (v139 : Vec Ideal S1x1024x512 .f32) (r : Fin 1024) (x : Fin 512) :
    k0_pay26 (F := Ideal) v0 v139 (ix2 r x) = Ideal.exp2 (v139 (ix3 (0 : Fin 1) r x) - v0) := by unfold k0_pay26; pointwise <;> rfl

theorem pay47_apply (v0 : Elt Ideal .f32) (v35 : Vec Ideal S1x1024x512 .f32) (r : Fin 1024) (x : Fin 512) :
    k0_pay47 (F := Ideal) v0 v35 (ix2 r x) = Ideal.exp2 (v35 (ix3 (0 : Fin 1) r x) - v0) := by unfold k0_pay47; pointwise <;> rfl

theorem pay53_apply (v0 : Elt Ideal .f32) (v114 : Vec Ideal S1x1024x512 .f32) (r : Fin 1024) (x : Fin 512) :
    k0_pay53 (F := Ideal) v0 v114 (ix2 r x) = Ideal.exp2 (v114 (ix3 (0 : Fin 1) r x) - v0) := by unfold k0_pay53; pointwise <;> rfl

theorem pay63_apply (v0 : Elt Ideal .f32) (v227 : Vec Ideal S1x512x512 .f32) (r : Fin 512) (x : Fin 512) :
    k0_pay63 (F := Ideal) v0 v227 (ix2 r x) = Ideal.exp2 (v227 (ix3 (0 : Fin 1) r x) - v0) := by unfold k0_pay63; pointwise <;> rfl

theorem pay71_apply (v0 : Elt Ideal .f32) (v306 : Vec Ideal S1x512x512 .f32) (r : Fin 512) (x : Fin 512) :
    k0_pay71 (F := Ideal) v0 v306 (ix2 r x) = Ideal.exp2 (v306 (ix3 (0 : Fin 1) r x) - v0) := by unfold k0_pay71; pointwise <;> rfl

theorem pay88_apply (v0 : Elt Ideal .f32) (v35 : Vec Ideal S1x1024x512 .f32) (r : Fin 1024) (x : Fin 512) :
    k0_pay88 (F := Ideal) v0 v35 (ix2 r x) = Ideal.exp2 (v35 (ix3 (0 : Fin 1) r x) - v0) := by unfold k0_pay88; pointwise <;> rfl

theorem pay94_apply (v0 : Elt Ideal .f32) (v114 : Vec Ideal S1x1024x512 .f32) (r : Fin 1024) (x : Fin 512) :
    k0_pay94 (F := Ideal) v0 v114 (ix2 r x) = Ideal.exp2 (v114 (ix3 (0 : Fin 1) r x) - v0) := by unfold k0_pay94; pointwise <;> rfl

theorem pay104_apply (v0 : Elt Ideal .f32) (v227 : Vec Ideal S1x512x512 .f32) (r : Fin 512) (x : Fin 512) :
    k0_pay104 (F := Ideal) v0 v227 (ix2 r x) = Ideal.exp2 (v227 (ix3 (0 : Fin 1) r x) - v0) := by unfold k0_pay104; pointwise <;> rfl

theorem pay112_apply (v0 : Elt Ideal .f32) (v306 : Vec Ideal S1x512x512 .f32) (r : Fin 512) (x : Fin 512) :
    k0_pay112 (F := Ideal) v0 v306 (ix2 r x) = Ideal.exp2 (v306 (ix3 (0 : Fin 1) r x) - v0) := by unfold k0_pay112; pointwise <;> rfl

theorem pay16_apply (v0 : Elt Ideal .f32) (v55 : Vec Ideal S1x1024x512 .f32) (r : Fin 1024) (x : Fin 512) :
    k0_pay16 (F := Ideal) v0 v55 (ix2 r x) = v55 (ix3 (0 : Fin 1) r x) - v0 := by unfold k0_pay16; pointwise

theorem pay17_apply (v58 : FVec Ideal S1024x512 .f32) (r : Fin 1024) (x : Fin 512) :
    k0_pay17 (F := Ideal) v58 (ix2 r x) = Ideal.exp2 (v58 (ix2 r x)) := by unfold k0_pay17; pointwise <;> rfl

theorem pay14_apply (v0 : Elt Ideal .f32) (v29 : Vec Ideal S1x1024x512 .f32) (v34 : Vec Ideal S1x1024x128 .f32) (r : Fin 1024) (x : Fin 128) :
    k0_pay14 (F := Ideal) v0 v29 v34 (ix3 (0 : Fin 1) r x) = v34 (ix3 (0 : Fin 1) r x) + lane4 (fun k => k0_pay13 (F := Ideal) v0 v29 (ix2 r k)) x := by unfold k0_pay14 lane4; generalize k0_pay13 (F := Ideal) v0 v29 = P; pointwise

theorem pay24_apply (v0 : Elt Ideal .f32) (v113 : Vec Ideal S1x1024x512 .f32) (v118 : Vec Ideal S1x1024x128 .f32) (r : Fin 1024) (x : Fin 128) :
    k0_pay24 (F := Ideal) v0 v113 v118 (ix3 (0 : Fin 1) r x) = v118 (ix3 (0 : Fin 1) r x) + lane4 (fun k => k0_pay23 (F := Ideal) v0 v113 (ix2 r k)) x := by unfold k0_pay24 lane4; generalize k0_pay23 (F := Ideal) v0 v113 = P; pointwise

theorem pay27_apply (v0 : Elt Ideal .f32) (v139 : Vec Ideal S1x1024x512 .f32) (v144 : Vec Ideal S1x1024x128 .f32) (r : Fin 1024) (x : Fin 128) :
    k0_pay27 (F := Ideal) v0 v139 v144 (ix3 (0 : Fin 1) r x) = v144 (ix3 (0 : Fin 1) r x) + lane4 (fun k => k0_pay26 (F := Ideal) v0 v139 (ix2 r k)) x := by unfold k0_pay27 lane4; generalize k0_pay26 (F := Ideal) v0 v139 = P; pointwise

theorem pay18_apply (v58 : FVec Ideal S1024x512 .f32) (v60 : Vec Ideal S1x1024x128 .f32) (r : Fin 1024) (x : Fin 128) :
    k0_pay18 (F := Ideal) v58 v60 (ix3 (0 : Fin 1) r x) = v60 (ix3 (0 : Fin 1) r x) + lane4 (fun k => k0_pay17 (F := Ideal) v58 (ix2 r k)) x := by unfold k0_pay18 lane4; generalize k0_pay17 (F := Ideal) v58 = P; pointwise

theorem pay51_apply (v39 : FVec Ideal S1024x512 .f32) (v42 : IVec S1024x512 32) (v61 : IVec S1024x512 1) (v93 : Vec Ideal S1x1024x128 .f32) (r : Fin 1024) (x : Fin 128) :
    k0_pay51 (F := Ideal) v39 v42 v61 v93 (ix3 (0 : Fin 1) r x) = v93 (ix3 (0 : Fin 1) r x) + lane4 (fun k => k0_pay50 (F := Ideal) v39 v42 v61 (ix2 r k)) x := by unfold k0_pay51 lane4; generalize k0_pay50 (F := Ideal) v39 v42 v61 = P; pointwise

theorem pay57_apply (v118 : FVec Ideal S1024x512 .f32) (v143 : IVec S1024x512 32) (v144 : IVec S1024x512 32) (c64_i32_61 : BitVec 32) (v146 : IVec S1024x512 32) (v172 : Vec Ideal S1x1024x128 .f32) (r : Fin 1024) (x : Fin 128) :
    k0_pay57 (F := Ideal) v118 v143 v144 c64_i32_61 v146 v172 (ix3 (0 : Fin 1) r x) = v172 (ix3 (0 : Fin 1) r x) + lane4 (fun k => k0_pay56 (F := Ideal) v118 v143 v144 c64_i32_61 v146 (ix2 r k)) x := by unfold k0_pay57 lane4; generalize k0_pay56 (F := Ideal) v118 v143 v144 c64_i32_61 v146 = P; pointwise

theorem pay69_apply (v231 : FVec Ideal S512x512 .f32) (v256 : IVec S512x512 32) (v257 : IVec S512x512 32) (c64_i32_113 : BitVec 32) (v259 : IVec S512x512 32) (v262 : IVec S512x512 32) (v265 : IVec S512x512 32) (v285 : Vec Ideal S1x512x128 .f32) (r : Fin 512) (x : Fin 128) :
    k0_pay69 (F := Ideal) v231 v256 v257 c64_i32_113 v259 v262 v265 v285 (ix3 (0 : Fin 1) r x) = v285 (ix3 (0 : Fin 1) r x) + lane4 (fun k => k0_pay68 (F := Ideal) v231 v256 v257 c64_i32_113 v259 v262 v265 (ix2 r k)) x := by unfold k0_pay69 lane4; generalize k0_pay68 (F := Ideal) v231 v256 v257 c64_i32_113 v259 v262 v265 = P; pointwise

theorem pay76_apply (v310 : FVec Ideal S512x512 .f32) (v335 : IVec S512x512 32) (v336 : IVec S512x512 32) (c64_i32_144 : BitVec 32) (v338 : IVec S512x512 32) (v345 : IVec S512x512 32) (v350 : BitVec 32) (v364 : Vec Ideal S1x512x128 .f32) (r : Fin 512) (x : Fin 128) :
    k0_pay76 (F := Ideal) v310 v335 v336 c64_i32_144 v338 v345 v350 v364 (ix3 (0 : Fin 1) r x) = v364 (ix3 (0 : Fin 1) r x) + lane4 (fun k => k0_pay75 (F := Ideal) v310 v335 v336 c64_i32_144 v338 v345 v350 (ix2 r k)) x := by unfold k0_pay76 lane4; generalize k0_pay75 (F := Ideal) v310 v335 v336 c64_i32_144 v338 v345 v350 = P; pointwise

theorem pay92_apply (v39 : FVec Ideal S1024x512 .f32) (v42 : IVec S1024x512 32) (v61 : IVec S1024x512 1) (v93 : Vec Ideal S1x1024x128 .f32) (r : Fin 1024) (x : Fin 128) :
    k0_pay92 (F := Ideal) v39 v42 v61 v93 (ix3 (0 : Fin 1) r x) = v93 (ix3 (0 : Fin 1) r x) + lane4 (fun k => k0_pay91 (F := Ideal) v39 v42 v61 (ix2 r k)) x := by unfold k0_pay92 lane4; generalize k0_pay91 (F := Ideal) v39 v42 v61 = P; pointwise

theorem pay98_apply (v118 : FVec Ideal S1024x512 .f32) (v143 : IVec S1024x512 32) (v144 : IVec S1024x512 32) (c64_i32_61 : BitVec 32) (v146 : IVec S1024x512 32) (v172 : Vec Ideal S1x1024x128 .f32) (r : Fin 1024) (x : Fin 128) :
    k0_pay98 (F := Ideal) v118 v143 v144 c64_i32_61 v146 v172 (ix3 (0 : Fin 1) r x) = v172 (ix3 (0 : Fin 1) r x) + lane4 (fun k => k0_pay97 (F := Ideal) v118 v143 v144 c64_i32_61 v146 (ix2 r k)) x := by unfold k0_pay98 lane4; generalize k0_pay97 (F := Ideal) v118 v143 v144 c64_i32_61 v146 = P; pointwise

theorem pay110_apply (v231 : FVec Ideal S512x512 .f32) (v256 : IVec S512x512 32) (v257 : IVec S512x512 32) (c64_i32_113 : BitVec 32) (v259 : IVec S512x512 32) (v262 : IVec S512x512 32) (v265 : IVec S512x512 32) (v285 : Vec Ideal S1x512x128 .f32) (r : Fin 512) (x : Fin 128) :
    k0_pay110 (F := Ideal) v231 v256 v257 c64_i32_113 v259 v262 v265 v285 (ix3 (0 : Fin 1) r x) = v285 (ix3 (0 : Fin 1) r x) + lane4 (fun k => k0_pay109 (F := Ideal) v231 v256 v257 c64_i32_113 v259 v262 v265 (ix2 r k)) x := by unfold k0_pay110 lane4; generalize k0_pay109 (F := Ideal) v231 v256 v257 c64_i32_113 v259 v262 v265 = P; pointwise

theorem pay117_apply (v310 : FVec Ideal S512x512 .f32) (v335 : IVec S512x512 32) (v336 : IVec S512x512 32) (c64_i32_144 : BitVec 32) (v338 : IVec S512x512 32) (v345 : IVec S512x512 32) (v350 : BitVec 32) (v364 : Vec Ideal S1x512x128 .f32) (r : Fin 512) (x : Fin 128) :
    k0_pay117 (F := Ideal) v310 v335 v336 c64_i32_144 v338 v345 v350 v364 (ix3 (0 : Fin 1) r x) = v364 (ix3 (0 : Fin 1) r x) + lane4 (fun k => k0_pay116 (F := Ideal) v310 v335 v336 c64_i32_144 v338 v345 v350 (ix2 r k)) x := by unfold k0_pay117 lane4; generalize k0_pay116 (F := Ideal) v310 v335 v336 c64_i32_144 v338 v345 v350 = P; pointwise

theorem pay15_apply (v0 : Elt Ideal .f32) (v28 : Vec Ideal S512x256 .bf16) (v29 : Vec Ideal S1x1024x512 .f32) (v47 : Vec Ideal S1x1024x256 .f32) (r : Fin 1024) (x : Fin 256) :
    k0_pay15 (F := Ideal) v0 v28 v29 v47 (ix3 (0 : Fin 1) r x) = v47 (ix3 (0 : Fin 1) r x) + ∑ k : Fin 512, k0_pay13 (F := Ideal) v0 v29 (ix2 r k) * v28 (ix2 k x) := by unfold k0_pay15; generalize k0_pay13 (F := Ideal) v0 v29 = P; pointwise

theorem pay28_apply (v0 : Elt Ideal .f32) (v112 : Vec Ideal S512x256 .bf16) (v139 : Vec Ideal S1x1024x512 .f32) (v157 : Vec Ideal S1x1024x256 .f32) (r : Fin 1024) (x : Fin 256) :
    k0_pay28 (F := Ideal) v0 v112 v139 v157 (ix3 (0 : Fin 1) r x) = v157 (ix3 (0 : Fin 1) r x) + ∑ k : Fin 512, k0_pay26 (F := Ideal) v0 v139 (ix2 r k) * v112 (ix2 k x) := by unfold k0_pay28; generalize k0_pay26 (F := Ideal) v0 v139 = P; pointwise

theorem pay19_apply (v28 : Vec Ideal S512x256 .bf16) (v58 : FVec Ideal S1024x512 .f32) (v73 : Vec Ideal S1x1024x256 .f32) (r : Fin 1024) (x : Fin 256) :
    k0_pay19 (F := Ideal) v28 v58 v73 (ix3 (0 : Fin 1) r x) = v73 (ix3 (0 : Fin 1) r x) + ∑ k : Fin 512, k0_pay17 (F := Ideal) v58 (ix2 r k) * v28 (ix2 k x) := by unfold k0_pay19; generalize k0_pay17 (F := Ideal) v58 = P; pointwise

theorem pay25_apply (v112 : Vec Ideal S512x256 .bf16) (v117 : FVec Ideal S1024x512 .f32) (v131 : Vec Ideal S1x1024x256 .f32) (r : Fin 1024) (x : Fin 256) :
    k0_pay25 (F := Ideal) v112 v117 v131 (ix3 (0 : Fin 1) r x) = v131 (ix3 (0 : Fin 1) r x) + ∑ k : Fin 512, v117 (ix2 r k) * v112 (ix2 k x) := by unfold k0_pay25; pointwise

theorem pay52_apply (v34 : Vec Ideal S512x256 .bf16) (v92 : FVec Ideal S1024x512 .f32) (v106 : Vec Ideal S1x1024x256 .f32) (r : Fin 1024) (x : Fin 256) :
    k0_pay52 (F := Ideal) v34 v92 v106 (ix3 (0 : Fin 1) r x) = v106 (ix3 (0 : Fin 1) r x) + ∑ k : Fin 512, v92 (ix2 r k) * v34 (ix2 k x) := by unfold k0_pay52; pointwise

theorem pay70_apply (v226 : Vec Ideal S512x256 .bf16) (v231 : FVec Ideal S512x512 .f32) (v256 : IVec S512x512 32) (v257 : IVec S512x512 32) (c64_i32_113 : BitVec 32) (v259 : IVec S512x512 32) (v262 : IVec S512x512 32) (v265 : IVec S512x512 32) (v298 : Vec Ideal S1x512x256 .f32) (r : Fin 512) (x : Fin 256) :
    k0_pay70 (F := Ideal) v226 v231 v256 v257 c64_i32_113 v259 v262 v265 v298 (ix3 (0 : Fin 1) r x) = v298 (ix3 (0 : Fin 1) r x) + ∑ k : Fin 512, k0_pay68 (F := Ideal) v231 v256 v257 c64_i32_113 v259 v262 v265 (ix2 r k) * v226 (ix2 k x) := by unfold k0_pay70; generalize k0_pay68 (F := Ideal) v231 v256 v257 c64_i32_113 v259 v262 v265 = P; pointwise

theorem pay77_apply (v226 : Vec Ideal S512x256 .bf16) (v310 : FVec Ideal S512x512 .f32) (v335 : IVec S512x512 32) (v336 : IVec S512x512 32) (c64_i32_144 : BitVec 32) (v338 : IVec S512x512 32) (v345 : IVec S512x512 32) (v350 : BitVec 32) (v377 : Vec Ideal S1x512x256 .f32) (r : Fin 512) (x : Fin 256) :
    k0_pay77 (F := Ideal) v226 v310 v335 v336 c64_i32_144 v338 v345 v350 v377 (ix3 (0 : Fin 1) r x) = v377 (ix3 (0 : Fin 1) r x) + ∑ k : Fin 512, k0_pay75 (F := Ideal) v310 v335 v336 c64_i32_144 v338 v345 v350 (ix2 r k) * v226 (ix2 k x) := by unfold k0_pay77; generalize k0_pay75 (F := Ideal) v310 v335 v336 c64_i32_144 v338 v345 v350 = P; pointwise

theorem pay93_apply (v34 : Vec Ideal S512x256 .bf16) (v92 : FVec Ideal S1024x512 .f32) (v106 : Vec Ideal S1x1024x256 .f32) (r : Fin 1024) (x : Fin 256) :
    k0_pay93 (F := Ideal) v34 v92 v106 (ix3 (0 : Fin 1) r x) = v106 (ix3 (0 : Fin 1) r x) + ∑ k : Fin 512, v92 (ix2 r k) * v34 (ix2 k x) := by unfold k0_pay93; pointwise

theorem pay111_apply (v226 : Vec Ideal S512x256 .bf16) (v231 : FVec Ideal S512x512 .f32) (v256 : IVec S512x512 32) (v257 : IVec S512x512 32) (c64_i32_113 : BitVec 32) (v259 : IVec S512x512 32) (v262 : IVec S512x512 32) (v265 : IVec S512x512 32) (v298 : Vec Ideal S1x512x256 .f32) (r : Fin 512) (x : Fin 256) :
    k0_pay111 (F := Ideal) v226 v231 v256 v257 c64_i32_113 v259 v262 v265 v298 (ix3 (0 : Fin 1) r x) = v298 (ix3 (0 : Fin 1) r x) + ∑ k : Fin 512, k0_pay109 (F := Ideal) v231 v256 v257 c64_i32_113 v259 v262 v265 (ix2 r k) * v226 (ix2 k x) := by unfold k0_pay111; generalize k0_pay109 (F := Ideal) v231 v256 v257 c64_i32_113 v259 v262 v265 = P; pointwise

theorem pay118_apply (v226 : Vec Ideal S512x256 .bf16) (v310 : FVec Ideal S512x512 .f32) (v335 : IVec S512x512 32) (v336 : IVec S512x512 32) (c64_i32_144 : BitVec 32) (v338 : IVec S512x512 32) (v345 : IVec S512x512 32) (v350 : BitVec 32) (v377 : Vec Ideal S1x512x256 .f32) (r : Fin 512) (x : Fin 256) :
    k0_pay118 (F := Ideal) v226 v310 v335 v336 c64_i32_144 v338 v345 v350 v377 (ix3 (0 : Fin 1) r x) = v377 (ix3 (0 : Fin 1) r x) + ∑ k : Fin 512, k0_pay116 (F := Ideal) v310 v335 v336 c64_i32_144 v338 v345 v350 (ix2 r k) * v226 (ix2 k x) := by unfold k0_pay118; generalize k0_pay116 (F := Ideal) v310 v335 v336 c64_i32_144 v338 v345 v350 = P; pointwise

theorem pay59_apply (v34 : Vec Ideal S512x256 .bf16) (v118 : FVec Ideal S1024x512 .f32) (v143 : IVec S1024x512 32) (v144 : IVec S1024x512 32) (c64_i32_61 : BitVec 32) (v146 : IVec S1024x512 32) (r : Fin 1024) (x : Fin 256) :
    k0_pay59 (F := Ideal) v34 v118 v143 v144 c64_i32_61 v146 (ix2 r x) = ∑ k : Fin 512, k0_pay56 (F := Ideal) v118 v143 v144 c64_i32_61 v146 (ix2 r k) * v34 (ix2 k x) := by unfold k0_pay59; generalize k0_pay56 (F := Ideal) v118 v143 v144 c64_i32_61 v146 = P; pointwise

theorem pay100_apply (v34 : Vec Ideal S512x256 .bf16) (v118 : FVec Ideal S1024x512 .f32) (v143 : IVec S1024x512 32) (v144 : IVec S1024x512 32) (c64_i32_61 : BitVec 32) (v146 : IVec S1024x512 32) (r : Fin 1024) (x : Fin 256) :
    k0_pay100 (F := Ideal) v34 v118 v143 v144 c64_i32_61 v146 (ix2 r x) = ∑ k : Fin 512, k0_pay97 (F := Ideal) v118 v143 v144 c64_i32_61 v146 (ix2 r k) * v34 (ix2 k x) := by unfold k0_pay100; generalize k0_pay97 (F := Ideal) v118 v143 v144 c64_i32_61 v146 = P; pointwise

theorem pay60_apply (v186 : FVec Ideal S1024x256 .f32) (v188 : FVec Ideal S1024x256 .f32) (r : Fin 1024) (x : Fin 256) :
    k0_pay60 (F := Ideal) v186 v188 (ix3 (0 : Fin 1) r x) = v186 (ix2 r x) + v188 (ix2 r x) := by unfold k0_pay60; pointwise

theorem pay101_apply (v186 : FVec Ideal S1024x256 .f32) (v188 : FVec Ideal S1024x256 .f32) (r : Fin 1024) (x : Fin 256) :
    k0_pay101 (F := Ideal) v186 v188 (ix3 (0 : Fin 1) r x) = v186 (ix2 r x) + v188 (ix2 r x) := by unfold k0_pay101; pointwise

end Cert.KernelIdeal.Attn

end
-- ==== Proof.AttnPay2.lean ====
module

public import proofs.«01_k».proof.Proof.AttnPay
public import Idealize.ShloMosaic.Lib.Pointwise
public import Idealize.ShloMosaic.Lib.Pipeline.ValueKit

/-! The rescaled form's stored values, the resets, the casts and the final step, read at an index. -/

@[expose] public section

set_option maxRecDepth 16384
set_option maxHeartbeats 4000000

noncomputable section

namespace Cert.KernelIdeal.Attn

open Cert.KernelIdeal Cert.KernelIdeal.Gen Idealize.ShloMosaic Idealize.ShloMosaic.TcCoe Idealize.SL.Sem
open scoped BigOperators

/-- The largest of a row of 512, from minus infinity up. -/
def rowMax (p : Fin 512 → EReal) : EReal := Finset.univ.fold max (Ideal.ofBits .f32 0xFF800000#32) p

/-- The weight of the second head's softmax, from the four learned vectors. -/
def lamE (a b c d : Fin 128 → EReal) : EReal :=
  Ideal.exp (∑ e : Fin 128, a e * b e) - Ideal.exp (∑ e : Fin 128, c e * d e) + Ideal.ofBits .f32 0x3E4CCCCD#32

/-- The difference of the two normalised sums, from the lane sums and the weighted sums of the two heads. -/
def outO (lam : EReal) (l0 l1 : Fin 128 → EReal) (a0 a1 : EReal) : EReal :=
  a0 * Ideal.div 1 (∑ z, l0 z) - a1 * Ideal.div lam (∑ z, l1 z)

/-- One entry scaled by the root mean square of its row, from the entry, the row's sum of squares and the entry's weight. -/
def normO (o ss w : EReal) : EReal :=
  o * (Ideal.rsqrt (Ideal.div ss (Ideal.ofBits .f32 0x43800000#32) + Ideal.ofBits .f32 0x358637BD#32) * Ideal.ofBits .f32 0x3F4CCCCD#32) * w

theorem pay125_apply (v521 : Vec Ideal S1024x128 .bf16) (v525 : Vec Ideal S512x128 .bf16) (v527 : Vec Ideal S1x1024x128 .f32) (r : Fin 1024) (x : Fin 128) :
    k0_pay125 (F := Ideal) v521 v525 v527 (ix2 r x) = max (v527 (ix3 (0 : Fin 1) r x)) (rowMax fun k => (k0_pay123 (F := Ideal) v521 v525) (ix2 r k)) := by unfold k0_pay125 k0_pay124 rowMax; generalize k0_pay123 (F := Ideal) v521 v525 = P; pointwise

theorem pay133_apply (v571 : Vec Ideal S1024x128 .bf16) (v575 : Vec Ideal S512x128 .bf16) (v577 : Vec Ideal S1x1024x128 .f32) (r : Fin 1024) (x : Fin 128) :
    k0_pay133 (F := Ideal) v571 v575 v577 (ix2 r x) = max (v577 (ix3 (0 : Fin 1) r x)) (rowMax fun k => (k0_pay131 (F := Ideal) v571 v575) (ix2 r k)) := by unfold k0_pay133 k0_pay132 rowMax; generalize k0_pay131 (F := Ideal) v571 v575 = P; pointwise

theorem pay166_apply (v46 : FVec Ideal S1024x512 .f32) (v71 : IVec S1024x512 32) (v72 : IVec S1024x512 32) (c64_i32_38 : BitVec 32) (v74 : IVec S1024x512 32) (v76 : IVec S1024x512 1) (v100 : Vec Ideal S1x1024x128 .f32) (r : Fin 1024) (x : Fin 128) :
    k0_pay166 (F := Ideal) v46 v71 v72 c64_i32_38 v74 v76 v100 (ix2 r x) = max (v100 (ix3 (0 : Fin 1) r x)) (rowMax fun k => (k0_pay164 (F := Ideal) v46 v71 v72 c64_i32_38 v74 v76) (ix2 r k)) := by unfold k0_pay166 k0_pay165 rowMax; generalize k0_pay164 (F := Ideal) v46 v71 v72 c64_i32_38 v74 v76 = P; pointwise

theorem pay179_apply (v202 : FVec Ideal S1024x512 .f32) (v203 : Vec Ideal S1x1024x128 .f32) (r : Fin 1024) (x : Fin 128) :
    k0_pay179 (F := Ideal) v202 v203 (ix2 r x) = max (v203 (ix3 (0 : Fin 1) r x)) (rowMax fun k => v202 (ix2 r k)) := by unfold k0_pay179 k0_pay178 rowMax; pointwise

theorem pay190_apply (v258 : FVec Ideal S512x512 .f32) (v283 : IVec S512x512 32) (v284 : IVec S512x512 32) (c64_i32_123 : BitVec 32) (v285 : IVec S512x512 32) (v312 : Vec Ideal S1x512x128 .f32) (r : Fin 512) (x : Fin 128) :
    k0_pay190 (F := Ideal) v258 v283 v284 c64_i32_123 v285 v312 (ix2 r x) = max (v312 (ix3 (0 : Fin 1) r x)) (rowMax fun k => (k0_pay188 (F := Ideal) v258 v283 v284 c64_i32_123 v285) (ix2 r k)) := by unfold k0_pay190 k0_pay189 rowMax; generalize k0_pay188 (F := Ideal) v258 v283 v284 c64_i32_123 v285 = P; pointwise

theorem pay203_apply (v414 : FVec Ideal S512x512 .f32) (v415 : Vec Ideal S1x512x128 .f32) (r : Fin 512) (x : Fin 128) :
    k0_pay203 (F := Ideal) v414 v415 (ix2 r x) = max (v415 (ix3 (0 : Fin 1) r x)) (rowMax fun k => v414 (ix2 r k)) := by unfold k0_pay203 k0_pay202 rowMax; pointwise

theorem pay126_apply (v521 : Vec Ideal S1024x128 .bf16) (v525 : Vec Ideal S512x128 .bf16) (v527 : Vec Ideal S1x1024x128 .f32) (r : Fin 1024) (x : Fin 128) :
    k0_pay126 (F := Ideal) v521 v525 v527 (ix2 r x) = Ideal.exp2 (v527 (ix3 (0 : Fin 1) r x) - k0_pay125 (F := Ideal) v521 v525 v527 (ix2 r x)) := by unfold k0_pay126 k0_pay124; generalize k0_pay125 (F := Ideal) v521 v525 v527 = P; pointwise <;> rfl

theorem pay134_apply (v571 : Vec Ideal S1024x128 .bf16) (v575 : Vec Ideal S512x128 .bf16) (v577 : Vec Ideal S1x1024x128 .f32) (r : Fin 1024) (x : Fin 128) :
    k0_pay134 (F := Ideal) v571 v575 v577 (ix2 r x) = Ideal.exp2 (v577 (ix3 (0 : Fin 1) r x) - k0_pay133 (F := Ideal) v571 v575 v577 (ix2 r x)) := by unfold k0_pay134 k0_pay132; generalize k0_pay133 (F := Ideal) v571 v575 v577 = P; pointwise <;> rfl

theorem pay167_apply (v46 : FVec Ideal S1024x512 .f32) (v71 : IVec S1024x512 32) (v72 : IVec S1024x512 32) (c64_i32_38 : BitVec 32) (v74 : IVec S1024x512 32) (v76 : IVec S1024x512 1) (v100 : Vec Ideal S1x1024x128 .f32) (r : Fin 1024) (x : Fin 128) :
    k0_pay167 (F := Ideal) v46 v71 v72 c64_i32_38 v74 v76 v100 (ix2 r x) = Ideal.exp2 (v100 (ix3 (0 : Fin 1) r x) - k0_pay166 (F := Ideal) v46 v71 v72 c64_i32_38 v74 v76 v100 (ix2 r x)) := by unfold k0_pay167 k0_pay165; generalize k0_pay166 (F := Ideal) v46 v71 v72 c64_i32_38 v74 v76 v100 = P; pointwise <;> rfl

theorem pay180_apply (v202 : FVec Ideal S1024x512 .f32) (v203 : Vec Ideal S1x1024x128 .f32) (r : Fin 1024) (x : Fin 128) :
    k0_pay180 (F := Ideal) v202 v203 (ix2 r x) = Ideal.exp2 (v203 (ix3 (0 : Fin 1) r x) - k0_pay179 (F := Ideal) v202 v203 (ix2 r x)) := by unfold k0_pay180 k0_pay178; generalize k0_pay179 (F := Ideal) v202 v203 = P; pointwise <;> rfl

theorem pay191_apply (v258 : FVec Ideal S512x512 .f32) (v283 : IVec S512x512 32) (v284 : IVec S512x512 32) (c64_i32_123 : BitVec 32) (v285 : IVec S512x512 32) (v312 : Vec Ideal S1x512x128 .f32) (r : Fin 512) (x : Fin 128) :
    k0_pay191 (F := Ideal) v258 v283 v284 c64_i32_123 v285 v312 (ix2 r x) = Ideal.exp2 (v312 (ix3 (0 : Fin 1) r x) - k0_pay190 (F := Ideal) v258 v283 v284 c64_i32_123 v285 v312 (ix2 r x)) := by unfold k0_pay191 k0_pay189; generalize k0_pay190 (F := Ideal) v258 v283 v284 c64_i32_123 v285 v312 = P; pointwise <;> rfl

theorem pay204_apply (v414 : FVec Ideal S512x512 .f32) (v415 : Vec Ideal S1x512x128 .f32) (r : Fin 512) (x : Fin 128) :
    k0_pay204 (F := Ideal) v414 v415 (ix2 r x) = Ideal.exp2 (v415 (ix3 (0 : Fin 1) r x) - k0_pay203 (F := Ideal) v414 v415 (ix2 r x)) := by unfold k0_pay204 k0_pay202; generalize k0_pay203 (F := Ideal) v414 v415 = P; pointwise <;> rfl

theorem pay127_apply (v521 : Vec Ideal S1024x128 .bf16) (v525 : Vec Ideal S512x128 .bf16) (v527 : Vec Ideal S1x1024x128 .f32) (r : Fin 1024) (x : Fin 512) :
    k0_pay127 (F := Ideal) v521 v525 v527 (ix2 r x) = Ideal.exp2 (k0_pay123 (F := Ideal) v521 v525 (ix2 r x) - k0_pay125 (F := Ideal) v521 v525 v527 (ix2 r (0 : Fin 128))) := by unfold k0_pay127; generalize k0_pay125 (F := Ideal) v521 v525 v527 = P; generalize k0_pay123 (F := Ideal) v521 v525 = Q; pointwise <;> rfl

theorem pay135_apply (v571 : Vec Ideal S1024x128 .bf16) (v575 : Vec Ideal S512x128 .bf16) (v577 : Vec Ideal S1x1024x128 .f32) (r : Fin 1024) (x : Fin 512) :
    k0_pay135 (F := Ideal) v571 v575 v577 (ix2 r x) = Ideal.exp2 (k0_pay131 (F := Ideal) v571 v575 (ix2 r x) - k0_pay133 (F := Ideal) v571 v575 v577 (ix2 r (0 : Fin 128))) := by unfold k0_pay135; generalize k0_pay133 (F := Ideal) v571 v575 v577 = P; generalize k0_pay131 (F := Ideal) v571 v575 = Q; pointwise <;> rfl

theorem pay168_apply (v46 : FVec Ideal S1024x512 .f32) (v71 : IVec S1024x512 32) (v72 : IVec S1024x512 32) (c64_i32_38 : BitVec 32) (v74 : IVec S1024x512 32) (v76 : IVec S1024x512 1) (v100 : Vec Ideal S1x1024x128 .f32) (r : Fin 1024) (x : Fin 512) :
    k0_pay168 (F := Ideal) v46 v71 v72 c64_i32_38 v74 v76 v100 (ix2 r x) = Ideal.exp2 (k0_pay164 (F := Ideal) v46 v71 v72 c64_i32_38 v74 v76 (ix2 r x) - k0_pay166 (F := Ideal) v46 v71 v72 c64_i32_38 v74 v76 v100 (ix2 r (0 : Fin 128))) := by unfold k0_pay168; generalize k0_pay166 (F := Ideal) v46 v71 v72 c64_i32_38 v74 v76 v100 = P; generalize k0_pay164 (F := Ideal) v46 v71 v72 c64_i32_38 v74 v76 = Q; pointwise <;> rfl

theorem pay181_apply (v202 : FVec Ideal S1024x512 .f32) (v203 : Vec Ideal S1x1024x128 .f32) (r : Fin 1024) (x : Fin 512) :
    k0_pay181 (F := Ideal) v202 v203 (ix2 r x) = Ideal.exp2 (v202 (ix2 r x) - k0_pay179 (F := Ideal) v202 v203 (ix2 r (0 : Fin 128))) := by unfold k0_pay181; generalize k0_pay179 (F := Ideal) v202 v203 = P; pointwise <;> rfl

theorem pay192_apply (v258 : FVec Ideal S512x512 .f32) (v283 : IVec S512x512 32) (v284 : IVec S512x512 32) (c64_i32_123 : BitVec 32) (v285 : IVec S512x512 32) (v312 : Vec Ideal S1x512x128 .f32) (r : Fin 512) (x : Fin 512) :
    k0_pay192 (F := Ideal) v258 v283 v284 c64_i32_123 v285 v312 (ix2 r x) = Ideal.exp2 (k0_pay188 (F := Ideal) v258 v283 v284 c64_i32_123 v285 (ix2 r x) - k0_pay190 (F := Ideal) v258 v283 v284 c64_i32_123 v285 v312 (ix2 r (0 : Fin 128))) := by unfold k0_pay192; generalize k0_pay190 (F := Ideal) v258 v283 v284 c64_i32_123 v285 v312 = P; generalize k0_pay188 (F := Ideal) v258 v283 v284 c64_i32_123 v285 = Q; pointwise <;> rfl

theorem pay205_apply (v414 : FVec Ideal S512x512 .f32) (v415 : Vec Ideal S1x512x128 .f32) (r : Fin 512) (x : Fin 512) :
    k0_pay205 (F := Ideal) v414 v415 (ix2 r x) = Ideal.exp2 (v414 (ix2 r x) - k0_pay203 (F := Ideal) v414 v415 (ix2 r (0 : Fin 128))) := by unfold k0_pay205; generalize k0_pay203 (F := Ideal) v414 v415 = P; pointwise <;> rfl

theorem pay128_apply (v521 : Vec Ideal S1024x128 .bf16) (v525 : Vec Ideal S512x128 .bf16) (v527 : Vec Ideal S1x1024x128 .f32) (v539 : Vec Ideal S1x1024x128 .f32) (r : Fin 1024) (x : Fin 128) :
    k0_pay128 (F := Ideal) v521 v525 v527 v539 (ix3 (0 : Fin 1) r x) = k0_pay126 (F := Ideal) v521 v525 v527 (ix2 r x) * v539 (ix3 (0 : Fin 1) r x) + lane4 (fun k => k0_pay127 (F := Ideal) v521 v525 v527 (ix2 r k)) x := by unfold k0_pay128 lane4; generalize k0_pay126 (F := Ideal) v521 v525 v527 = A; generalize k0_pay127 (F := Ideal) v521 v525 v527 = P; pointwise

theorem pay154_apply (v584 : FVec Ideal S1024x128 .f32) (v588 : FVec Ideal S1024x512 .f32) (v589 : Vec Ideal S1x1024x128 .f32) (r : Fin 1024) (x : Fin 128) :
    k0_pay154 (F := Ideal) v584 v588 v589 (ix3 (0 : Fin 1) r x) = v584 (ix2 r x) * v589 (ix3 (0 : Fin 1) r x) + lane4 (fun k => v588 (ix2 r k)) x := by unfold k0_pay154 lane4; pointwise

theorem pay169_apply (v46 : FVec Ideal S1024x512 .f32) (v71 : IVec S1024x512 32) (v72 : IVec S1024x512 32) (c64_i32_38 : BitVec 32) (v74 : IVec S1024x512 32) (v76 : IVec S1024x512 1) (v100 : Vec Ideal S1x1024x128 .f32) (v112 : Vec Ideal S1x1024x128 .f32) (r : Fin 1024) (x : Fin 128) :
    k0_pay169 (F := Ideal) v46 v71 v72 c64_i32_38 v74 v76 v100 v112 (ix2 r x) = k0_pay167 (F := Ideal) v46 v71 v72 c64_i32_38 v74 v76 v100 (ix2 r x) * v112 (ix3 (0 : Fin 1) r x) + lane4 (fun k => k0_pay168 (F := Ideal) v46 v71 v72 c64_i32_38 v74 v76 v100 (ix2 r k)) x := by unfold k0_pay169 lane4; generalize k0_pay167 (F := Ideal) v46 v71 v72 c64_i32_38 v74 v76 v100 = A; generalize k0_pay168 (F := Ideal) v46 v71 v72 c64_i32_38 v74 v76 v100 = P; pointwise

theorem pay182_apply (v202 : FVec Ideal S1024x512 .f32) (v203 : Vec Ideal S1x1024x128 .f32) (v215 : Vec Ideal S1x1024x128 .f32) (r : Fin 1024) (x : Fin 128) :
    k0_pay182 (F := Ideal) v202 v203 v215 (ix3 (0 : Fin 1) r x) = k0_pay180 (F := Ideal) v202 v203 (ix2 r x) * v215 (ix3 (0 : Fin 1) r x) + lane4 (fun k => k0_pay181 (F := Ideal) v202 v203 (ix2 r k)) x := by unfold k0_pay182 lane4; generalize k0_pay180 (F := Ideal) v202 v203 = A; generalize k0_pay181 (F := Ideal) v202 v203 = P; pointwise

theorem pay206_apply (v414 : FVec Ideal S512x512 .f32) (v415 : Vec Ideal S1x512x128 .f32) (v427 : Vec Ideal S1x512x128 .f32) (r : Fin 512) (x : Fin 128) :
    k0_pay206 (F := Ideal) v414 v415 v427 (ix3 (0 : Fin 1) r x) = k0_pay204 (F := Ideal) v414 v415 (ix2 r x) * v427 (ix3 (0 : Fin 1) r x) + lane4 (fun k => k0_pay205 (F := Ideal) v414 v415 (ix2 r k)) x := by unfold k0_pay206 lane4; generalize k0_pay204 (F := Ideal) v414 v415 = A; generalize k0_pay205 (F := Ideal) v414 v415 = P; pointwise

theorem pay129_apply (v516 : Vec Ideal S512x256 .bf16) (v534 : FVec Ideal S1024x128 .f32) (v538 : FVec Ideal S1024x512 .f32) (v554 : Vec Ideal S1x1024x256 .f32) (r : Fin 1024) (x : Fin 256) :
    k0_pay129 (F := Ideal) v516 v534 v538 v554 (ix3 (0 : Fin 1) r x) = v534 (ix2 r (0 : Fin 128)) * v554 (ix3 (0 : Fin 1) r x) + ∑ k : Fin 512, v538 (ix2 r k) * v516 (ix2 k x) := by unfold k0_pay129; pointwise

theorem pay155_apply (v516 : Vec Ideal S512x256 .bf16) (v584 : FVec Ideal S1024x128 .f32) (v588 : FVec Ideal S1024x512 .f32) (v604 : Vec Ideal S1x1024x256 .f32) (r : Fin 1024) (x : Fin 256) :
    k0_pay155 (F := Ideal) v516 v584 v588 v604 (ix3 (0 : Fin 1) r x) = v584 (ix2 r (0 : Fin 128)) * v604 (ix3 (0 : Fin 1) r x) + ∑ k : Fin 512, v588 (ix2 r k) * v516 (ix2 k x) := by unfold k0_pay155; pointwise

theorem pay171_apply (v36 : Vec Ideal S512x256 .bf16) (v107 : FVec Ideal S1024x128 .f32) (v111 : FVec Ideal S1024x512 .f32) (v127 : Vec Ideal S1x1024x256 .f32) (r : Fin 1024) (x : Fin 256) :
    k0_pay171 (F := Ideal) v36 v107 v111 v127 (ix3 (0 : Fin 1) r x) = v107 (ix2 r (0 : Fin 128)) * v127 (ix3 (0 : Fin 1) r x) + ∑ k : Fin 512, v111 (ix2 r k) * v36 (ix2 k x) := by unfold k0_pay171; pointwise

theorem pay183_apply (v36 : Vec Ideal S512x256 .bf16) (v202 : FVec Ideal S1024x512 .f32) (v203 : Vec Ideal S1x1024x128 .f32) (v230 : Vec Ideal S1x1024x256 .f32) (r : Fin 1024) (x : Fin 256) :
    k0_pay183 (F := Ideal) v36 v202 v203 v230 (ix3 (0 : Fin 1) r x) = k0_pay180 (F := Ideal) v202 v203 (ix2 r (0 : Fin 128)) * v230 (ix3 (0 : Fin 1) r x) + ∑ k : Fin 512, k0_pay181 (F := Ideal) v202 v203 (ix2 r k) * v36 (ix2 k x) := by unfold k0_pay183; generalize k0_pay180 (F := Ideal) v202 v203 = A; generalize k0_pay181 (F := Ideal) v202 v203 = P; pointwise

theorem pay196_apply (v248 : Vec Ideal S512x256 .bf16) (v319 : FVec Ideal S512x128 .f32) (v323 : FVec Ideal S512x512 .f32) (v339 : Vec Ideal S1x512x256 .f32) (r : Fin 512) (x : Fin 256) :
    k0_pay196 (F := Ideal) v248 v319 v323 v339 (ix3 (0 : Fin 1) r x) = v319 (ix2 r (0 : Fin 128)) * v339 (ix3 (0 : Fin 1) r x) + ∑ k : Fin 512, v323 (ix2 r k) * v248 (ix2 k x) := by unfold k0_pay196; pointwise

theorem pay207_apply (v248 : Vec Ideal S512x256 .bf16) (v414 : FVec Ideal S512x512 .f32) (v415 : Vec Ideal S1x512x128 .f32) (v442 : Vec Ideal S1x512x256 .f32) (r : Fin 512) (x : Fin 256) :
    k0_pay207 (F := Ideal) v248 v414 v415 v442 (ix3 (0 : Fin 1) r x) = k0_pay204 (F := Ideal) v414 v415 (ix2 r (0 : Fin 128)) * v442 (ix3 (0 : Fin 1) r x) + ∑ k : Fin 512, k0_pay205 (F := Ideal) v414 v415 (ix2 r k) * v248 (ix2 k x) := by unfold k0_pay207; generalize k0_pay204 (F := Ideal) v414 v415 = A; generalize k0_pay205 (F := Ideal) v414 v415 = P; pointwise

theorem pay172_apply (v105 : FVec Ideal S1024x128 .f32) (r : Fin 1024) (x : Fin 128) :
    k0_pay172 (F := Ideal) v105 (ix3 (0 : Fin 1) r x) = v105 (ix2 r x) := by unfold k0_pay172; pointwise

theorem pay197_apply (v317 : FVec Ideal S512x128 .f32) (r : Fin 512) (x : Fin 128) :
    k0_pay197 (F := Ideal) v317 (ix3 (0 : Fin 1) r x) = v317 (ix2 r x) := by unfold k0_pay197; pointwise

theorem pay208_apply (v420 : FVec Ideal S512x128 .f32) (r : Fin 512) (x : Fin 128) :
    k0_pay208 (F := Ideal) v420 (ix3 (0 : Fin 1) r x) = v420 (ix2 r x) := by unfold k0_pay208; pointwise

theorem pay165_apply (v100 : Vec Ideal S1x1024x128 .f32) (r : Fin 1024) (x : Fin 128) :
    k0_pay165 (F := Ideal) v100 (ix2 r x) = v100 (ix3 (0 : Fin 1) r x) := by unfold k0_pay165; pointwise

theorem pay178_apply (v203 : Vec Ideal S1x1024x128 .f32) (r : Fin 1024) (x : Fin 128) :
    k0_pay178 (F := Ideal) v203 (ix2 r x) = v203 (ix3 (0 : Fin 1) r x) := by unfold k0_pay178; pointwise

theorem pay189_apply (v312 : Vec Ideal S1x512x128 .f32) (r : Fin 512) (x : Fin 128) :
    k0_pay189 (F := Ideal) v312 (ix2 r x) = v312 (ix3 (0 : Fin 1) r x) := by unfold k0_pay189; pointwise

theorem pay202_apply (v415 : Vec Ideal S1x512x128 .f32) (r : Fin 512) (x : Fin 128) :
    k0_pay202 (F := Ideal) v415 (ix2 r x) = v415 (ix3 (0 : Fin 1) r x) := by unfold k0_pay202; pointwise

theorem pay210_apply (v486 : Vec Ideal S1x1024x256 .f32) (r : Fin 1024) (x : Fin 256) :
    k0_pay210 (F := Ideal) v486 (ix2 r x) = v486 (ix3 (0 : Fin 1) r x) := by unfold k0_pay210; pointwise

theorem pay184_apply (v202 : FVec Ideal S1024x512 .f32) (v203 : Vec Ideal S1x1024x128 .f32) (r : Fin 1024) (x : Fin 128) :
    k0_pay184 (F := Ideal) v202 v203 (ix3 (0 : Fin 1) r x) = k0_pay179 (F := Ideal) v202 v203 (ix2 r x) := by unfold k0_pay184; generalize k0_pay179 (F := Ideal) v202 v203 = P; pointwise

theorem pay193_apply (v258 : FVec Ideal S512x512 .f32) (v283 : IVec S512x512 32) (v284 : IVec S512x512 32) (c64_i32_123 : BitVec 32) (v285 : IVec S512x512 32) (v312 : Vec Ideal S1x512x128 .f32) (v324 : Vec Ideal S1x512x128 .f32) (r : Fin 512) (x : Fin 128) :
    k0_pay193 (F := Ideal) v258 v283 v284 c64_i32_123 v285 v312 v324 (ix2 r x) = k0_pay191 (F := Ideal) v258 v283 v284 c64_i32_123 v285 v312 (ix2 r x) * v324 (ix3 (0 : Fin 1) r x) := by unfold k0_pay193; generalize k0_pay191 (F := Ideal) v258 v283 v284 c64_i32_123 v285 v312 = P; pointwise

theorem pay194_apply (v258 : FVec Ideal S512x512 .f32) (v283 : IVec S512x512 32) (v284 : IVec S512x512 32) (c64_i32_123 : BitVec 32) (v285 : IVec S512x512 32) (v312 : Vec Ideal S1x512x128 .f32) (r : Fin 512) (x : Fin 128) :
    k0_pay194 (F := Ideal) v258 v283 v284 c64_i32_123 v285 v312 (ix2 r x) = k0_pay192 (F := Ideal) v258 v283 v284 c64_i32_123 v285 v312 (ix2 r (⟨0 + x.val, by omega⟩ : Fin 512)) + k0_pay192 (F := Ideal) v258 v283 v284 c64_i32_123 v285 v312 (ix2 r (⟨128 + x.val, by omega⟩ : Fin 512)) + k0_pay192 (F := Ideal) v258 v283 v284 c64_i32_123 v285 v312 (ix2 r (⟨256 + x.val, by omega⟩ : Fin 512)) := by unfold k0_pay194; generalize k0_pay192 (F := Ideal) v258 v283 v284 c64_i32_123 v285 v312 = P; pointwise

theorem pay195_apply (v323 : FVec Ideal S512x512 .f32) (v326 : FVec Ideal S512x128 .f32) (v331 : FVec Ideal S512x128 .f32) (r : Fin 512) (x : Fin 128) :
    k0_pay195 (F := Ideal) v323 v326 v331 (ix3 (0 : Fin 1) r x) = v326 (ix2 r x) + (v331 (ix2 r x) + v323 (ix2 r (⟨384 + x.val, by omega⟩ : Fin 512))) := by unfold k0_pay195; pointwise

theorem pay1_apply  (c : Fin 2) (r : Fin 1024) (x : Fin 128) :
    k0_pay1 (F := Ideal)  (ix3 c r x) = 0 := by unfold k0_pay1; pointwise

theorem pay83_apply  (c : Fin 2) (r : Fin 1024) (x : Fin 128) :
    k0_pay83 (F := Ideal)  (ix3 c r x) = 0 := by unfold k0_pay83; pointwise

theorem pay151_apply  (c : Fin 2) (r : Fin 1024) (x : Fin 128) :
    k0_pay151 (F := Ideal)  (ix3 c r x) = 0 := by unfold k0_pay151; pointwise

theorem pay2_apply  (c : Fin 2) (r : Fin 1024) (x : Fin 256) :
    k0_pay2 (F := Ideal)  (ix3 c r x) = 0 := by unfold k0_pay2; pointwise

theorem pay84_apply  (c : Fin 2) (r : Fin 1024) (x : Fin 256) :
    k0_pay84 (F := Ideal)  (ix3 c r x) = 0 := by unfold k0_pay84; pointwise

theorem pay152_apply  (c : Fin 2) (r : Fin 1024) (x : Fin 256) :
    k0_pay152 (F := Ideal)  (ix3 c r x) = 0 := by unfold k0_pay152; pointwise

theorem pay153_apply  (c : Fin 2) (r : Fin 1024) (x : Fin 128) :
    k0_pay153 (F := Ideal)  (ix3 c r x) = ⊥ := by unfold k0_pay153; pointwise; rfl

theorem pay45_apply (v24 : Vec Ideal S64x5632 .f32) (r : Fin 64) (x : Fin 5632) :
    k0_pay45 (F := Ideal) v24 (ix2 r x) = v24 (ix2 r x) := by unfold k0_pay45; pointwise

theorem pay46_apply (v27 : Vec Ideal S64x5632 .f32) (r : Fin 64) (x : Fin 5632) :
    k0_pay46 (F := Ideal) v27 (ix2 r x) = v27 (ix2 r x) := by unfold k0_pay46; pointwise

theorem pay86_apply (v24 : Vec Ideal S64x5632 .f32) (r : Fin 64) (x : Fin 5632) :
    k0_pay86 (F := Ideal) v24 (ix2 r x) = v24 (ix2 r x) := by unfold k0_pay86; pointwise

theorem pay87_apply (v27 : Vec Ideal S64x5632 .f32) (r : Fin 64) (x : Fin 5632) :
    k0_pay87 (F := Ideal) v27 (ix2 r x) = v27 (ix2 r x) := by unfold k0_pay87; pointwise

theorem pay149_apply (v8 : Vec Ideal S64x5632 .f32) (r : Fin 64) (x : Fin 5632) :
    k0_pay149 (F := Ideal) v8 (ix2 r x) = v8 (ix2 r x) := by unfold k0_pay149; pointwise

theorem pay150_apply (v11 : Vec Ideal S64x5632 .f32) (r : Fin 64) (x : Fin 5632) :
    k0_pay150 (F := Ideal) v11 (ix2 r x) = v11 (ix2 r x) := by unfold k0_pay150; pointwise

theorem pay78_apply (v385 : Vec Ideal S1x128 .f32) (x : Fin 128) :
    k0_pay78 (F := Ideal) v385 (ix2 (0 : Fin 1) x) = v385 (ix2 (0 : Fin 1) x) := by unfold k0_pay78; pointwise

theorem pay79_apply (v387 : Vec Ideal S1x128 .f32) (x : Fin 128) :
    k0_pay79 (F := Ideal) v387 (ix2 (0 : Fin 1) x) = v387 (ix2 (0 : Fin 1) x) := by unfold k0_pay79; pointwise

theorem pay119_apply (v385 : Vec Ideal S1x128 .f32) (x : Fin 128) :
    k0_pay119 (F := Ideal) v385 (ix2 (0 : Fin 1) x) = v385 (ix2 (0 : Fin 1) x) := by unfold k0_pay119; pointwise

theorem pay120_apply (v387 : Vec Ideal S1x128 .f32) (x : Fin 128) :
    k0_pay120 (F := Ideal) v387 (ix2 (0 : Fin 1) x) = v387 (ix2 (0 : Fin 1) x) := by unfold k0_pay120; pointwise

theorem pay80_apply (v386 : FVec Ideal S1x128 .f32) (v388 : FVec Ideal S1x128 .f32) (v393 : Vec Ideal S1x128 .f32) (v395 : Vec Ideal S1x128 .f32) (v404 : Vec Ideal S1x1024x128 .f32) (v410 : Vec Ideal S1x1024x128 .f32) (v416 : Vec Ideal S1x1024x256 .f32) (v420 : Vec Ideal S1x1024x256 .f32) (r : Fin 1024) (x : Fin 256) :
    k0_pay80 (F := Ideal) v386 v388 v393 v395 v404 v410 v416 v420 (ix2 r x) = outO (lamE (fun e => v386 (ix2 (0 : Fin 1) e)) (fun e => v388 (ix2 (0 : Fin 1) e)) (fun e => v393 (ix2 (0 : Fin 1) e)) (fun e => v395 (ix2 (0 : Fin 1) e))) (fun z => v404 (ix3 (0 : Fin 1) r z)) (fun z => v410 (ix3 (0 : Fin 1) r z)) (v416 (ix3 (0 : Fin 1) r x)) (v420 (ix3 (0 : Fin 1) r x)) := by unfold k0_pay80 outO lamE; pointwise <;> rfl

theorem pay121_apply (v386 : FVec Ideal S1x128 .f32) (v388 : FVec Ideal S1x128 .f32) (v393 : Vec Ideal S1x128 .f32) (v395 : Vec Ideal S1x128 .f32) (v404 : Vec Ideal S1x1024x128 .f32) (v410 : Vec Ideal S1x1024x128 .f32) (v416 : Vec Ideal S1x1024x256 .f32) (v420 : Vec Ideal S1x1024x256 .f32) (r : Fin 1024) (x : Fin 256) :
    k0_pay121 (F := Ideal) v386 v388 v393 v395 v404 v410 v416 v420 (ix2 r x) = outO (lamE (fun e => v386 (ix2 (0 : Fin 1) e)) (fun e => v388 (ix2 (0 : Fin 1) e)) (fun e => v393 (ix2 (0 : Fin 1) e)) (fun e => v395 (ix2 (0 : Fin 1) e))) (fun z => v404 (ix3 (0 : Fin 1) r z)) (fun z => v410 (ix3 (0 : Fin 1) r z)) (v416 (ix3 (0 : Fin 1) r x)) (v420 (ix3 (0 : Fin 1) r x)) := by unfold k0_pay121 outO lamE; pointwise <;> rfl

theorem pay81_apply (v386 : FVec Ideal S1x128 .f32) (v388 : FVec Ideal S1x128 .f32) (v393 : Vec Ideal S1x128 .f32) (v395 : Vec Ideal S1x128 .f32) (v404 : Vec Ideal S1x1024x128 .f32) (v410 : Vec Ideal S1x1024x128 .f32) (v416 : Vec Ideal S1x1024x256 .f32) (v420 : Vec Ideal S1x1024x256 .f32) (r : Fin 1024) (x : Fin 256) :
    k0_pay81 (F := Ideal) v386 v388 v393 v395 v404 v410 v416 v420 (ix2 r x) = k0_pay80 (F := Ideal) v386 v388 v393 v395 v404 v410 v416 v420 (ix2 r x) * k0_pay80 (F := Ideal) v386 v388 v393 v395 v404 v410 v416 v420 (ix2 r x) := by unfold k0_pay81; generalize k0_pay80 (F := Ideal) v386 v388 v393 v395 v404 v410 v416 v420 = P; pointwise

theorem pay122_apply (v386 : FVec Ideal S1x128 .f32) (v388 : FVec Ideal S1x128 .f32) (v393 : Vec Ideal S1x128 .f32) (v395 : Vec Ideal S1x128 .f32) (v404 : Vec Ideal S1x1024x128 .f32) (v410 : Vec Ideal S1x1024x128 .f32) (v416 : Vec Ideal S1x1024x256 .f32) (v420 : Vec Ideal S1x1024x256 .f32) (r : Fin 1024) (x : Fin 256) :
    k0_pay122 (F := Ideal) v386 v388 v393 v395 v404 v410 v416 v420 (ix2 r x) = k0_pay121 (F := Ideal) v386 v388 v393 v395 v404 v410 v416 v420 (ix2 r x) * k0_pay121 (F := Ideal) v386 v388 v393 v395 v404 v410 v416 v420 (ix2 r x) := by unfold k0_pay122; generalize k0_pay121 (F := Ideal) v386 v388 v393 v395 v404 v410 v416 v420 = P; pointwise

theorem pay82_apply (v424 : FVec Ideal S1024x256 .f32) (v425 : FVec Ideal S1024x256 .f32) (v436 : Vec Ideal S1x256 .f32) (r : Fin 1024) (x : Fin 256) :
    k0_pay82 (F := Ideal) v424 v425 v436 (ix2 r x) = normO (v424 (ix2 r x)) (∑ z : Fin 256, v425 (ix2 r z)) (v436 (ix2 (0 : Fin 1) x)) := by unfold k0_pay82 normO; pointwise <;> rfl

theorem pay11_apply (v424 : FVec Ideal S1024x256 .f32) (v425 : FVec Ideal S1024x256 .f32) (v436 : Vec Ideal S1x256 .f32) (r : Fin 1024) (x : Fin 256) :
    k0_pay11 (F := Ideal) v424 v425 v436 (ix2 r x) = normO (v424 (ix2 r x)) (∑ z : Fin 256, v425 (ix2 r z)) (v436 (ix2 (0 : Fin 1) x)) := by unfold k0_pay11 normO; pointwise <;> rfl

theorem pay209_apply (v455 : Vec Ideal S1x128 .f32) (v457 : Vec Ideal S1x128 .f32) (v463 : Vec Ideal S1x128 .f32) (v465 : Vec Ideal S1x128 .f32) (v480 : Vec Ideal S1x1024x128 .f32) (r : Fin 1024) :
    k0_pay209 (F := Ideal) v455 v457 v463 v465 v480 (ix2 r (0 : Fin 1)) = Ideal.div (lamE (fun e => v455 (ix2 (0 : Fin 1) e)) (fun e => v457 (ix2 (0 : Fin 1) e)) (fun e => v463 (ix2 (0 : Fin 1) e)) (fun e => v465 (ix2 (0 : Fin 1) e))) (∑ z : Fin 128, v480 (ix3 (0 : Fin 1) r z)) := by unfold k0_pay209 lamE; pointwise <;> rfl

theorem pay211_apply (v474 : Vec Ideal S1x1024x128 .f32) (r : Fin 1024) (x : Fin 256) :
    k0_pay211 (F := Ideal) v474 (ix2 r x) = Ideal.div 1 (∑ z : Fin 128, v474 (ix3 (0 : Fin 1) r z)) := by unfold k0_pay211; pointwise <;> rfl

theorem pay12_apply (v485 : FVec Ideal S1024x1 .f32) (v487 : FVec Ideal S1024x256 .f32) (v488 : FVec Ideal S1024x256 .f32) (v490 : Vec Ideal S1x1024x256 .f32) (v506 : Vec Ideal S1x256 .f32) (r : Fin 1024) (x : Fin 256) :
    k0_pay12 (F := Ideal) v485 v487 v488 v490 v506 (ix2 r x) = normO (v487 (ix2 r x) * v488 (ix2 r x) - v490 (ix3 (0 : Fin 1) r x) * v485 (ix2 r (0 : Fin 1))) (∑ z : Fin 256, (v487 (ix2 r z) * v488 (ix2 r z) - v490 (ix3 (0 : Fin 1) r z) * v485 (ix2 r (0 : Fin 1))) * (v487 (ix2 r z) * v488 (ix2 r z) - v490 (ix3 (0 : Fin 1) r z) * v485 (ix2 r (0 : Fin 1)))) (v506 (ix2 (0 : Fin 1) x)) := by unfold k0_pay12 normO; pointwise <;> rfl

end Cert.KernelIdeal.Attn

end
-- ==== Proof.AttnMask.lean ====
module

public import proofs.«01_k».proof.Proof.Gen.KernelIdeal.Skeleton
public import Idealize.ShloMosaic.Lib.Pointwise
public import Idealize.ShloMosaic.Lib.Pipeline.ValueKit

/-! The causal chunk masks: the kernel's words for a floor division by 64, and each masked tile read at an index. -/

@[expose] public section

set_option maxRecDepth 16384
set_option maxHeartbeats 4000000

noncomputable section

namespace Cert.KernelIdeal.Attn

open Cert.KernelIdeal Cert.KernelIdeal.Gen Idealize.ShloMosaic Idealize.ShloMosaic.TcCoe Idealize.SL.Sem
open scoped BigOperators

/-- The floor of a division by 64, as the kernel's words compute it. -/
theorem quot_word : ∀ n : Fin 1024,
    Scalar.select
      (IntOp.andi
        (IntOp.cmpi .ne
          (IntOp.subi (BitVec.setWidth 32 (IntOp.cmpi .sgt (BitVec.ofNat 32 n.val) 0#32)) (BitVec.setWidth 32 (IntOp.cmpi .slt (BitVec.ofNat 32 n.val) 0#32)))
          (Scalar.subi (Scalar.extui (Scalar.cmpi .sgt 64#32 0#32)) (Scalar.extui (Scalar.cmpi .slt 64#32 0#32)) : BitVec 32))
        (IntOp.cmpi .ne (IntOp.remsi .vector (BitVec.ofNat 32 n.val) 64#32) 0#32))
      (IntOp.subi (IntOp.divsi .vector (BitVec.ofNat 32 n.val) 64#32) 1#32)
      (IntOp.divsi .vector (BitVec.ofNat 32 n.val) 64#32) = BitVec.ofNat 32 (n.val / 64) := by decide +kernel

theorem sle_word : ∀ a b : Fin 16, IntOp.cmpi .sle (BitVec.ofNat 32 a.val) (BitVec.ofNat 32 b.val) = if a.val ≤ b.val then 1#1 else 0#1 := by decide +kernel

theorem select_le (a b : ℕ) (ha : a < 1024) (hb : b < 1024) (x y : EReal) :
    Scalar.select (IntOp.cmpi .sle (BitVec.ofNat 32 (a / 64)) (BitVec.ofNat 32 (b / 64))) x y = if a / 64 ≤ b / 64 then x else y := by
  rw [show IntOp.cmpi .sle (BitVec.ofNat 32 (a / 64)) (BitVec.ofNat 32 (b / 64)) = _ from sle_word ⟨a / 64, by omega⟩ ⟨b / 64, by omega⟩]
  dsimp only
  split <;> rfl

theorem mask_bot : (Named.named κ "mask" 0xF149F2CA#32 : Ideal .f32) = (⊥ : EReal) := rfl

theorem pay50_mask (v : FVec Ideal S1024x512 .f32) (r : Fin 1024) (x : Fin 512) :
    k0_pay50 (F := Ideal) v k0_pay48 k0_pay49 (ix2 r x) = if x.val / 64 ≤ r.val / 64 then v (ix2 r x) else 0 := by
  unfold k0_pay50 k0_pay48 k0_pay49; pointwise
  have h1 := quot_word ⟨x.val, by omega⟩
  have h2 := quot_word ⟨r.val, by omega⟩
  dsimp only at h1 h2
  rw [h1, h2]
  exact select_le _ _ (by omega) (by omega) _ _

theorem pay91_mask (v : FVec Ideal S1024x512 .f32) (r : Fin 1024) (x : Fin 512) :
    k0_pay91 (F := Ideal) v k0_pay89 k0_pay90 (ix2 r x) = if x.val / 64 ≤ r.val / 64 then v (ix2 r x) else 0 := by
  unfold k0_pay91 k0_pay89 k0_pay90; pointwise
  have h1 := quot_word ⟨x.val, by omega⟩
  have h2 := quot_word ⟨r.val, by omega⟩
  dsimp only at h1 h2
  rw [h1, h2]
  exact select_le _ _ (by omega) (by omega) _ _

theorem pay56_mask (v : FVec Ideal S1024x512 .f32) (r : Fin 1024) (x : Fin 512) :
    k0_pay56 (F := Ideal) v k0_pay54 (iota .tc S1024x512 32 [1] iota_S1024x512_d1_w32) 64#32 k0_pay55 (ix2 r x) = if x.val / 64 ≤ r.val / 64 then v (ix2 r x) else 0 := by
  unfold k0_pay56 k0_pay54 k0_pay55; pointwise
  have h1 := quot_word ⟨x.val, by omega⟩
  have h2 := quot_word ⟨r.val, by omega⟩
  dsimp only at h1 h2
  rw [h1, h2]
  exact select_le _ _ (by omega) (by omega) _ _

theorem pay97_mask (v : FVec Ideal S1024x512 .f32) (r : Fin 1024) (x : Fin 512) :
    k0_pay97 (F := Ideal) v k0_pay95 (iota .tc S1024x512 32 [1] iota_S1024x512_d1_w32) 64#32 k0_pay96 (ix2 r x) = if x.val / 64 ≤ r.val / 64 then v (ix2 r x) else 0 := by
  unfold k0_pay97 k0_pay95 k0_pay96; pointwise
  have h1 := quot_word ⟨x.val, by omega⟩
  have h2 := quot_word ⟨r.val, by omega⟩
  dsimp only at h1 h2
  rw [h1, h2]
  exact select_le _ _ (by omega) (by omega) _ _

theorem pay68_mask (v : FVec Ideal S512x512 .f32) (r : Fin 512) (x : Fin 512) :
    k0_pay68 (F := Ideal) v k0_pay64 (iota .tc S512x512 32 [1] iota_S512x512_d1_w32) 64#32 k0_pay65 k0_pay66 k0_pay67 (ix2 r x) = if x.val / 64 ≤ r.val / 64 then v (ix2 r x) else 0 := by
  unfold k0_pay68 k0_pay64 k0_pay65 k0_pay66 k0_pay67; pointwise
  have h1 := quot_word ⟨x.val, by omega⟩
  have h2 := quot_word ⟨r.val, by omega⟩
  dsimp only at h1 h2
  rw [h1, h2]
  exact select_le _ _ (by omega) (by omega) _ _

theorem pay109_mask (v : FVec Ideal S512x512 .f32) (r : Fin 512) (x : Fin 512) :
    k0_pay109 (F := Ideal) v k0_pay105 (iota .tc S512x512 32 [1] iota_S512x512_d1_w32) 64#32 k0_pay106 k0_pay107 k0_pay108 (ix2 r x) = if x.val / 64 ≤ r.val / 64 then v (ix2 r x) else 0 := by
  unfold k0_pay109 k0_pay105 k0_pay106 k0_pay107 k0_pay108; pointwise
  have h1 := quot_word ⟨x.val, by omega⟩
  have h2 := quot_word ⟨r.val, by omega⟩
  dsimp only at h1 h2
  rw [h1, h2]
  exact select_le _ _ (by omega) (by omega) _ _

theorem pay75_mask (v : FVec Ideal S512x512 .f32) (r : Fin 512) (x : Fin 512) :
    k0_pay75 (F := Ideal) v k0_pay72 (iota .tc S512x512 32 [1] iota_S512x512_d1_w32) 64#32 k0_pay73 k0_pay74 (Scalar.subi (Scalar.extui (Scalar.cmpi .sgt 64#32 0#32)) (Scalar.extui (Scalar.cmpi .slt 64#32 0#32))) (ix2 r x) = if x.val / 64 ≤ r.val / 64 then v (ix2 r x) else 0 := by
  unfold k0_pay75 k0_pay72 k0_pay73 k0_pay74; pointwise
  have h1 := quot_word ⟨x.val, by omega⟩
  have h2 := quot_word ⟨r.val, by omega⟩
  dsimp only at h1 h2
  rw [h1, h2]
  exact select_le _ _ (by omega) (by omega) _ _

theorem pay116_mask (v : FVec Ideal S512x512 .f32) (r : Fin 512) (x : Fin 512) :
    k0_pay116 (F := Ideal) v k0_pay113 (iota .tc S512x512 32 [1] iota_S512x512_d1_w32) 64#32 k0_pay114 k0_pay115 (Scalar.subi (Scalar.extui (Scalar.cmpi .sgt 64#32 0#32)) (Scalar.extui (Scalar.cmpi .slt 64#32 0#32))) (ix2 r x) = if x.val / 64 ≤ r.val / 64 then v (ix2 r x) else 0 := by
  unfold k0_pay116 k0_pay113 k0_pay114 k0_pay115; pointwise
  have h1 := quot_word ⟨x.val, by omega⟩
  have h2 := quot_word ⟨r.val, by omega⟩
  dsimp only at h1 h2
  rw [h1, h2]
  exact select_le _ _ (by omega) (by omega) _ _

theorem pay164_mask (v : FVec Ideal S1024x512 .f32) (r : Fin 1024) (x : Fin 512) :
    k0_pay164 (F := Ideal) v k0_pay161 (iota .tc S1024x512 32 [1] iota_S1024x512_d1_w32) 64#32 k0_pay162 k0_pay163 (ix2 r x) = if x.val / 64 ≤ r.val / 64 then v (ix2 r x) else ⊥ := by
  unfold k0_pay164 k0_pay161 k0_pay162 k0_pay163; pointwise
  have h1 := quot_word ⟨x.val, by omega⟩
  have h2 := quot_word ⟨r.val, by omega⟩
  dsimp only at h1 h2
  rw [h1, h2]
  exact select_le _ _ (by omega) (by omega) _ _

theorem pay177_mask (v : FVec Ideal S1024x512 .f32) (r : Fin 1024) (x : Fin 512) :
    k0_pay177 (F := Ideal) v (iota .tc S1024x512 32 [0] iota_S1024x512_d0_w32) 64#32 k0_pay174 k0_pay175 k0_pay176 (ix2 r x) = if x.val / 64 ≤ r.val / 64 then v (ix2 r x) else ⊥ := by
  unfold k0_pay177 k0_pay174 k0_pay175 k0_pay176; pointwise
  have h1 := quot_word ⟨x.val, by omega⟩
  have h2 := quot_word ⟨r.val, by omega⟩
  dsimp only at h1 h2
  rw [h1, h2]
  exact select_le _ _ (by omega) (by omega) _ _

theorem pay188_mask (v : FVec Ideal S512x512 .f32) (r : Fin 512) (x : Fin 512) :
    k0_pay188 (F := Ideal) v k0_pay186 (iota .tc S512x512 32 [1] iota_S512x512_d1_w32) 64#32 k0_pay187 (ix2 r x) = if x.val / 64 ≤ r.val / 64 then v (ix2 r x) else ⊥ := by
  unfold k0_pay188 k0_pay186 k0_pay187; pointwise
  have h1 := quot_word ⟨x.val, by omega⟩
  have h2 := quot_word ⟨r.val, by omega⟩
  dsimp only at h1 h2
  rw [h1, h2]
  exact select_le _ _ (by omega) (by omega) _ _

theorem pay201_mask (v : FVec Ideal S512x512 .f32) (r : Fin 512) (x : Fin 512) :
    k0_pay201 (F := Ideal) v (iota .tc S512x512 32 [0] iota_S512x512_d0_w32) 64#32 k0_pay199 k0_pay200 (ix2 r x) = if x.val / 64 ≤ r.val / 64 then v (ix2 r x) else ⊥ := by
  unfold k0_pay201 k0_pay199 k0_pay200; pointwise
  have h1 := quot_word ⟨x.val, by omega⟩
  have h2 := quot_word ⟨r.val, by omega⟩
  dsimp only at h1 h2
  rw [h1, h2]
  exact select_le _ _ (by omega) (by omega) _ _

end Cert.KernelIdeal.Attn

end
-- ==== Proof.AttnRead.lean ====
module

public import proofs.«01_k».proof.Proof.Gen.KernelIdeal.Skeleton
public import Idealize.ShloMosaic.Lib.Pipeline.ValueKit
public import Idealize.ShloMosaic.Lib.VecWindow

/-! Reading the attention kernel's buffers: a load of a tile of the projected array, and what the scratch planes hold after a
list of stores, each read at one index. -/

@[expose] public section

set_option maxRecDepth 16384
set_option maxHeartbeats 4000000

noncomputable section

namespace Cert.KernelIdeal.Attn

open Cert.KernelIdeal Cert.KernelIdeal.Gen Idealize.ShloMosaic Idealize.ShloMosaic.TcCoe Idealize.SL.Sem
open scoped BigOperators

local notation "𝕍" => Elt Ideal

/-- A head's block of the projected array at a row and a column given as numbers. -/
def at8 (X : S8192x256.Idx → EReal) (r e : ℕ) : EReal :=
  if h : r < 8192 ∧ e < 256 then X (ix2 (⟨r, h.1⟩ : Fin 8192) (⟨e, h.2⟩ : Fin 256)) else 0

/-- A row of the lower half of a tile of 1024 rows. -/
def lo (r : Fin 512) : Fin 1024 := ⟨512 + r.val, by omega⟩
/-- A row of the upper half of a tile of 1024 rows. -/
def hi (r : Fin 512) : Fin 1024 := ⟨r.val, by omega⟩
theorem lo_val (r : Fin 512) : (lo r).val = 512 + r.val := rfl
theorem hi_val (r : Fin 512) : (hi r).val = r.val := rfl
theorem half_cases (r : Fin 1024) : (∃ s, r = hi s) ∨ ∃ s, r = lo s := by
  by_cases h : r.val < 512
  · exact .inl ⟨⟨r.val, h⟩, rfl⟩
  · exact .inr ⟨⟨r.val - 512, by omega⟩, Fin.ext (by show r.val = 512 + (r.val - 512); omega)⟩

theorem load8 {m w : ℕ} (v : View sig .tc .vmem S8192x256 .bf16) (f : v.ty.Contents 𝕍) (off : Fin 2 → ℕ) (a b : ℕ) (h : off = ![a, b])
    (inb : ∀ d, off d + (⟨2, ![m, w]⟩ : Shape).size d ≤ S8192x256.size d) (r : Fin m) (e : Fin w) (R C : ℕ) (hR : a + r.val = R) (hC : b + e.val = C) :
    v.readAt 𝕍 (Rect.unit (s := S8192x256) off (⟨2, ![m, w]⟩ : Shape).size inb).toLoadRect f (ix2 r e) = at8 (v.read 𝕍 f) R C := by
  subst h hR hC
  have h0 : a + m ≤ 8192 := inb 0
  have h1 : b + w ≤ 256 := inb 1
  unfold at8
  rw [dif_pos ⟨by omega, by omega⟩]
  exact congrArg (v.read 𝕍 f) (funext fun d => Fin.ext (by
    match d with
    | ⟨0, _⟩ => show a + 1 * r.val = a + r.val; omega
    | ⟨1, _⟩ => show b + 1 * e.val = b + e.val; omega))

theorem rd2 (v : View sig .tc .vmem S8192x256 .bf16) (f : v.ty.Contents 𝕍) (i : grid0.Coords)
    (inb : ∀ d, (k0_off2 i) d + S1024x128.size d ≤ S8192x256.size d) (r : Fin 1024) (e : Fin 128) :
    v.readAt 𝕍 (Rect.unit (s := S8192x256) (k0_off2 i) ![1024, 128] inb).toLoadRect f (ix2 r e) = at8 (v.read 𝕍 f) (1024 * (i 1).val + r.val) (128 * 0 + e.val) :=
  load8 v f _ _ _ (k0_off2_eq i) inb r e _ _ (by first | omega | (rw [lo_val]; omega)) (by omega)

theorem rd4 (v : View sig .tc .vmem S8192x256 .bf16) (f : v.ty.Contents 𝕍) (i : grid0.Coords)
    (inb : ∀ d, (k0_off4 i) d + S1024x128.size d ≤ S8192x256.size d) (r : Fin 1024) (e : Fin 128) :
    v.readAt 𝕍 (Rect.unit (s := S8192x256) (k0_off4 i) ![1024, 128] inb).toLoadRect f (ix2 r e) = at8 (v.read 𝕍 f) (1024 * (i 1).val + r.val) (128 * 1 + e.val) :=
  load8 v f _ _ _ (k0_off4_eq i) inb r e _ _ (by first | omega | (rw [lo_val]; omega)) (by omega)

theorem rd30 (v : View sig .tc .vmem S8192x256 .bf16) (f : v.ty.Contents 𝕍) (i : grid0.Coords)
    (inb : ∀ d, (k0_off30 i) d + S1024x128.size d ≤ S8192x256.size d) (r : Fin 1024) (e : Fin 128) :
    v.readAt 𝕍 (Rect.unit (s := S8192x256) (k0_off30 i) ![1024, 128] inb).toLoadRect f (ix2 r e) = at8 (v.read 𝕍 f) (1024 * (i 1).val + r.val) (128 * 0 + e.val) :=
  load8 v f _ _ _ (k0_off30_eq i) inb r e _ _ (by first | omega | (rw [lo_val]; omega)) (by omega)

theorem rd32 (v : View sig .tc .vmem S8192x256 .bf16) (f : v.ty.Contents 𝕍) (i : grid0.Coords)
    (inb : ∀ d, (k0_off32 i) d + S1024x128.size d ≤ S8192x256.size d) (r : Fin 1024) (e : Fin 128) :
    v.readAt 𝕍 (Rect.unit (s := S8192x256) (k0_off32 i) ![1024, 128] inb).toLoadRect f (ix2 r e) = at8 (v.read 𝕍 f) (1024 * (i 1).val + r.val) (128 * 1 + e.val) :=
  load8 v f _ _ _ (k0_off32_eq i) inb r e _ _ (by first | omega | (rw [lo_val]; omega)) (by omega)

theorem rd40 (v : View sig .tc .vmem S8192x256 .bf16) (f : v.ty.Contents 𝕍) (i : grid0.Coords)
    (inb : ∀ d, (k0_off40 i) d + S1024x128.size d ≤ S8192x256.size d) (r : Fin 1024) (e : Fin 128) :
    v.readAt 𝕍 (Rect.unit (s := S8192x256) (k0_off40 i) ![1024, 128] inb).toLoadRect f (ix2 r e) = at8 (v.read 𝕍 f) (1024 * (i 1).val + r.val) (128 * 0 + e.val) :=
  load8 v f _ _ _ (k0_off40_eq i) inb r e _ _ (by first | omega | (rw [lo_val]; omega)) (by omega)

theorem rd42 (v : View sig .tc .vmem S8192x256 .bf16) (f : v.ty.Contents 𝕍) (i : grid0.Coords)
    (inb : ∀ d, (k0_off42 i) d + S1024x128.size d ≤ S8192x256.size d) (r : Fin 1024) (e : Fin 128) :
    v.readAt 𝕍 (Rect.unit (s := S8192x256) (k0_off42 i) ![1024, 128] inb).toLoadRect f (ix2 r e) = at8 (v.read 𝕍 f) (1024 * (i 1).val + r.val) (128 * 1 + e.val) :=
  load8 v f _ _ _ (k0_off42_eq i) inb r e _ _ (by first | omega | (rw [lo_val]; omega)) (by omega)

theorem rd14 (v : View sig .tc .vmem S8192x256 .bf16) (f : v.ty.Contents 𝕍) (i : grid0.Coords)
    (inb : ∀ d, (k0_off14 i) d + S512x128.size d ≤ S8192x256.size d) (r : Fin 512) (e : Fin 128) :
    v.readAt 𝕍 (Rect.unit (s := S8192x256) (k0_off14 i) ![512, 128] inb).toLoadRect f (ix2 r e) = at8 (v.read 𝕍 f) (1024 * (i 1).val + (lo r).val) (128 * 0 + e.val) :=
  load8 v f _ _ _ (k0_off14_eq i) inb r e _ _ (by first | omega | (rw [lo_val]; omega)) (by omega)

theorem rd16 (v : View sig .tc .vmem S8192x256 .bf16) (f : v.ty.Contents 𝕍) (i : grid0.Coords)
    (inb : ∀ d, (k0_off16 i) d + S512x128.size d ≤ S8192x256.size d) (r : Fin 512) (e : Fin 128) :
    v.readAt 𝕍 (Rect.unit (s := S8192x256) (k0_off16 i) ![512, 128] inb).toLoadRect f (ix2 r e) = at8 (v.read 𝕍 f) (1024 * (i 1).val + (lo r).val) (128 * 1 + e.val) :=
  load8 v f _ _ _ (k0_off16_eq i) inb r e _ _ (by first | omega | (rw [lo_val]; omega)) (by omega)

theorem rd23 (v : View sig .tc .vmem S8192x256 .bf16) (f : v.ty.Contents 𝕍) (i : grid0.Coords)
    (inb : ∀ d, (k0_off23 i) d + S512x128.size d ≤ S8192x256.size d) (r : Fin 512) (e : Fin 128) :
    v.readAt 𝕍 (Rect.unit (s := S8192x256) (k0_off23 i) ![512, 128] inb).toLoadRect f (ix2 r e) = at8 (v.read 𝕍 f) (1024 * (i 1).val + (lo r).val) (128 * 0 + e.val) :=
  load8 v f _ _ _ (k0_off23_eq i) inb r e _ _ (by first | omega | (rw [lo_val]; omega)) (by omega)

theorem rd25 (v : View sig .tc .vmem S8192x256 .bf16) (f : v.ty.Contents 𝕍) (i : grid0.Coords)
    (inb : ∀ d, (k0_off25 i) d + S512x128.size d ≤ S8192x256.size d) (r : Fin 512) (e : Fin 128) :
    v.readAt 𝕍 (Rect.unit (s := S8192x256) (k0_off25 i) ![512, 128] inb).toLoadRect f (ix2 r e) = at8 (v.read 𝕍 f) (1024 * (i 1).val + (lo r).val) (128 * 1 + e.val) :=
  load8 v f _ _ _ (k0_off25_eq i) inb r e _ _ (by first | omega | (rw [lo_val]; omega)) (by omega)

theorem rd45 (v : View sig .tc .vmem S8192x256 .bf16) (f : v.ty.Contents 𝕍) (i : grid0.Coords)
    (inb : ∀ d, (k0_off45 i) d + S512x128.size d ≤ S8192x256.size d) (r : Fin 512) (e : Fin 128) :
    v.readAt 𝕍 (Rect.unit (s := S8192x256) (k0_off45 i) ![512, 128] inb).toLoadRect f (ix2 r e) = at8 (v.read 𝕍 f) (1024 * (i 1).val + (lo r).val) (128 * 0 + e.val) :=
  load8 v f _ _ _ (k0_off45_eq i) inb r e _ _ (by first | omega | (rw [lo_val]; omega)) (by omega)

theorem rd47 (v : View sig .tc .vmem S8192x256 .bf16) (f : v.ty.Contents 𝕍) (i : grid0.Coords)
    (inb : ∀ d, (k0_off47 i) d + S512x128.size d ≤ S8192x256.size d) (r : Fin 512) (e : Fin 128) :
    v.readAt 𝕍 (Rect.unit (s := S8192x256) (k0_off47 i) ![512, 128] inb).toLoadRect f (ix2 r e) = at8 (v.read 𝕍 f) (1024 * (i 1).val + (lo r).val) (128 * 1 + e.val) :=
  load8 v f _ _ _ (k0_off47_eq i) inb r e _ _ (by first | omega | (rw [lo_val]; omega)) (by omega)

theorem rd20 (v : View sig .tc .vmem S8192x256 .bf16) (f : v.ty.Contents 𝕍) (i : grid0.Coords)
    (inb : ∀ d, (k0_off20 i) d + S1024x128.size d ≤ S8192x256.size d) (r : Fin 1024) (e : Fin 128) :
    v.readAt 𝕍 (Rect.unit (s := S8192x256) (k0_off20 i) ![1024, 128] inb).toLoadRect f (ix2 r e) = at8 (v.read 𝕍 f) (1024 * ((i 1).val + 1) + r.val) (128 * 0 + e.val) :=
  load8 v f _ _ _ (k0_off20_eq i) inb r e _ _ (by first | omega | (rw [lo_val]; omega)) (by omega)

theorem rd21 (v : View sig .tc .vmem S8192x256 .bf16) (f : v.ty.Contents 𝕍) (i : grid0.Coords)
    (inb : ∀ d, (k0_off21 i) d + S1024x128.size d ≤ S8192x256.size d) (r : Fin 1024) (e : Fin 128) :
    v.readAt 𝕍 (Rect.unit (s := S8192x256) (k0_off21 i) ![1024, 128] inb).toLoadRect f (ix2 r e) = at8 (v.read 𝕍 f) (1024 * ((i 1).val + 1) + r.val) (128 * 1 + e.val) :=
  load8 v f _ _ _ (k0_off21_eq i) inb r e _ _ (by first | omega | (rw [lo_val]; omega)) (by omega)

theorem rd3_1 (v : View sig .tc .vmem S8192x256 .bf16) (f : v.ty.Contents 𝕍) (i : grid0.Coords) (k : Fin (k0_t1_loop i).trips)
    (inb : ∀ d, (k0_off3 i k 1#32) d + S512x128.size d ≤ S8192x256.size d) (r : Fin 512) (e : Fin 128) :
    v.readAt 𝕍 (Rect.unit (s := S8192x256) (k0_off3 i k 1#32) ![512, 128] inb).toLoadRect f (ix2 r e) = at8 (v.read 𝕍 f) (512 * (2 * k.val + 1) + r.val) (128 * 0 + e.val) :=
  load8 v f _ _ _ (k0_off3_eq i k 0) inb r e _ _ (by first | omega | (rw [lo_val]; omega)) (by omega)

theorem rd3_2 (v : View sig .tc .vmem S8192x256 .bf16) (f : v.ty.Contents 𝕍) (i : grid0.Coords) (k : Fin (k0_t1_loop i).trips)
    (inb : ∀ d, (k0_off3 i k 2#32) d + S512x128.size d ≤ S8192x256.size d) (r : Fin 512) (e : Fin 128) :
    v.readAt 𝕍 (Rect.unit (s := S8192x256) (k0_off3 i k 2#32) ![512, 128] inb).toLoadRect f (ix2 r e) = at8 (v.read 𝕍 f) (512 * (2 * (k.val + 1)) + r.val) (128 * 0 + e.val) :=
  load8 v f _ _ _ (k0_off3_eq i k 1) inb r e _ _ (by first | omega | (rw [lo_val]; omega)) (by omega)

theorem rd5_1 (v : View sig .tc .vmem S8192x256 .bf16) (f : v.ty.Contents 𝕍) (i : grid0.Coords) (k : Fin (k0_t1_loop i).trips)
    (inb : ∀ d, (k0_off5 i k 1#32) d + S512x128.size d ≤ S8192x256.size d) (r : Fin 512) (e : Fin 128) :
    v.readAt 𝕍 (Rect.unit (s := S8192x256) (k0_off5 i k 1#32) ![512, 128] inb).toLoadRect f (ix2 r e) = at8 (v.read 𝕍 f) (512 * (2 * k.val + 1) + r.val) (128 * 1 + e.val) :=
  load8 v f _ _ _ (k0_off5_eq i k 0) inb r e _ _ (by first | omega | (rw [lo_val]; omega)) (by omega)

theorem rd5_2 (v : View sig .tc .vmem S8192x256 .bf16) (f : v.ty.Contents 𝕍) (i : grid0.Coords) (k : Fin (k0_t1_loop i).trips)
    (inb : ∀ d, (k0_off5 i k 2#32) d + S512x128.size d ≤ S8192x256.size d) (r : Fin 512) (e : Fin 128) :
    v.readAt 𝕍 (Rect.unit (s := S8192x256) (k0_off5 i k 2#32) ![512, 128] inb).toLoadRect f (ix2 r e) = at8 (v.read 𝕍 f) (512 * (2 * (k.val + 1)) + r.val) (128 * 1 + e.val) :=
  load8 v f _ _ _ (k0_off5_eq i k 1) inb r e _ _ (by first | omega | (rw [lo_val]; omega)) (by omega)

theorem rd31 (v : View sig .tc .vmem S8192x256 .bf16) (f : v.ty.Contents 𝕍) (i : grid0.Coords) (k : Fin (k0_t3_loop i).trips)
    (inb : ∀ d, (k0_off31 i k) d + S512x128.size d ≤ S8192x256.size d) (r : Fin 512) (e : Fin 128) :
    v.readAt 𝕍 (Rect.unit (s := S8192x256) (k0_off31 i k) ![512, 128] inb).toLoadRect f (ix2 r e) = at8 (v.read 𝕍 f) (512 * k.val + r.val) (128 * 0 + e.val) :=
  load8 v f _ _ _ (k0_off31_eq i k) inb r e _ _ (by first | omega | (rw [lo_val]; omega)) (by omega)

theorem rd33 (v : View sig .tc .vmem S8192x256 .bf16) (f : v.ty.Contents 𝕍) (i : grid0.Coords) (k : Fin (k0_t3_loop i).trips)
    (inb : ∀ d, (k0_off33 i k) d + S512x128.size d ≤ S8192x256.size d) (r : Fin 512) (e : Fin 128) :
    v.readAt 𝕍 (Rect.unit (s := S8192x256) (k0_off33 i k) ![512, 128] inb).toLoadRect f (ix2 r e) = at8 (v.read 𝕍 f) (512 * k.val + r.val) (128 * 1 + e.val) :=
  load8 v f _ _ _ (k0_off33_eq i k) inb r e _ _ (by first | omega | (rw [lo_val]; omega)) (by omega)

theorem rd41 (v : View sig .tc .vmem S8192x256 .bf16) (f : v.ty.Contents 𝕍) (i : grid0.Coords)
    (inb : ∀ d, (k0_off41 i) d + S512x128.size d ≤ S8192x256.size d) (r : Fin 512) (e : Fin 128) :
    v.readAt 𝕍 (Rect.unit (s := S8192x256) (k0_off41 i) ![512, 128] inb).toLoadRect f (ix2 r e) = at8 (v.read 𝕍 f) (512 * (2 * (i 1).val) + r.val) (128 * 0 + e.val) :=
  load8 v f _ _ _ (k0_off41_eq i) inb r e _ _ (by first | omega | (rw [lo_val]; omega)) (by omega)

theorem rd43 (v : View sig .tc .vmem S8192x256 .bf16) (f : v.ty.Contents 𝕍) (i : grid0.Coords)
    (inb : ∀ d, (k0_off43 i) d + S512x128.size d ≤ S8192x256.size d) (r : Fin 512) (e : Fin 128) :
    v.readAt 𝕍 (Rect.unit (s := S8192x256) (k0_off43 i) ![512, 128] inb).toLoadRect f (ix2 r e) = at8 (v.read 𝕍 f) (512 * (2 * (i 1).val) + r.val) (128 * 1 + e.val) :=
  load8 v f _ _ _ (k0_off43_eq i) inb r e _ _ (by first | omega | (rw [lo_val]; omega)) (by omega)

theorem rd15 (v : View sig .tc .vmem S8192x256 .bf16) (f : v.ty.Contents 𝕍) (i : grid0.Coords)
    (inb : ∀ d, (k0_off15 i) d + S512x128.size d ≤ S8192x256.size d) (r : Fin 512) (e : Fin 128) :
    v.readAt 𝕍 (Rect.unit (s := S8192x256) (k0_off15 i) ![512, 128] inb).toLoadRect f (ix2 r e) = at8 (v.read 𝕍 f) (512 * (2 * (i 1).val + 1) + r.val) (128 * 0 + e.val) :=
  load8 v f _ _ _ (k0_off15_eq i) inb r e _ _ (by first | omega | (rw [lo_val]; omega)) (by omega)

theorem rd17 (v : View sig .tc .vmem S8192x256 .bf16) (f : v.ty.Contents 𝕍) (i : grid0.Coords)
    (inb : ∀ d, (k0_off17 i) d + S512x128.size d ≤ S8192x256.size d) (r : Fin 512) (e : Fin 128) :
    v.readAt 𝕍 (Rect.unit (s := S8192x256) (k0_off17 i) ![512, 128] inb).toLoadRect f (ix2 r e) = at8 (v.read 𝕍 f) (512 * (2 * (i 1).val + 1) + r.val) (128 * 1 + e.val) :=
  load8 v f _ _ _ (k0_off17_eq i) inb r e _ _ (by first | omega | (rw [lo_val]; omega)) (by omega)

theorem rd24 (v : View sig .tc .vmem S8192x256 .bf16) (f : v.ty.Contents 𝕍) (i : grid0.Coords)
    (inb : ∀ d, (k0_off24 i) d + S512x128.size d ≤ S8192x256.size d) (r : Fin 512) (e : Fin 128) :
    v.readAt 𝕍 (Rect.unit (s := S8192x256) (k0_off24 i) ![512, 128] inb).toLoadRect f (ix2 r e) = at8 (v.read 𝕍 f) (512 * (2 * (i 1).val + 1) + r.val) (128 * 0 + e.val) :=
  load8 v f _ _ _ (k0_off24_eq i) inb r e _ _ (by first | omega | (rw [lo_val]; omega)) (by omega)

theorem rd26 (v : View sig .tc .vmem S8192x256 .bf16) (f : v.ty.Contents 𝕍) (i : grid0.Coords)
    (inb : ∀ d, (k0_off26 i) d + S512x128.size d ≤ S8192x256.size d) (r : Fin 512) (e : Fin 128) :
    v.readAt 𝕍 (Rect.unit (s := S8192x256) (k0_off26 i) ![512, 128] inb).toLoadRect f (ix2 r e) = at8 (v.read 𝕍 f) (512 * (2 * (i 1).val + 1) + r.val) (128 * 1 + e.val) :=
  load8 v f _ _ _ (k0_off26_eq i) inb r e _ _ (by first | omega | (rw [lo_val]; omega)) (by omega)

theorem rd46 (v : View sig .tc .vmem S8192x256 .bf16) (f : v.ty.Contents 𝕍) (i : grid0.Coords)
    (inb : ∀ d, (k0_off46 i) d + S512x128.size d ≤ S8192x256.size d) (r : Fin 512) (e : Fin 128) :
    v.readAt 𝕍 (Rect.unit (s := S8192x256) (k0_off46 i) ![512, 128] inb).toLoadRect f (ix2 r e) = at8 (v.read 𝕍 f) (512 * (2 * (i 1).val + 1) + r.val) (128 * 0 + e.val) :=
  load8 v f _ _ _ (k0_off46_eq i) inb r e _ _ (by first | omega | (rw [lo_val]; omega)) (by omega)

theorem rd48 (v : View sig .tc .vmem S8192x256 .bf16) (f : v.ty.Contents 𝕍) (i : grid0.Coords)
    (inb : ∀ d, (k0_off48 i) d + S512x128.size d ≤ S8192x256.size d) (r : Fin 512) (e : Fin 128) :
    v.readAt 𝕍 (Rect.unit (s := S8192x256) (k0_off48 i) ![512, 128] inb).toLoadRect f (ix2 r e) = at8 (v.read 𝕍 f) (512 * (2 * (i 1).val + 1) + r.val) (128 * 1 + e.val) :=
  load8 v f _ _ _ (k0_off48_eq i) inb r e _ _ (by first | omega | (rw [lo_val]; omega)) (by omega)

theorem rdv1 (v : View sig .tc .vmem S8192x256 .bf16) (f : v.ty.Contents 𝕍) (i : grid0.Coords) (k : Fin (k0_t1_loop i).trips)
    (inb : ∀ d, (k0_off1 i k) d + S512x256.size d ≤ S8192x256.size d) (r : Fin 512) (e : Fin 256) :
    v.readAt 𝕍 (Rect.unit (s := S8192x256) (k0_off1 i k) ![512, 256] inb).toLoadRect f (ix2 r e) = at8 (v.read 𝕍 f) (512 * (2 * k.val) + r.val) (e.val) :=
  load8 v f _ _ _ (k0_off1_eq i k) inb r e _ _ (by first | omega | (rw [lo_val]; omega)) (by omega)

theorem rdv6 (v : View sig .tc .vmem S8192x256 .bf16) (f : v.ty.Contents 𝕍) (i : grid0.Coords) (k : Fin (k0_t1_loop i).trips)
    (inb : ∀ d, (k0_off6 i k) d + S512x256.size d ≤ S8192x256.size d) (r : Fin 512) (e : Fin 256) :
    v.readAt 𝕍 (Rect.unit (s := S8192x256) (k0_off6 i k) ![512, 256] inb).toLoadRect f (ix2 r e) = at8 (v.read 𝕍 f) (512 * (2 * k.val + 1) + r.val) (e.val) :=
  load8 v f _ _ _ (k0_off6_eq i k) inb r e _ _ (by first | omega | (rw [lo_val]; omega)) (by omega)

theorem rdv29 (v : View sig .tc .vmem S8192x256 .bf16) (f : v.ty.Contents 𝕍) (i : grid0.Coords) (k : Fin (k0_t3_loop i).trips)
    (inb : ∀ d, (k0_off29 i k) d + S512x256.size d ≤ S8192x256.size d) (r : Fin 512) (e : Fin 256) :
    v.readAt 𝕍 (Rect.unit (s := S8192x256) (k0_off29 i k) ![512, 256] inb).toLoadRect f (ix2 r e) = at8 (v.read 𝕍 f) (512 * k.val + r.val) (e.val) :=
  load8 v f _ _ _ (k0_off29_eq i k) inb r e _ _ (by first | omega | (rw [lo_val]; omega)) (by omega)

theorem rdv13 (v : View sig .tc .vmem S8192x256 .bf16) (f : v.ty.Contents 𝕍) (i : grid0.Coords)
    (inb : ∀ d, (k0_off13 i) d + S512x256.size d ≤ S8192x256.size d) (r : Fin 512) (e : Fin 256) :
    v.readAt 𝕍 (Rect.unit (s := S8192x256) (k0_off13 i) ![512, 256] inb).toLoadRect f (ix2 r e) = at8 (v.read 𝕍 f) (512 * (2 * (i 1).val) + r.val) (e.val) :=
  load8 v f _ _ _ (k0_off13_eq i) inb r e _ _ (by first | omega | (rw [lo_val]; omega)) (by omega)

theorem rdv22 (v : View sig .tc .vmem S8192x256 .bf16) (f : v.ty.Contents 𝕍) (i : grid0.Coords)
    (inb : ∀ d, (k0_off22 i) d + S512x256.size d ≤ S8192x256.size d) (r : Fin 512) (e : Fin 256) :
    v.readAt 𝕍 (Rect.unit (s := S8192x256) (k0_off22 i) ![512, 256] inb).toLoadRect f (ix2 r e) = at8 (v.read 𝕍 f) (512 * (2 * (i 1).val) + r.val) (e.val) :=
  load8 v f _ _ _ (k0_off22_eq i) inb r e _ _ (by first | omega | (rw [lo_val]; omega)) (by omega)

theorem rdv39 (v : View sig .tc .vmem S8192x256 .bf16) (f : v.ty.Contents 𝕍) (i : grid0.Coords)
    (inb : ∀ d, (k0_off39 i) d + S512x256.size d ≤ S8192x256.size d) (r : Fin 512) (e : Fin 256) :
    v.readAt 𝕍 (Rect.unit (s := S8192x256) (k0_off39 i) ![512, 256] inb).toLoadRect f (ix2 r e) = at8 (v.read 𝕍 f) (512 * (2 * (i 1).val) + r.val) (e.val) :=
  load8 v f _ _ _ (k0_off39_eq i) inb r e _ _ (by first | omega | (rw [lo_val]; omega)) (by omega)

theorem rdv18 (v : View sig .tc .vmem S8192x256 .bf16) (f : v.ty.Contents 𝕍) (i : grid0.Coords)
    (inb : ∀ d, (k0_off18 i) d + S512x256.size d ≤ S8192x256.size d) (r : Fin 512) (e : Fin 256) :
    v.readAt 𝕍 (Rect.unit (s := S8192x256) (k0_off18 i) ![512, 256] inb).toLoadRect f (ix2 r e) = at8 (v.read 𝕍 f) (512 * (2 * (i 1).val + 1) + r.val) (e.val) :=
  load8 v f _ _ _ (k0_off18_eq i) inb r e _ _ (by first | omega | (rw [lo_val]; omega)) (by omega)

theorem rdv27 (v : View sig .tc .vmem S8192x256 .bf16) (f : v.ty.Contents 𝕍) (i : grid0.Coords)
    (inb : ∀ d, (k0_off27 i) d + S512x256.size d ≤ S8192x256.size d) (r : Fin 512) (e : Fin 256) :
    v.readAt 𝕍 (Rect.unit (s := S8192x256) (k0_off27 i) ![512, 256] inb).toLoadRect f (ix2 r e) = at8 (v.read 𝕍 f) (512 * (2 * (i 1).val + 1) + r.val) (e.val) :=
  load8 v f _ _ _ (k0_off27_eq i) inb r e _ _ (by first | omega | (rw [lo_val]; omega)) (by omega)

theorem rdv44 (v : View sig .tc .vmem S8192x256 .bf16) (f : v.ty.Contents 𝕍) (i : grid0.Coords)
    (inb : ∀ d, (k0_off44 i) d + S512x256.size d ≤ S8192x256.size d) (r : Fin 512) (e : Fin 256) :
    v.readAt 𝕍 (Rect.unit (s := S8192x256) (k0_off44 i) ![512, 256] inb).toLoadRect f (ix2 r e) = at8 (v.read 𝕍 f) (512 * (2 * (i 1).val + 1) + r.val) (e.val) :=
  load8 v f _ _ _ (k0_off44_eq i) inb r e _ _ (by first | omega | (rw [lo_val]; omega)) (by omega)

theorem rd00q (v : View sig .tc .vmem S8192x256 .bf16) (f : v.ty.Contents 𝕍) (i : grid0.Coords)
    (inb : ∀ d, (![0, 0]) d + S1024x128.size d ≤ S8192x256.size d) (r : Fin 1024) (e : Fin 128) :
    v.readAt 𝕍 (Rect.unit (s := S8192x256) (![0, 0]) ![1024, 128] inb).toLoadRect f (ix2 r e) = at8 (v.read 𝕍 f) (1024 * 0 + r.val) (128 * 0 + e.val) :=
  load8 v f _ _ _ (rfl) inb r e _ _ (by first | omega | (rw [lo_val]; omega)) (by omega)

theorem rd01q (v : View sig .tc .vmem S8192x256 .bf16) (f : v.ty.Contents 𝕍) (i : grid0.Coords)
    (inb : ∀ d, (![0, 128]) d + S1024x128.size d ≤ S8192x256.size d) (r : Fin 1024) (e : Fin 128) :
    v.readAt 𝕍 (Rect.unit (s := S8192x256) (![0, 128]) ![1024, 128] inb).toLoadRect f (ix2 r e) = at8 (v.read 𝕍 f) (1024 * 0 + r.val) (128 * 1 + e.val) :=
  load8 v f _ _ _ (rfl) inb r e _ _ (by first | omega | (rw [lo_val]; omega)) (by omega)

theorem rd00k (v : View sig .tc .vmem S8192x256 .bf16) (f : v.ty.Contents 𝕍) (i : grid0.Coords)
    (inb : ∀ d, (![0, 0]) d + S512x128.size d ≤ S8192x256.size d) (r : Fin 512) (e : Fin 128) :
    v.readAt 𝕍 (Rect.unit (s := S8192x256) (![0, 0]) ![512, 128] inb).toLoadRect f (ix2 r e) = at8 (v.read 𝕍 f) (512 * 0 + r.val) (128 * 0 + e.val) :=
  load8 v f _ _ _ (rfl) inb r e _ _ (by first | omega | (rw [lo_val]; omega)) (by omega)

theorem rd01k (v : View sig .tc .vmem S8192x256 .bf16) (f : v.ty.Contents 𝕍) (i : grid0.Coords)
    (inb : ∀ d, (![0, 128]) d + S512x128.size d ≤ S8192x256.size d) (r : Fin 512) (e : Fin 128) :
    v.readAt 𝕍 (Rect.unit (s := S8192x256) (![0, 128]) ![512, 128] inb).toLoadRect f (ix2 r e) = at8 (v.read 𝕍 f) (512 * 0 + r.val) (128 * 1 + e.val) :=
  load8 v f _ _ _ (rfl) inb r e _ _ (by first | omega | (rw [lo_val]; omega)) (by omega)

theorem rp128_0_full (v : View sig .tc .vmem S2x1024x128 .f32) (f : v.ty.Contents 𝕍) (inb : ∀ a, (![0, 0, 0] : Fin 3 → ℕ) a + S1x1024x128.size a ≤ S2x1024x128.size a) (r : Fin 1024) (x : Fin 128) :
    v.readAt 𝕍 (Rect.unit (s := S2x1024x128) ![0, 0, 0] ![1, 1024, 128] inb).toLoadRect f (ix3 (0 : Fin 1) r x) = v.read 𝕍 f (ix3 (0 : Fin 2) r x) :=
  congrArg (v.read 𝕍 f) (funext fun t => Fin.ext (by
    match t with
    | ⟨0, _⟩ => rfl
    | ⟨1, _⟩ => show 0 + 1 * r.val = r.val; omega
    | ⟨2, _⟩ => show 0 + 1 * x.val = x.val; omega))

theorem wh128_0_full (v : View sig .tc .vmem S2x1024x128 .f32) (f : v.ty.Contents 𝕍) (inb : ∀ a, (![0, 0, 0] : Fin 3 → ℕ) a + S1x1024x128.size a ≤ S2x1024x128.size a) (p : (Rect.unit (s := S2x1024x128) ![0, 0, 0] ![1, 1024, 128] inb).shape.Idx → 𝕍 .f32) (L : List (View.Piece 𝕍 S2x1024x128 .f32)) (r : Fin 1024) (x : Fin 128) :
    v.read 𝕍 (v.writes 𝕍 f (⟨Rect.unit (s := S2x1024x128) ![0, 0, 0] ![1, 1024, 128] inb, p⟩ :: L)) (ix3 (0 : Fin 2) r x) = p (ix3 (0 : Fin 1) r x) :=
  View.read_writes_cons_unit_of_mem v f inb p L _ (ix3 (0 : Fin 1) r x) rfl fun a => by
    match a with
    | ⟨0, _⟩ => rfl
    | ⟨1, _⟩ => show r.val = 0 + r.val; omega
    | ⟨2, _⟩ => show x.val = 0 + x.val; omega

theorem wm128_0_full (v : View sig .tc .vmem S2x1024x128 .f32) (f : v.ty.Contents 𝕍) (inb : ∀ a, (![0, 0, 0] : Fin 3 → ℕ) a + S1x1024x128.size a ≤ S2x1024x128.size a) (p : (Rect.unit (s := S2x1024x128) ![0, 0, 0] ![1, 1024, 128] inb).shape.Idx → 𝕍 .f32) (L : List (View.Piece 𝕍 S2x1024x128 .f32)) (r : Fin 1024) (x : Fin 128) :
    v.read 𝕍 (v.writes 𝕍 f (⟨Rect.unit (s := S2x1024x128) ![0, 0, 0] ![1, 1024, 128] inb, p⟩ :: L)) (ix3 (1 : Fin 2) r x) = v.read 𝕍 (v.writes 𝕍 f L) (ix3 (1 : Fin 2) r x) :=
  View.read_writes_cons_unit_of_not_mem v f inb p L _ rfl (0 : Fin 3) (by first | exact .inl (by show 1 < 0; omega) | exact .inr (by show 0 + 1 ≤ 1; omega))

theorem rp128_0_low (v : View sig .tc .vmem S2x1024x128 .f32) (f : v.ty.Contents 𝕍) (inb : ∀ a, (![0, 512, 0] : Fin 3 → ℕ) a + S1x512x128.size a ≤ S2x1024x128.size a) (r : Fin 512) (x : Fin 128) :
    v.readAt 𝕍 (Rect.unit (s := S2x1024x128) ![0, 512, 0] ![1, 512, 128] inb).toLoadRect f (ix3 (0 : Fin 1) r x) = v.read 𝕍 f (ix3 (0 : Fin 2) (lo r) x) :=
  congrArg (v.read 𝕍 f) (funext fun t => Fin.ext (by
    match t with
    | ⟨0, _⟩ => rfl
    | ⟨1, _⟩ => show 512 + 1 * r.val = 512 + r.val; omega
    | ⟨2, _⟩ => show 0 + 1 * x.val = x.val; omega))

theorem wh128_0_low (v : View sig .tc .vmem S2x1024x128 .f32) (f : v.ty.Contents 𝕍) (inb : ∀ a, (![0, 512, 0] : Fin 3 → ℕ) a + S1x512x128.size a ≤ S2x1024x128.size a) (p : (Rect.unit (s := S2x1024x128) ![0, 512, 0] ![1, 512, 128] inb).shape.Idx → 𝕍 .f32) (L : List (View.Piece 𝕍 S2x1024x128 .f32)) (r : Fin 512) (x : Fin 128) :
    v.read 𝕍 (v.writes 𝕍 f (⟨Rect.unit (s := S2x1024x128) ![0, 512, 0] ![1, 512, 128] inb, p⟩ :: L)) (ix3 (0 : Fin 2) (lo r) x) = p (ix3 (0 : Fin 1) r x) :=
  View.read_writes_cons_unit_of_mem v f inb p L _ (ix3 (0 : Fin 1) r x) rfl fun a => by
    match a with
    | ⟨0, _⟩ => rfl
    | ⟨1, _⟩ => show 512 + r.val = 512 + r.val; omega
    | ⟨2, _⟩ => show x.val = 0 + x.val; omega

theorem wm128_0_low (v : View sig .tc .vmem S2x1024x128 .f32) (f : v.ty.Contents 𝕍) (inb : ∀ a, (![0, 512, 0] : Fin 3 → ℕ) a + S1x512x128.size a ≤ S2x1024x128.size a) (p : (Rect.unit (s := S2x1024x128) ![0, 512, 0] ![1, 512, 128] inb).shape.Idx → 𝕍 .f32) (L : List (View.Piece 𝕍 S2x1024x128 .f32)) (r : Fin 1024) (x : Fin 128) :
    v.read 𝕍 (v.writes 𝕍 f (⟨Rect.unit (s := S2x1024x128) ![0, 512, 0] ![1, 512, 128] inb, p⟩ :: L)) (ix3 (1 : Fin 2) r x) = v.read 𝕍 (v.writes 𝕍 f L) (ix3 (1 : Fin 2) r x) :=
  View.read_writes_cons_unit_of_not_mem v f inb p L _ rfl (0 : Fin 3) (by first | exact .inl (by show 1 < 0; omega) | exact .inr (by show 0 + 1 ≤ 1; omega))

theorem wu128_0_low (v : View sig .tc .vmem S2x1024x128 .f32) (f : v.ty.Contents 𝕍) (inb : ∀ a, (![0, 512, 0] : Fin 3 → ℕ) a + S1x512x128.size a ≤ S2x1024x128.size a) (p : (Rect.unit (s := S2x1024x128) ![0, 512, 0] ![1, 512, 128] inb).shape.Idx → 𝕍 .f32) (L : List (View.Piece 𝕍 S2x1024x128 .f32)) (r : Fin 512) (x : Fin 128) :
    v.read 𝕍 (v.writes 𝕍 f (⟨Rect.unit (s := S2x1024x128) ![0, 512, 0] ![1, 512, 128] inb, p⟩ :: L)) (ix3 (0 : Fin 2) (hi r) x) = v.read 𝕍 (v.writes 𝕍 f L) (ix3 (0 : Fin 2) (hi r) x) :=
  View.read_writes_cons_unit_of_not_mem v f inb p L _ rfl (1 : Fin 3) (.inl (by show r.val < 512; omega))

theorem rp128_1_full (v : View sig .tc .vmem S2x1024x128 .f32) (f : v.ty.Contents 𝕍) (inb : ∀ a, (![1, 0, 0] : Fin 3 → ℕ) a + S1x1024x128.size a ≤ S2x1024x128.size a) (r : Fin 1024) (x : Fin 128) :
    v.readAt 𝕍 (Rect.unit (s := S2x1024x128) ![1, 0, 0] ![1, 1024, 128] inb).toLoadRect f (ix3 (0 : Fin 1) r x) = v.read 𝕍 f (ix3 (1 : Fin 2) r x) :=
  congrArg (v.read 𝕍 f) (funext fun t => Fin.ext (by
    match t with
    | ⟨0, _⟩ => rfl
    | ⟨1, _⟩ => show 0 + 1 * r.val = r.val; omega
    | ⟨2, _⟩ => show 0 + 1 * x.val = x.val; omega))

theorem wh128_1_full (v : View sig .tc .vmem S2x1024x128 .f32) (f : v.ty.Contents 𝕍) (inb : ∀ a, (![1, 0, 0] : Fin 3 → ℕ) a + S1x1024x128.size a ≤ S2x1024x128.size a) (p : (Rect.unit (s := S2x1024x128) ![1, 0, 0] ![1, 1024, 128] inb).shape.Idx → 𝕍 .f32) (L : List (View.Piece 𝕍 S2x1024x128 .f32)) (r : Fin 1024) (x : Fin 128) :
    v.read 𝕍 (v.writes 𝕍 f (⟨Rect.unit (s := S2x1024x128) ![1, 0, 0] ![1, 1024, 128] inb, p⟩ :: L)) (ix3 (1 : Fin 2) r x) = p (ix3 (0 : Fin 1) r x) :=
  View.read_writes_cons_unit_of_mem v f inb p L _ (ix3 (0 : Fin 1) r x) rfl fun a => by
    match a with
    | ⟨0, _⟩ => rfl
    | ⟨1, _⟩ => show r.val = 0 + r.val; omega
    | ⟨2, _⟩ => show x.val = 0 + x.val; omega

theorem wm128_1_full (v : View sig .tc .vmem S2x1024x128 .f32) (f : v.ty.Contents 𝕍) (inb : ∀ a, (![1, 0, 0] : Fin 3 → ℕ) a + S1x1024x128.size a ≤ S2x1024x128.size a) (p : (Rect.unit (s := S2x1024x128) ![1, 0, 0] ![1, 1024, 128] inb).shape.Idx → 𝕍 .f32) (L : List (View.Piece 𝕍 S2x1024x128 .f32)) (r : Fin 1024) (x : Fin 128) :
    v.read 𝕍 (v.writes 𝕍 f (⟨Rect.unit (s := S2x1024x128) ![1, 0, 0] ![1, 1024, 128] inb, p⟩ :: L)) (ix3 (0 : Fin 2) r x) = v.read 𝕍 (v.writes 𝕍 f L) (ix3 (0 : Fin 2) r x) :=
  View.read_writes_cons_unit_of_not_mem v f inb p L _ rfl (0 : Fin 3) (by first | exact .inl (by show 0 < 1; omega) | exact .inr (by show 1 + 1 ≤ 0; omega))

theorem rp128_1_low (v : View sig .tc .vmem S2x1024x128 .f32) (f : v.ty.Contents 𝕍) (inb : ∀ a, (![1, 512, 0] : Fin 3 → ℕ) a + S1x512x128.size a ≤ S2x1024x128.size a) (r : Fin 512) (x : Fin 128) :
    v.readAt 𝕍 (Rect.unit (s := S2x1024x128) ![1, 512, 0] ![1, 512, 128] inb).toLoadRect f (ix3 (0 : Fin 1) r x) = v.read 𝕍 f (ix3 (1 : Fin 2) (lo r) x) :=
  congrArg (v.read 𝕍 f) (funext fun t => Fin.ext (by
    match t with
    | ⟨0, _⟩ => rfl
    | ⟨1, _⟩ => show 512 + 1 * r.val = 512 + r.val; omega
    | ⟨2, _⟩ => show 0 + 1 * x.val = x.val; omega))

theorem wh128_1_low (v : View sig .tc .vmem S2x1024x128 .f32) (f : v.ty.Contents 𝕍) (inb : ∀ a, (![1, 512, 0] : Fin 3 → ℕ) a + S1x512x128.size a ≤ S2x1024x128.size a) (p : (Rect.unit (s := S2x1024x128) ![1, 512, 0] ![1, 512, 128] inb).shape.Idx → 𝕍 .f32) (L : List (View.Piece 𝕍 S2x1024x128 .f32)) (r : Fin 512) (x : Fin 128) :
    v.read 𝕍 (v.writes 𝕍 f (⟨Rect.unit (s := S2x1024x128) ![1, 512, 0] ![1, 512, 128] inb, p⟩ :: L)) (ix3 (1 : Fin 2) (lo r) x) = p (ix3 (0 : Fin 1) r x) :=
  View.read_writes_cons_unit_of_mem v f inb p L _ (ix3 (0 : Fin 1) r x) rfl fun a => by
    match a with
    | ⟨0, _⟩ => rfl
    | ⟨1, _⟩ => show 512 + r.val = 512 + r.val; omega
    | ⟨2, _⟩ => show x.val = 0 + x.val; omega

theorem wm128_1_low (v : View sig .tc .vmem S2x1024x128 .f32) (f : v.ty.Contents 𝕍) (inb : ∀ a, (![1, 512, 0] : Fin 3 → ℕ) a + S1x512x128.size a ≤ S2x1024x128.size a) (p : (Rect.unit (s := S2x1024x128) ![1, 512, 0] ![1, 512, 128] inb).shape.Idx → 𝕍 .f32) (L : List (View.Piece 𝕍 S2x1024x128 .f32)) (r : Fin 1024) (x : Fin 128) :
    v.read 𝕍 (v.writes 𝕍 f (⟨Rect.unit (s := S2x1024x128) ![1, 512, 0] ![1, 512, 128] inb, p⟩ :: L)) (ix3 (0 : Fin 2) r x) = v.read 𝕍 (v.writes 𝕍 f L) (ix3 (0 : Fin 2) r x) :=
  View.read_writes_cons_unit_of_not_mem v f inb p L _ rfl (0 : Fin 3) (by first | exact .inl (by show 0 < 1; omega) | exact .inr (by show 1 + 1 ≤ 0; omega))

theorem wu128_1_low (v : View sig .tc .vmem S2x1024x128 .f32) (f : v.ty.Contents 𝕍) (inb : ∀ a, (![1, 512, 0] : Fin 3 → ℕ) a + S1x512x128.size a ≤ S2x1024x128.size a) (p : (Rect.unit (s := S2x1024x128) ![1, 512, 0] ![1, 512, 128] inb).shape.Idx → 𝕍 .f32) (L : List (View.Piece 𝕍 S2x1024x128 .f32)) (r : Fin 512) (x : Fin 128) :
    v.read 𝕍 (v.writes 𝕍 f (⟨Rect.unit (s := S2x1024x128) ![1, 512, 0] ![1, 512, 128] inb, p⟩ :: L)) (ix3 (1 : Fin 2) (hi r) x) = v.read 𝕍 (v.writes 𝕍 f L) (ix3 (1 : Fin 2) (hi r) x) :=
  View.read_writes_cons_unit_of_not_mem v f inb p L _ rfl (1 : Fin 3) (.inl (by show r.val < 512; omega))

theorem wf128 (v : View sig .tc .vmem S2x1024x128 .f32) (f : v.ty.Contents 𝕍) (inb : ∀ a, (![0, 0, 0] : Fin 3 → ℕ) a + S2x1024x128.size a ≤ S2x1024x128.size a) (p : (Rect.unit (s := S2x1024x128) ![0, 0, 0] ![2, 1024, 128] inb).shape.Idx → 𝕍 .f32) (L : List (View.Piece 𝕍 S2x1024x128 .f32)) (y : S2x1024x128.Idx) :
    v.read 𝕍 (v.writes 𝕍 f (⟨Rect.unit (s := S2x1024x128) ![0, 0, 0] ![2, 1024, 128] inb, p⟩ :: L)) y = p y :=
  congrFun (View.read_writes_full v f inb p L) y

theorem rp256_0_full (v : View sig .tc .vmem S2x1024x256 .f32) (f : v.ty.Contents 𝕍) (inb : ∀ a, (![0, 0, 0] : Fin 3 → ℕ) a + S1x1024x256.size a ≤ S2x1024x256.size a) (r : Fin 1024) (x : Fin 256) :
    v.readAt 𝕍 (Rect.unit (s := S2x1024x256) ![0, 0, 0] ![1, 1024, 256] inb).toLoadRect f (ix3 (0 : Fin 1) r x) = v.read 𝕍 f (ix3 (0 : Fin 2) r x) :=
  congrArg (v.read 𝕍 f) (funext fun t => Fin.ext (by
    match t with
    | ⟨0, _⟩ => rfl
    | ⟨1, _⟩ => show 0 + 1 * r.val = r.val; omega
    | ⟨2, _⟩ => show 0 + 1 * x.val = x.val; omega))

theorem wh256_0_full (v : View sig .tc .vmem S2x1024x256 .f32) (f : v.ty.Contents 𝕍) (inb : ∀ a, (![0, 0, 0] : Fin 3 → ℕ) a + S1x1024x256.size a ≤ S2x1024x256.size a) (p : (Rect.unit (s := S2x1024x256) ![0, 0, 0] ![1, 1024, 256] inb).shape.Idx → 𝕍 .f32) (L : List (View.Piece 𝕍 S2x1024x256 .f32)) (r : Fin 1024) (x : Fin 256) :
    v.read 𝕍 (v.writes 𝕍 f (⟨Rect.unit (s := S2x1024x256) ![0, 0, 0] ![1, 1024, 256] inb, p⟩ :: L)) (ix3 (0 : Fin 2) r x) = p (ix3 (0 : Fin 1) r x) :=
  View.read_writes_cons_unit_of_mem v f inb p L _ (ix3 (0 : Fin 1) r x) rfl fun a => by
    match a with
    | ⟨0, _⟩ => rfl
    | ⟨1, _⟩ => show r.val = 0 + r.val; omega
    | ⟨2, _⟩ => show x.val = 0 + x.val; omega

theorem wm256_0_full (v : View sig .tc .vmem S2x1024x256 .f32) (f : v.ty.Contents 𝕍) (inb : ∀ a, (![0, 0, 0] : Fin 3 → ℕ) a + S1x1024x256.size a ≤ S2x1024x256.size a) (p : (Rect.unit (s := S2x1024x256) ![0, 0, 0] ![1, 1024, 256] inb).shape.Idx → 𝕍 .f32) (L : List (View.Piece 𝕍 S2x1024x256 .f32)) (r : Fin 1024) (x : Fin 256) :
    v.read 𝕍 (v.writes 𝕍 f (⟨Rect.unit (s := S2x1024x256) ![0, 0, 0] ![1, 1024, 256] inb, p⟩ :: L)) (ix3 (1 : Fin 2) r x) = v.read 𝕍 (v.writes 𝕍 f L) (ix3 (1 : Fin 2) r x) :=
  View.read_writes_cons_unit_of_not_mem v f inb p L _ rfl (0 : Fin 3) (by first | exact .inl (by show 1 < 0; omega) | exact .inr (by show 0 + 1 ≤ 1; omega))

theorem rp256_0_low (v : View sig .tc .vmem S2x1024x256 .f32) (f : v.ty.Contents 𝕍) (inb : ∀ a, (![0, 512, 0] : Fin 3 → ℕ) a + S1x512x256.size a ≤ S2x1024x256.size a) (r : Fin 512) (x : Fin 256) :
    v.readAt 𝕍 (Rect.unit (s := S2x1024x256) ![0, 512, 0] ![1, 512, 256] inb).toLoadRect f (ix3 (0 : Fin 1) r x) = v.read 𝕍 f (ix3 (0 : Fin 2) (lo r) x) :=
  congrArg (v.read 𝕍 f) (funext fun t => Fin.ext (by
    match t with
    | ⟨0, _⟩ => rfl
    | ⟨1, _⟩ => show 512 + 1 * r.val = 512 + r.val; omega
    | ⟨2, _⟩ => show 0 + 1 * x.val = x.val; omega))

theorem wh256_0_low (v : View sig .tc .vmem S2x1024x256 .f32) (f : v.ty.Contents 𝕍) (inb : ∀ a, (![0, 512, 0] : Fin 3 → ℕ) a + S1x512x256.size a ≤ S2x1024x256.size a) (p : (Rect.unit (s := S2x1024x256) ![0, 512, 0] ![1, 512, 256] inb).shape.Idx → 𝕍 .f32) (L : List (View.Piece 𝕍 S2x1024x256 .f32)) (r : Fin 512) (x : Fin 256) :
    v.read 𝕍 (v.writes 𝕍 f (⟨Rect.unit (s := S2x1024x256) ![0, 512, 0] ![1, 512, 256] inb, p⟩ :: L)) (ix3 (0 : Fin 2) (lo r) x) = p (ix3 (0 : Fin 1) r x) :=
  View.read_writes_cons_unit_of_mem v f inb p L _ (ix3 (0 : Fin 1) r x) rfl fun a => by
    match a with
    | ⟨0, _⟩ => rfl
    | ⟨1, _⟩ => show 512 + r.val = 512 + r.val; omega
    | ⟨2, _⟩ => show x.val = 0 + x.val; omega

theorem wm256_0_low (v : View sig .tc .vmem S2x1024x256 .f32) (f : v.ty.Contents 𝕍) (inb : ∀ a, (![0, 512, 0] : Fin 3 → ℕ) a + S1x512x256.size a ≤ S2x1024x256.size a) (p : (Rect.unit (s := S2x1024x256) ![0, 512, 0] ![1, 512, 256] inb).shape.Idx → 𝕍 .f32) (L : List (View.Piece 𝕍 S2x1024x256 .f32)) (r : Fin 1024) (x : Fin 256) :
    v.read 𝕍 (v.writes 𝕍 f (⟨Rect.unit (s := S2x1024x256) ![0, 512, 0] ![1, 512, 256] inb, p⟩ :: L)) (ix3 (1 : Fin 2) r x) = v.read 𝕍 (v.writes 𝕍 f L) (ix3 (1 : Fin 2) r x) :=
  View.read_writes_cons_unit_of_not_mem v f inb p L _ rfl (0 : Fin 3) (by first | exact .inl (by show 1 < 0; omega) | exact .inr (by show 0 + 1 ≤ 1; omega))

theorem wu256_0_low (v : View sig .tc .vmem S2x1024x256 .f32) (f : v.ty.Contents 𝕍) (inb : ∀ a, (![0, 512, 0] : Fin 3 → ℕ) a + S1x512x256.size a ≤ S2x1024x256.size a) (p : (Rect.unit (s := S2x1024x256) ![0, 512, 0] ![1, 512, 256] inb).shape.Idx → 𝕍 .f32) (L : List (View.Piece 𝕍 S2x1024x256 .f32)) (r : Fin 512) (x : Fin 256) :
    v.read 𝕍 (v.writes 𝕍 f (⟨Rect.unit (s := S2x1024x256) ![0, 512, 0] ![1, 512, 256] inb, p⟩ :: L)) (ix3 (0 : Fin 2) (hi r) x) = v.read 𝕍 (v.writes 𝕍 f L) (ix3 (0 : Fin 2) (hi r) x) :=
  View.read_writes_cons_unit_of_not_mem v f inb p L _ rfl (1 : Fin 3) (.inl (by show r.val < 512; omega))

theorem rp256_1_full (v : View sig .tc .vmem S2x1024x256 .f32) (f : v.ty.Contents 𝕍) (inb : ∀ a, (![1, 0, 0] : Fin 3 → ℕ) a + S1x1024x256.size a ≤ S2x1024x256.size a) (r : Fin 1024) (x : Fin 256) :
    v.readAt 𝕍 (Rect.unit (s := S2x1024x256) ![1, 0, 0] ![1, 1024, 256] inb).toLoadRect f (ix3 (0 : Fin 1) r x) = v.read 𝕍 f (ix3 (1 : Fin 2) r x) :=
  congrArg (v.read 𝕍 f) (funext fun t => Fin.ext (by
    match t with
    | ⟨0, _⟩ => rfl
    | ⟨1, _⟩ => show 0 + 1 * r.val = r.val; omega
    | ⟨2, _⟩ => show 0 + 1 * x.val = x.val; omega))

theorem wh256_1_full (v : View sig .tc .vmem S2x1024x256 .f32) (f : v.ty.Contents 𝕍) (inb : ∀ a, (![1, 0, 0] : Fin 3 → ℕ) a + S1x1024x256.size a ≤ S2x1024x256.size a) (p : (Rect.unit (s := S2x1024x256) ![1, 0, 0] ![1, 1024, 256] inb).shape.Idx → 𝕍 .f32) (L : List (View.Piece 𝕍 S2x1024x256 .f32)) (r : Fin 1024) (x : Fin 256) :
    v.read 𝕍 (v.writes 𝕍 f (⟨Rect.unit (s := S2x1024x256) ![1, 0, 0] ![1, 1024, 256] inb, p⟩ :: L)) (ix3 (1 : Fin 2) r x) = p (ix3 (0 : Fin 1) r x) :=
  View.read_writes_cons_unit_of_mem v f inb p L _ (ix3 (0 : Fin 1) r x) rfl fun a => by
    match a with
    | ⟨0, _⟩ => rfl
    | ⟨1, _⟩ => show r.val = 0 + r.val; omega
    | ⟨2, _⟩ => show x.val = 0 + x.val; omega

theorem wm256_1_full (v : View sig .tc .vmem S2x1024x256 .f32) (f : v.ty.Contents 𝕍) (inb : ∀ a, (![1, 0, 0] : Fin 3 → ℕ) a + S1x1024x256.size a ≤ S2x1024x256.size a) (p : (Rect.unit (s := S2x1024x256) ![1, 0, 0] ![1, 1024, 256] inb).shape.Idx → 𝕍 .f32) (L : List (View.Piece 𝕍 S2x1024x256 .f32)) (r : Fin 1024) (x : Fin 256) :
    v.read 𝕍 (v.writes 𝕍 f (⟨Rect.unit (s := S2x1024x256) ![1, 0, 0] ![1, 1024, 256] inb, p⟩ :: L)) (ix3 (0 : Fin 2) r x) = v.read 𝕍 (v.writes 𝕍 f L) (ix3 (0 : Fin 2) r x) :=
  View.read_writes_cons_unit_of_not_mem v f inb p L _ rfl (0 : Fin 3) (by first | exact .inl (by show 0 < 1; omega) | exact .inr (by show 1 + 1 ≤ 0; omega))

theorem rp256_1_low (v : View sig .tc .vmem S2x1024x256 .f32) (f : v.ty.Contents 𝕍) (inb : ∀ a, (![1, 512, 0] : Fin 3 → ℕ) a + S1x512x256.size a ≤ S2x1024x256.size a) (r : Fin 512) (x : Fin 256) :
    v.readAt 𝕍 (Rect.unit (s := S2x1024x256) ![1, 512, 0] ![1, 512, 256] inb).toLoadRect f (ix3 (0 : Fin 1) r x) = v.read 𝕍 f (ix3 (1 : Fin 2) (lo r) x) :=
  congrArg (v.read 𝕍 f) (funext fun t => Fin.ext (by
    match t with
    | ⟨0, _⟩ => rfl
    | ⟨1, _⟩ => show 512 + 1 * r.val = 512 + r.val; omega
    | ⟨2, _⟩ => show 0 + 1 * x.val = x.val; omega))

theorem wh256_1_low (v : View sig .tc .vmem S2x1024x256 .f32) (f : v.ty.Contents 𝕍) (inb : ∀ a, (![1, 512, 0] : Fin 3 → ℕ) a + S1x512x256.size a ≤ S2x1024x256.size a) (p : (Rect.unit (s := S2x1024x256) ![1, 512, 0] ![1, 512, 256] inb).shape.Idx → 𝕍 .f32) (L : List (View.Piece 𝕍 S2x1024x256 .f32)) (r : Fin 512) (x : Fin 256) :
    v.read 𝕍 (v.writes 𝕍 f (⟨Rect.unit (s := S2x1024x256) ![1, 512, 0] ![1, 512, 256] inb, p⟩ :: L)) (ix3 (1 : Fin 2) (lo r) x) = p (ix3 (0 : Fin 1) r x) :=
  View.read_writes_cons_unit_of_mem v f inb p L _ (ix3 (0 : Fin 1) r x) rfl fun a => by
    match a with
    | ⟨0, _⟩ => rfl
    | ⟨1, _⟩ => show 512 + r.val = 512 + r.val; omega
    | ⟨2, _⟩ => show x.val = 0 + x.val; omega

theorem wm256_1_low (v : View sig .tc .vmem S2x1024x256 .f32) (f : v.ty.Contents 𝕍) (inb : ∀ a, (![1, 512, 0] : Fin 3 → ℕ) a + S1x512x256.size a ≤ S2x1024x256.size a) (p : (Rect.unit (s := S2x1024x256) ![1, 512, 0] ![1, 512, 256] inb).shape.Idx → 𝕍 .f32) (L : List (View.Piece 𝕍 S2x1024x256 .f32)) (r : Fin 1024) (x : Fin 256) :
    v.read 𝕍 (v.writes 𝕍 f (⟨Rect.unit (s := S2x1024x256) ![1, 512, 0] ![1, 512, 256] inb, p⟩ :: L)) (ix3 (0 : Fin 2) r x) = v.read 𝕍 (v.writes 𝕍 f L) (ix3 (0 : Fin 2) r x) :=
  View.read_writes_cons_unit_of_not_mem v f inb p L _ rfl (0 : Fin 3) (by first | exact .inl (by show 0 < 1; omega) | exact .inr (by show 1 + 1 ≤ 0; omega))

theorem wu256_1_low (v : View sig .tc .vmem S2x1024x256 .f32) (f : v.ty.Contents 𝕍) (inb : ∀ a, (![1, 512, 0] : Fin 3 → ℕ) a + S1x512x256.size a ≤ S2x1024x256.size a) (p : (Rect.unit (s := S2x1024x256) ![1, 512, 0] ![1, 512, 256] inb).shape.Idx → 𝕍 .f32) (L : List (View.Piece 𝕍 S2x1024x256 .f32)) (r : Fin 512) (x : Fin 256) :
    v.read 𝕍 (v.writes 𝕍 f (⟨Rect.unit (s := S2x1024x256) ![1, 512, 0] ![1, 512, 256] inb, p⟩ :: L)) (ix3 (1 : Fin 2) (hi r) x) = v.read 𝕍 (v.writes 𝕍 f L) (ix3 (1 : Fin 2) (hi r) x) :=
  View.read_writes_cons_unit_of_not_mem v f inb p L _ rfl (1 : Fin 3) (.inl (by show r.val < 512; omega))

theorem wf256 (v : View sig .tc .vmem S2x1024x256 .f32) (f : v.ty.Contents 𝕍) (inb : ∀ a, (![0, 0, 0] : Fin 3 → ℕ) a + S2x1024x256.size a ≤ S2x1024x256.size a) (p : (Rect.unit (s := S2x1024x256) ![0, 0, 0] ![2, 1024, 256] inb).shape.Idx → 𝕍 .f32) (L : List (View.Piece 𝕍 S2x1024x256 .f32)) (y : S2x1024x256.Idx) :
    v.read 𝕍 (v.writes 𝕍 f (⟨Rect.unit (s := S2x1024x256) ![0, 0, 0] ![2, 1024, 256] inb, p⟩ :: L)) y = p y :=
  congrFun (View.read_writes_full v f inb p L) y

theorem rp512_0_full (v : View sig .tc .vmem S2x1024x512 .f32) (f : v.ty.Contents 𝕍) (inb : ∀ a, (![0, 0, 0] : Fin 3 → ℕ) a + S1x1024x512.size a ≤ S2x1024x512.size a) (r : Fin 1024) (x : Fin 512) :
    v.readAt 𝕍 (Rect.unit (s := S2x1024x512) ![0, 0, 0] ![1, 1024, 512] inb).toLoadRect f (ix3 (0 : Fin 1) r x) = v.read 𝕍 f (ix3 (0 : Fin 2) r x) :=
  congrArg (v.read 𝕍 f) (funext fun t => Fin.ext (by
    match t with
    | ⟨0, _⟩ => rfl
    | ⟨1, _⟩ => show 0 + 1 * r.val = r.val; omega
    | ⟨2, _⟩ => show 0 + 1 * x.val = x.val; omega))

theorem wh512_0_full (v : View sig .tc .vmem S2x1024x512 .f32) (f : v.ty.Contents 𝕍) (inb : ∀ a, (![0, 0, 0] : Fin 3 → ℕ) a + S1x1024x512.size a ≤ S2x1024x512.size a) (p : (Rect.unit (s := S2x1024x512) ![0, 0, 0] ![1, 1024, 512] inb).shape.Idx → 𝕍 .f32) (L : List (View.Piece 𝕍 S2x1024x512 .f32)) (r : Fin 1024) (x : Fin 512) :
    v.read 𝕍 (v.writes 𝕍 f (⟨Rect.unit (s := S2x1024x512) ![0, 0, 0] ![1, 1024, 512] inb, p⟩ :: L)) (ix3 (0 : Fin 2) r x) = p (ix3 (0 : Fin 1) r x) :=
  View.read_writes_cons_unit_of_mem v f inb p L _ (ix3 (0 : Fin 1) r x) rfl fun a => by
    match a with
    | ⟨0, _⟩ => rfl
    | ⟨1, _⟩ => show r.val = 0 + r.val; omega
    | ⟨2, _⟩ => show x.val = 0 + x.val; omega

theorem wm512_0_full (v : View sig .tc .vmem S2x1024x512 .f32) (f : v.ty.Contents 𝕍) (inb : ∀ a, (![0, 0, 0] : Fin 3 → ℕ) a + S1x1024x512.size a ≤ S2x1024x512.size a) (p : (Rect.unit (s := S2x1024x512) ![0, 0, 0] ![1, 1024, 512] inb).shape.Idx → 𝕍 .f32) (L : List (View.Piece 𝕍 S2x1024x512 .f32)) (r : Fin 1024) (x : Fin 512) :
    v.read 𝕍 (v.writes 𝕍 f (⟨Rect.unit (s := S2x1024x512) ![0, 0, 0] ![1, 1024, 512] inb, p⟩ :: L)) (ix3 (1 : Fin 2) r x) = v.read 𝕍 (v.writes 𝕍 f L) (ix3 (1 : Fin 2) r x) :=
  View.read_writes_cons_unit_of_not_mem v f inb p L _ rfl (0 : Fin 3) (by first | exact .inl (by show 1 < 0; omega) | exact .inr (by show 0 + 1 ≤ 1; omega))

theorem rp512_0_low (v : View sig .tc .vmem S2x1024x512 .f32) (f : v.ty.Contents 𝕍) (inb : ∀ a, (![0, 512, 0] : Fin 3 → ℕ) a + S1x512x512.size a ≤ S2x1024x512.size a) (r : Fin 512) (x : Fin 512) :
    v.readAt 𝕍 (Rect.unit (s := S2x1024x512) ![0, 512, 0] ![1, 512, 512] inb).toLoadRect f (ix3 (0 : Fin 1) r x) = v.read 𝕍 f (ix3 (0 : Fin 2) (lo r) x) :=
  congrArg (v.read 𝕍 f) (funext fun t => Fin.ext (by
    match t with
    | ⟨0, _⟩ => rfl
    | ⟨1, _⟩ => show 512 + 1 * r.val = 512 + r.val; omega
    | ⟨2, _⟩ => show 0 + 1 * x.val = x.val; omega))

theorem wh512_0_low (v : View sig .tc .vmem S2x1024x512 .f32) (f : v.ty.Contents 𝕍) (inb : ∀ a, (![0, 512, 0] : Fin 3 → ℕ) a + S1x512x512.size a ≤ S2x1024x512.size a) (p : (Rect.unit (s := S2x1024x512) ![0, 512, 0] ![1, 512, 512] inb).shape.Idx → 𝕍 .f32) (L : List (View.Piece 𝕍 S2x1024x512 .f32)) (r : Fin 512) (x : Fin 512) :
    v.read 𝕍 (v.writes 𝕍 f (⟨Rect.unit (s := S2x1024x512) ![0, 512, 0] ![1, 512, 512] inb, p⟩ :: L)) (ix3 (0 : Fin 2) (lo r) x) = p (ix3 (0 : Fin 1) r x) :=
  View.read_writes_cons_unit_of_mem v f inb p L _ (ix3 (0 : Fin 1) r x) rfl fun a => by
    match a with
    | ⟨0, _⟩ => rfl
    | ⟨1, _⟩ => show 512 + r.val = 512 + r.val; omega
    | ⟨2, _⟩ => show x.val = 0 + x.val; omega

theorem wm512_0_low (v : View sig .tc .vmem S2x1024x512 .f32) (f : v.ty.Contents 𝕍) (inb : ∀ a, (![0, 512, 0] : Fin 3 → ℕ) a + S1x512x512.size a ≤ S2x1024x512.size a) (p : (Rect.unit (s := S2x1024x512) ![0, 512, 0] ![1, 512, 512] inb).shape.Idx → 𝕍 .f32) (L : List (View.Piece 𝕍 S2x1024x512 .f32)) (r : Fin 1024) (x : Fin 512) :
    v.read 𝕍 (v.writes 𝕍 f (⟨Rect.unit (s := S2x1024x512) ![0, 512, 0] ![1, 512, 512] inb, p⟩ :: L)) (ix3 (1 : Fin 2) r x) = v.read 𝕍 (v.writes 𝕍 f L) (ix3 (1 : Fin 2) r x) :=
  View.read_writes_cons_unit_of_not_mem v f inb p L _ rfl (0 : Fin 3) (by first | exact .inl (by show 1 < 0; omega) | exact .inr (by show 0 + 1 ≤ 1; omega))

theorem wu512_0_low (v : View sig .tc .vmem S2x1024x512 .f32) (f : v.ty.Contents 𝕍) (inb : ∀ a, (![0, 512, 0] : Fin 3 → ℕ) a + S1x512x512.size a ≤ S2x1024x512.size a) (p : (Rect.unit (s := S2x1024x512) ![0, 512, 0] ![1, 512, 512] inb).shape.Idx → 𝕍 .f32) (L : List (View.Piece 𝕍 S2x1024x512 .f32)) (r : Fin 512) (x : Fin 512) :
    v.read 𝕍 (v.writes 𝕍 f (⟨Rect.unit (s := S2x1024x512) ![0, 512, 0] ![1, 512, 512] inb, p⟩ :: L)) (ix3 (0 : Fin 2) (hi r) x) = v.read 𝕍 (v.writes 𝕍 f L) (ix3 (0 : Fin 2) (hi r) x) :=
  View.read_writes_cons_unit_of_not_mem v f inb p L _ rfl (1 : Fin 3) (.inl (by show r.val < 512; omega))

theorem rp512_1_full (v : View sig .tc .vmem S2x1024x512 .f32) (f : v.ty.Contents 𝕍) (inb : ∀ a, (![1, 0, 0] : Fin 3 → ℕ) a + S1x1024x512.size a ≤ S2x1024x512.size a) (r : Fin 1024) (x : Fin 512) :
    v.readAt 𝕍 (Rect.unit (s := S2x1024x512) ![1, 0, 0] ![1, 1024, 512] inb).toLoadRect f (ix3 (0 : Fin 1) r x) = v.read 𝕍 f (ix3 (1 : Fin 2) r x) :=
  congrArg (v.read 𝕍 f) (funext fun t => Fin.ext (by
    match t with
    | ⟨0, _⟩ => rfl
    | ⟨1, _⟩ => show 0 + 1 * r.val = r.val; omega
    | ⟨2, _⟩ => show 0 + 1 * x.val = x.val; omega))

theorem wh512_1_full (v : View sig .tc .vmem S2x1024x512 .f32) (f : v.ty.Contents 𝕍) (inb : ∀ a, (![1, 0, 0] : Fin 3 → ℕ) a + S1x1024x512.size a ≤ S2x1024x512.size a) (p : (Rect.unit (s := S2x1024x512) ![1, 0, 0] ![1, 1024, 512] inb).shape.Idx → 𝕍 .f32) (L : List (View.Piece 𝕍 S2x1024x512 .f32)) (r : Fin 1024) (x : Fin 512) :
    v.read 𝕍 (v.writes 𝕍 f (⟨Rect.unit (s := S2x1024x512) ![1, 0, 0] ![1, 1024, 512] inb, p⟩ :: L)) (ix3 (1 : Fin 2) r x) = p (ix3 (0 : Fin 1) r x) :=
  View.read_writes_cons_unit_of_mem v f inb p L _ (ix3 (0 : Fin 1) r x) rfl fun a => by
    match a with
    | ⟨0, _⟩ => rfl
    | ⟨1, _⟩ => show r.val = 0 + r.val; omega
    | ⟨2, _⟩ => show x.val = 0 + x.val; omega

theorem wm512_1_full (v : View sig .tc .vmem S2x1024x512 .f32) (f : v.ty.Contents 𝕍) (inb : ∀ a, (![1, 0, 0] : Fin 3 → ℕ) a + S1x1024x512.size a ≤ S2x1024x512.size a) (p : (Rect.unit (s := S2x1024x512) ![1, 0, 0] ![1, 1024, 512] inb).shape.Idx → 𝕍 .f32) (L : List (View.Piece 𝕍 S2x1024x512 .f32)) (r : Fin 1024) (x : Fin 512) :
    v.read 𝕍 (v.writes 𝕍 f (⟨Rect.unit (s := S2x1024x512) ![1, 0, 0] ![1, 1024, 512] inb, p⟩ :: L)) (ix3 (0 : Fin 2) r x) = v.read 𝕍 (v.writes 𝕍 f L) (ix3 (0 : Fin 2) r x) :=
  View.read_writes_cons_unit_of_not_mem v f inb p L _ rfl (0 : Fin 3) (by first | exact .inl (by show 0 < 1; omega) | exact .inr (by show 1 + 1 ≤ 0; omega))

theorem rp512_1_low (v : View sig .tc .vmem S2x1024x512 .f32) (f : v.ty.Contents 𝕍) (inb : ∀ a, (![1, 512, 0] : Fin 3 → ℕ) a + S1x512x512.size a ≤ S2x1024x512.size a) (r : Fin 512) (x : Fin 512) :
    v.readAt 𝕍 (Rect.unit (s := S2x1024x512) ![1, 512, 0] ![1, 512, 512] inb).toLoadRect f (ix3 (0 : Fin 1) r x) = v.read 𝕍 f (ix3 (1 : Fin 2) (lo r) x) :=
  congrArg (v.read 𝕍 f) (funext fun t => Fin.ext (by
    match t with
    | ⟨0, _⟩ => rfl
    | ⟨1, _⟩ => show 512 + 1 * r.val = 512 + r.val; omega
    | ⟨2, _⟩ => show 0 + 1 * x.val = x.val; omega))

theorem wh512_1_low (v : View sig .tc .vmem S2x1024x512 .f32) (f : v.ty.Contents 𝕍) (inb : ∀ a, (![1, 512, 0] : Fin 3 → ℕ) a + S1x512x512.size a ≤ S2x1024x512.size a) (p : (Rect.unit (s := S2x1024x512) ![1, 512, 0] ![1, 512, 512] inb).shape.Idx → 𝕍 .f32) (L : List (View.Piece 𝕍 S2x1024x512 .f32)) (r : Fin 512) (x : Fin 512) :
    v.read 𝕍 (v.writes 𝕍 f (⟨Rect.unit (s := S2x1024x512) ![1, 512, 0] ![1, 512, 512] inb, p⟩ :: L)) (ix3 (1 : Fin 2) (lo r) x) = p (ix3 (0 : Fin 1) r x) :=
  View.read_writes_cons_unit_of_mem v f inb p L _ (ix3 (0 : Fin 1) r x) rfl fun a => by
    match a with
    | ⟨0, _⟩ => rfl
    | ⟨1, _⟩ => show 512 + r.val = 512 + r.val; omega
    | ⟨2, _⟩ => show x.val = 0 + x.val; omega

theorem wm512_1_low (v : View sig .tc .vmem S2x1024x512 .f32) (f : v.ty.Contents 𝕍) (inb : ∀ a, (![1, 512, 0] : Fin 3 → ℕ) a + S1x512x512.size a ≤ S2x1024x512.size a) (p : (Rect.unit (s := S2x1024x512) ![1, 512, 0] ![1, 512, 512] inb).shape.Idx → 𝕍 .f32) (L : List (View.Piece 𝕍 S2x1024x512 .f32)) (r : Fin 1024) (x : Fin 512) :
    v.read 𝕍 (v.writes 𝕍 f (⟨Rect.unit (s := S2x1024x512) ![1, 512, 0] ![1, 512, 512] inb, p⟩ :: L)) (ix3 (0 : Fin 2) r x) = v.read 𝕍 (v.writes 𝕍 f L) (ix3 (0 : Fin 2) r x) :=
  View.read_writes_cons_unit_of_not_mem v f inb p L _ rfl (0 : Fin 3) (by first | exact .inl (by show 0 < 1; omega) | exact .inr (by show 1 + 1 ≤ 0; omega))

theorem wu512_1_low (v : View sig .tc .vmem S2x1024x512 .f32) (f : v.ty.Contents 𝕍) (inb : ∀ a, (![1, 512, 0] : Fin 3 → ℕ) a + S1x512x512.size a ≤ S2x1024x512.size a) (p : (Rect.unit (s := S2x1024x512) ![1, 512, 0] ![1, 512, 512] inb).shape.Idx → 𝕍 .f32) (L : List (View.Piece 𝕍 S2x1024x512 .f32)) (r : Fin 512) (x : Fin 512) :
    v.read 𝕍 (v.writes 𝕍 f (⟨Rect.unit (s := S2x1024x512) ![1, 512, 0] ![1, 512, 512] inb, p⟩ :: L)) (ix3 (1 : Fin 2) (hi r) x) = v.read 𝕍 (v.writes 𝕍 f L) (ix3 (1 : Fin 2) (hi r) x) :=
  View.read_writes_cons_unit_of_not_mem v f inb p L _ rfl (1 : Fin 3) (.inl (by show r.val < 512; omega))

theorem wf512 (v : View sig .tc .vmem S2x1024x512 .f32) (f : v.ty.Contents 𝕍) (inb : ∀ a, (![0, 0, 0] : Fin 3 → ℕ) a + S2x1024x512.size a ≤ S2x1024x512.size a) (p : (Rect.unit (s := S2x1024x512) ![0, 0, 0] ![2, 1024, 512] inb).shape.Idx → 𝕍 .f32) (L : List (View.Piece 𝕍 S2x1024x512 .f32)) (y : S2x1024x512.Idx) :
    v.read 𝕍 (v.writes 𝕍 f (⟨Rect.unit (s := S2x1024x512) ![0, 0, 0] ![2, 1024, 512] inb, p⟩ :: L)) y = p y :=
  congrFun (View.read_writes_full v f inb p L) y

theorem readCov_eq {sp : Space} {s : Shape} {e : EltTy} (v : View sig .tc sp s e) (L : List (View.Piece 𝕍 s e)) (B : LoadRect s) :
    v.readCov L B = v.readAt 𝕍 B (v.writes 𝕍 v.junk L) := rfl
theorem read_nil {sp : Space} {s : Shape} {e : EltTy} (v : View sig .tc sp s e) (f : v.ty.Contents 𝕍) :
    v.read 𝕍 (v.writes 𝕍 f []) = v.read 𝕍 f := rfl
theorem vec_load {w : ℕ} {sp : Space} {e : EltTy} (v : View sig .tc sp (⟨2, ![1, w]⟩ : Shape) e) (f : v.ty.Contents 𝕍)
    (inb : ∀ a, (![0, 0] : Fin 2 → ℕ) a + (⟨2, ![1, w]⟩ : Shape).size a ≤ (⟨2, ![1, w]⟩ : Shape).size a) :
    v.readAt 𝕍 (Rect.unit (s := (⟨2, ![1, w]⟩ : Shape)) ![0, 0] (⟨2, ![1, w]⟩ : Shape).size inb).toLoadRect f = v.read 𝕍 f :=
  View.readAt_full v f inb

theorem rn19 (v : View sig .tc .vmem S4x256 .f32) (f : v.ty.Contents 𝕍) (i : grid0.Coords) (inb : ∀ d, (k0_off19 i) d + S1x256.size d ≤ S4x256.size d) (x : Fin 256) :
    v.readAt 𝕍 (Rect.unit (s := S4x256) (k0_off19 i) ![1, 256] inb).toLoadRect f (ix2 (0 : Fin 1) x) = v.read 𝕍 f (ix2 (i 0 : Fin 4) x) :=
  congrArg (v.read 𝕍 f) (funext fun d => Fin.ext (by
    match d with
    | ⟨0, _⟩ => show (k0_off19 i) 0 + 1 * 0 = (i 0).val; rw [k0_off19_eq]; rfl
    | ⟨1, _⟩ => show (k0_off19 i) 1 + 1 * x.val = x.val; rw [k0_off19_eq]; show 0 + 1 * x.val = x.val; omega))

theorem rn28 (v : View sig .tc .vmem S4x256 .f32) (f : v.ty.Contents 𝕍) (i : grid0.Coords) (inb : ∀ d, (k0_off28 i) d + S1x256.size d ≤ S4x256.size d) (x : Fin 256) :
    v.readAt 𝕍 (Rect.unit (s := S4x256) (k0_off28 i) ![1, 256] inb).toLoadRect f (ix2 (0 : Fin 1) x) = v.read 𝕍 f (ix2 (i 0 : Fin 4) x) :=
  congrArg (v.read 𝕍 f) (funext fun d => Fin.ext (by
    match d with
    | ⟨0, _⟩ => show (k0_off28 i) 0 + 1 * 0 = (i 0).val; rw [k0_off28_eq]; rfl
    | ⟨1, _⟩ => show (k0_off28 i) 1 + 1 * x.val = x.val; rw [k0_off28_eq]; show 0 + 1 * x.val = x.val; omega))

theorem rn49 (v : View sig .tc .vmem S4x256 .f32) (f : v.ty.Contents 𝕍) (i : grid0.Coords) (inb : ∀ d, (k0_off49 i) d + S1x256.size d ≤ S4x256.size d) (x : Fin 256) :
    v.readAt 𝕍 (Rect.unit (s := S4x256) (k0_off49 i) ![1, 256] inb).toLoadRect f (ix2 (0 : Fin 1) x) = v.read 𝕍 f (ix2 (i 0 : Fin 4) x) :=
  congrArg (v.read 𝕍 f) (funext fun d => Fin.ext (by
    match d with
    | ⟨0, _⟩ => show (k0_off49 i) 0 + 1 * 0 = (i 0).val; rw [k0_off49_eq]; rfl
    | ⟨1, _⟩ => show (k0_off49 i) 1 + 1 * x.val = x.val; rw [k0_off49_eq]; show 0 + 1 * x.val = x.val; omega))

end Cert.KernelIdeal.Attn

end
-- ==== Proof.AttnState.lean ====
module

public import proofs.«01_k».proof.Proof.AttnPay
public import proofs.«01_k».proof.Proof.AttnPay2
public import proofs.«01_k».proof.Proof.AttnMask
public import proofs.«01_k».proof.Proof.AttnRead

/-! What the attention kernel's scratch holds after some tiles of keys, as functions of extended reals: the scores, the weights,
the lane sums and the weighted sums, in the form with a shift known beforehand and in the form that rescales. -/

@[expose] public section

set_option maxRecDepth 16384

noncomputable section

namespace Cert.KernelIdeal.Attn

open Cert.KernelIdeal Cert.KernelIdeal.Gen Idealize.ShloMosaic Idealize.ShloMosaic.TcCoe Idealize.SL.Sem
open scoped BigOperators

/-- The score of a query row against a key row, for one of the two heads of a pair. -/
def sc (Q K : S8192x256.Idx → EReal) (c r k : ℕ) : EReal :=
  ∑ e : Fin 128, at8 Q r (128 * c + e.val) * at8 K k (128 * c + e.val)

/-- The weight of a key for a query under the chunk mask, the shift `M` known beforehand. -/
def wF (Q K : S8192x256.Idx → EReal) (M : EReal) (c r k : ℕ) : EReal :=
  if k / 64 ≤ r / 64 then Ideal.exp2 (sc Q K c r k - M) else 0

/-- The lane sums of the weights `w` over the first `n` tiles of 512 keys. -/
def lS (w : ℕ → EReal) : ℕ → Fin 128 → EReal
  | 0, _ => 0
  | n + 1, x => lS w n x + lane4 (fun k => w (512 * n + k.val)) x

/-- The sums of the values' column `y` weighted by `w` over the first `n` tiles of 512 keys. -/
def aS (w : ℕ → EReal) (V : S8192x256.Idx → EReal) : ℕ → Fin 256 → EReal
  | 0, _ => 0
  | n + 1, y => aS w V n y + ∑ k : Fin 512, w (512 * n + k.val) * at8 V (512 * n + k.val) y.val

/-- The scores under the chunk mask. -/
def sM (Q K : S8192x256.Idx → EReal) (c r k : ℕ) : EReal := if k / 64 ≤ r / 64 then sc Q K c r k else ⊥

/-- The running maximum of the scores `s` over the first `n` tiles. -/
def mS (s : ℕ → EReal) : ℕ → EReal
  | 0 => ⊥
  | n + 1 => max (mS s n) (rowMax fun k => s (512 * n + k.val))

/-- The lane sums over the first `n` tiles, rescaled to the running maximum at each tile. -/
def lO (s : ℕ → EReal) : ℕ → Fin 128 → EReal
  | 0, _ => 0
  | n + 1, x => Ideal.exp2 (mS s n - mS s (n + 1)) * lO s n x + lane4 (fun k => Ideal.exp2 (s (512 * n + k.val) - mS s (n + 1))) x

/-- The weighted sums over the first `n` tiles, rescaled to the running maximum at each tile. -/
def aO (s : ℕ → EReal) (V : S8192x256.Idx → EReal) : ℕ → Fin 256 → EReal
  | 0, _ => 0
  | n + 1, y => Ideal.exp2 (mS s n - mS s (n + 1)) * aO s V n y
      + ∑ k : Fin 512, Ideal.exp2 (s (512 * n + k.val) - mS s (n + 1)) * at8 V (512 * n + k.val) y.val

theorem fold_sc0 (Q K : S8192x256.Idx → EReal) (r k : ℕ) : (∑ e : Fin 128, at8 Q r (128 * 0 + e.val) * at8 K k (128 * 0 + e.val)) = sc Q K 0 r k := rfl
theorem fold_sc1 (Q K : S8192x256.Idx → EReal) (r k : ℕ) : (∑ e : Fin 128, at8 Q r (128 * 1 + e.val) * at8 K k (128 * 1 + e.val)) = sc Q K 1 r k := rfl

/-- The scores plane of tile `n` for the query rows of block `i`. -/
def SOk (g : S2x1024x512.Idx → EReal) (Q K : S8192x256.Idx → EReal) (i n : ℕ) : Prop :=
  (∀ (r : Fin 1024) (k : Fin 512), g (ix3 (0 : Fin 2) r k) = sc Q K 0 (1024 * i + r.val) (512 * n + k.val)) ∧
  ∀ (r : Fin 1024) (k : Fin 512), g (ix3 (1 : Fin 2) r k) = sc Q K 1 (1024 * i + r.val) (512 * n + k.val)

/-- A scratch of two planes of lanes holds `G` of the head, the row and the lane. -/
def POk {w : ℕ} (g : (⟨3, ![2, 1024, w]⟩ : Shape).Idx → EReal) (G : ℕ → ℕ → Fin w → EReal) : Prop :=
  (∀ (r : Fin 1024) (x : Fin w), g (ix3 (0 : Fin 2) r x) = G 0 r.val x) ∧
  ∀ (r : Fin 1024) (x : Fin w), g (ix3 (1 : Fin 2) r x) = G 1 r.val x

/-- Below the diagonal block no key is masked. -/
theorem wF_below (Q K : S8192x256.Idx → EReal) (M : EReal) (c i n r k : ℕ) (hn : n < 2 * i) (hk : k < 512) :
    wF Q K M c (1024 * i + r) (512 * n + k) = Ideal.exp2 (sc Q K c (1024 * i + r) (512 * n + k) - M) :=
  if_pos (by omega)

theorem sM_below (Q K : S8192x256.Idx → EReal) (c i n r k : ℕ) (hn : n < 2 * i) (hk : k < 512) :
    sM Q K c (1024 * i + r) (512 * n + k) = sc Q K c (1024 * i + r) (512 * n + k) :=
  if_pos (by omega)

end Cert.KernelIdeal.Attn

end
-- ==== Proof.AttnLoop1.lean ====
module

public import proofs.«01_k».proof.Proof.Gen.KernelIdeal.Frame
public import proofs.«01_k».proof.Proof.Gen.KernelIdeal.Skeleton
public import proofs.«01_k».proof.Proof.AttnState
public import Idealize.ShloMosaic.Lib.Pipeline.Frame
public import Idealize.ShloMosaic.Lib.Tactic
public import Idealize.ShloMosaic.Lib.Exec

/-! One trip of the loop that takes two tiles of keys below the diagonal, the shift known beforehand. -/

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- Block `i` has `i` pairs of tiles below the diagonal. -/
theorem k0_t1_trips : ∀ i : grid0.Coords, (k0_t1_loop i).trips = (i 1).val := by decide +kernel

/-- Before trip `k` of the loop: tile `2k` is scored, and the sums hold the tiles before it. -/
def t1Inv (c : Dev nD) (i : grid0.Coords) (arg3 : Memref sig .tc .vmem S8192x256 .bf16) (arg4 : Memref sig .tc .vmem S8192x256 .bf16) (arg5 : Memref sig .tc .vmem S8192x256 .bf16) (arg17 : Memref sig .tc .vmem S2x1024x128 .f32) (arg18 : Memref sig .tc .vmem S2x1024x256 .f32) (arg19 : Memref sig .tc .vmem S2x1024x512 .f32) (arg20 : Memref sig .tc .vmem S2x1024x512 .f32) (v0 : Elt Ideal .f32) (X3 : BufTy.Contents (Elt Ideal) arg3.view.ty) (X4 : BufTy.Contents (Elt Ideal) arg4.view.ty) (X5 : BufTy.Contents (Elt Ideal) arg5.view.ty) (k : ℕ) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗
    (∃ f : BufTy.Contents (Elt Ideal) arg17.view.ty, ⌜POk (arg17.view.read (Elt Ideal) f) (fun c' r x => lS (wF (arg3.view.read (Elt Ideal) X3) (arg4.view.read (Elt Ideal) X4) v0 c' (1024 * (i 1).val + r)) (2 * k) x)⌝ ∗ (arg17.view.loc (c : Thread nD τ) ↦[arg17.view.set]{fullShare} f)) ∗
    (∃ f : BufTy.Contents (Elt Ideal) arg18.view.ty, ⌜POk (arg18.view.read (Elt Ideal) f) (fun c' r y => aS (wF (arg3.view.read (Elt Ideal) X3) (arg4.view.read (Elt Ideal) X4) v0 c' (1024 * (i 1).val + r)) (arg5.view.read (Elt Ideal) X5) (2 * k) y)⌝ ∗ (arg18.view.loc (c : Thread nD τ) ↦[arg18.view.set]{fullShare} f)) ∗
    (∃ f : BufTy.Contents (Elt Ideal) arg19.view.ty, ⌜SOk (arg19.view.read (Elt Ideal) f) (arg3.view.read (Elt Ideal) X3) (arg4.view.read (Elt Ideal) X4) (i 1).val (2 * k)⌝ ∗ (arg19.view.loc (c : Thread nD τ) ↦[arg19.view.set]{fullShare} f)) ∗
    (∃ f : BufTy.Contents (Elt Ideal) arg20.view.ty, (arg20.view.loc (c : Thread nD τ) ↦[arg20.view.set]{fullShare} f)))

theorem t1_step (𝒱 : Variants) (c : Dev nD) (bd : Option 𝒱.V) (E : Set ℕ) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (arg1 : BitVec 32) (v0 : Elt Ideal .f32) (X3 : BufTy.Contents (Elt Ideal) arg3.view.ty) (X4 : BufTy.Contents (Elt Ideal) arg4.view.ty) (X5 : BufTy.Contents (Elt Ideal) arg5.view.ty) (k : Fin (k0_t1_loop i).trips) (acc : Unit) :
    t1Inv c i arg3 arg4 arg5 arg17 arg18 arg19 arg20 v0 X3 X4 X5 k.val ⊢ wp frame (wpE defs₀ 𝒱 (c : Thread nD τ) bd) E
      (k0_t1_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 v0 k acc) (fun _ => t1Inv c i arg3 arg4 arg5 arg17 arg18 arg19 arg20 v0 X3 X4 X5 (k.val + 1)) := by
  have hk : k.val < (i 1).val := by
    have := k.isLt
    have h2 := k0_t1_trips i
    omega
  unfold t1Inv
  iintro ⟨HR3, HR4, HR5, ⟨%f17, %h17, HW17⟩, ⟨%f18, %h18, HW18⟩, ⟨%f19, %h19, HW19⟩, ⟨%f20, HW20⟩⟩
  obtain ⟨h170, h171⟩ := h17
  obtain ⟨h180, h181⟩ := h18
  obtain ⟨h190, h191⟩ := h19
  unfold k0_t1_body
  sl_exec
  sl_step
  isplitl [HR3]
  · iexact HR3
  isplitl [HR4]
  · iexact HR4
  isplitl [HR5]
  · iexact HR5
  isplitl [HW17]
  · iexists _
    isplitr
    swap
    · iexact HW17
    ipureintro
    sl_unfold_run_names
    refine ⟨fun r x => ?_, fun r x => ?_⟩
    · show _ = lS _ (2 * k.val + 1 + 1) x
      pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, h170, h190, lS, lane4, sc]
      simp (disch := omega) only [wF_below, sc, Nat.mul_zero, Nat.zero_add, Nat.mul_one]
      rfl
    · show _ = lS _ (2 * k.val + 1 + 1) x
      pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, h171, h191, lS, lane4, sc]
      simp (disch := omega) only [wF_below, sc, Nat.mul_zero, Nat.zero_add, Nat.mul_one]
      rfl
  isplitl [HW18]
  · iexists _
    isplitr
    swap
    · iexact HW18
    ipureintro
    sl_unfold_run_names
    refine ⟨fun r x => ?_, fun r x => ?_⟩
    · show _ = aS _ _ (2 * k.val + 1 + 1) x
      pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, h180, h190, aS, sc]
      simp (disch := omega) only [wF_below, sc, Nat.mul_zero, Nat.zero_add, Nat.mul_one]
      rfl
    · show _ = aS _ _ (2 * k.val + 1 + 1) x
      pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, h181, h191, aS, sc]
      simp (disch := omega) only [wF_below, sc, Nat.mul_zero, Nat.zero_add, Nat.mul_one]
      rfl
  isplitl [HW19]
  · iexists _
    isplitr
    swap
    · iexact HW19
    ipureintro
    sl_unfold_run_names
    refine ⟨fun r x => ?_, fun r x => ?_⟩
    · pointwise [k0_pay5, k0_pay6, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, sc]
    · pointwise [k0_pay5, k0_pay6, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, sc]
  · iexists _
    iexact HW20

end Cert.KernelIdeal.Attn

end
-- ==== Proof.AttnBlock.lean ====
module

public import proofs.«01_k».proof.Proof.Gen.KernelIdeal.Frame
public import proofs.«01_k».proof.Proof.Gen.KernelIdeal.Skeleton
public import proofs.«01_k».proof.Proof.AttnState
public import Idealize.ShloMosaic.Lib.Pipeline.Frame
public import Idealize.ShloMosaic.Lib.Tactic
public import Idealize.ShloMosaic.Lib.Exec

/-! What the attention kernel's body leaves at a point, as a function of its windows' blocks. -/

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- The first parameter, as the body reads it. -/
theorem rdp (v : View sig .tc .smem S2 .f32) (f : v.ty.Contents (Elt Ideal)) (inb : ∀ a, (![0] : Fin 1 → ℕ) a + (![1] : Fin 1 → ℕ) a ≤ S2.size a) (x : (Rect.unit (s := S2) ![0] ![1] inb).toLoadRect.shape.Idx) :
    v.readAt (Elt Ideal) (Rect.unit (s := S2) ![0] ![1] inb).toLoadRect f x = v.read (Elt Ideal) f (ix1 (0 : Fin 2)) :=
  congrArg (v.read (Elt Ideal) f) (funext fun t => Fin.ext (by
    match t with
    | ⟨0, _⟩ =>
      have h : (x 0).val < 1 := (x 0).isLt
      show 0 + 1 * (x 0).val = 0
      omega))

/-- A store of a whole buffer of two axes, read back. -/
theorem wf_out (v : View sig .tc .vmem S1024x256 .bf16) (f : v.ty.Contents (Elt Ideal)) (inb : ∀ a, (![0, 0] : Fin 2 → ℕ) a + (![1024, 256] : Fin 2 → ℕ) a ≤ S1024x256.size a)
    (p : (Rect.unit (s := S1024x256) ![0, 0] ![1024, 256] inb).shape.Idx → Elt Ideal .bf16) (L : List (View.Piece (Elt Ideal) S1024x256 .bf16)) (r : Fin 1024) (x : Fin 256) :
    v.read (Elt Ideal) (v.writes (Elt Ideal) f (⟨Rect.unit (s := S1024x256) ![0, 0] ![1024, 256] inb, p⟩ :: L)) (ix2 r x) = p (ix2 r x) :=
  View.read_writes_cons_unit_of_mem v f inb p L _ (ix2 r x) rfl fun a => by
    match a with
    | ⟨0, _⟩ => show r.val = 0 + r.val; omega
    | ⟨1, _⟩ => show x.val = 0 + x.val; omega
theorem wf_slab (v : View sig .tc .vmem S64x5632 .bf16) (f : v.ty.Contents (Elt Ideal)) (inb : ∀ a, (![0, 0] : Fin 2 → ℕ) a + (![64, 5632] : Fin 2 → ℕ) a ≤ S64x5632.size a)
    (p : (Rect.unit (s := S64x5632) ![0, 0] ![64, 5632] inb).shape.Idx → Elt Ideal .bf16) (L : List (View.Piece (Elt Ideal) S64x5632 .bf16)) (r : Fin 64) (x : Fin 5632) :
    v.read (Elt Ideal) (v.writes (Elt Ideal) f (⟨Rect.unit (s := S64x5632) ![0, 0] ![64, 5632] inb, p⟩ :: L)) (ix2 r x) = p (ix2 r x) :=
  View.read_writes_cons_unit_of_mem v f inb p L _ (ix2 r x) rfl fun a => by
    match a with
    | ⟨0, _⟩ => show r.val = 0 + r.val; omega
    | ⟨1, _⟩ => show x.val = 0 + x.val; omega

/-- The first head's score, from the columns below 128. -/
theorem fs0 (Q K : S8192x256.Idx → EReal) (r k : ℕ) : (∑ e : Fin 128, at8 Q r e.val * at8 K k e.val) = sc Q K 0 r k := by
  simp only [sc, Nat.mul_zero, Nat.zero_add]
/-- The second head's score, from the columns from 128 on. -/
theorem fs1 (Q K : S8192x256.Idx → EReal) (r k : ℕ) : (∑ e : Fin 128, at8 Q r (128 + e.val) * at8 K k (128 + e.val)) = sc Q K 1 r k := by
  simp only [sc, Nat.mul_one]

/-- A window of one row of 128 lanes, read. -/
theorem vl128 (v : View sig .tc .vmem S1x128 .f32) (f : v.ty.Contents (Elt Ideal)) (inb : ∀ a, (![0, 0] : Fin 2 → ℕ) a + (![1, 128] : Fin 2 → ℕ) a ≤ S1x128.size a) (x : Fin 128) :
    v.readAt (Elt Ideal) (Rect.unit (s := S1x128) ![0, 0] ![1, 128] inb).toLoadRect f (ix2 (0 : Fin 1) x) = v.read (Elt Ideal) f (ix2 (0 : Fin 1) x) := congrFun (vec_load v f inb) _

/-- A slab of weights, read whole. -/
theorem rd_slab (v : View sig .tc .vmem S64x5632 .f32) (f : v.ty.Contents (Elt Ideal)) (inb : ∀ a, (![0, 0] : Fin 2 → ℕ) a + (![64, 5632] : Fin 2 → ℕ) a ≤ S64x5632.size a) (j : S64x5632.Idx) :
    v.readAt (Elt Ideal) (Rect.unit (s := S64x5632) ![0, 0] ![64, 5632] inb).toLoadRect f j = v.read (Elt Ideal) f j := congrFun (View.readAt_full v f inb) _
theorem ix2_eq' (j : S64x5632.Idx) : ∃ (r : Fin 64) (y : Fin 5632), j = ix2 r y := ⟨j 0, j 1, funext fun d => by
    match d with
    | ⟨0, _⟩ => rfl
    | ⟨1, _⟩ => rfl⟩

/-- The windows' blocks, read at a point. -/
def ins (c : Dev nD) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt Ideal .f32) (X3 : S8192x256.Idx → Elt Ideal .bf16) (X4 : S8192x256.Idx → Elt Ideal .bf16) (X5 : S8192x256.Idx → Elt Ideal .bf16) (X6 : S1x128.Idx → Elt Ideal .f32) (X7 : S1x128.Idx → Elt Ideal .f32) (X8 : S1x128.Idx → Elt Ideal .f32) (X9 : S1x128.Idx → Elt Ideal .f32) (X10 : S4x256.Idx → Elt Ideal .f32) (X11 : S64x5632.Idx → Elt Ideal .f32) (X12 : S64x5632.Idx → Elt Ideal .f32) : sProp 𝕄 :=
  iprop(owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ owns (c : Thread nD τ) arg11 fullShare X11 ∗ owns (c : Thread nD τ) arg12 fullShare X12)

/-- The word the body branches on, of the parameters `X`: is the second one above one half? -/
def flagWord (X : S2.Idx → Elt Ideal .f32) (x : S1.Idx) : BitVec 1 :=
  Scalar.cmpf (F := Ideal) .ogt (View.ld X (Rect.unit (s := S2) ![1] S1.size inb_S2_S1_1) x) (Scalar.ofBits .f32 0x3F000000#32)

/-- The first branch is taken. -/
def flagOn (X : S2.Idx → Elt Ideal .f32) : Prop := ∀ x, Scalar.cmpi .ne (Scalar.extui (flagWord X x) : BitVec 32) 0#32 = 1#1
/-- The second branch is taken. -/
def flagOff (X : S2.Idx → Elt Ideal .f32) : Prop := ∀ x, ¬ Scalar.cmpi .ne (Scalar.extui (flagWord X x) : BitVec 32) 0#32 = 1#1

/-- The two branches exclude each other. -/
theorem flag_not : ∀ b : BitVec 1, Scalar.cmpi .ne (Scalar.extui b : BitVec 32) 0#32 = 1#1 →
    ¬ Scalar.cmpi .ne (Scalar.extui (Scalar.xori b 1#1) : BitVec 32) 0#32 = 1#1 := by decide
/-- One of the two branches is taken. -/
theorem flag_of_not : ∀ b : BitVec 1, ¬ Scalar.cmpi .ne (Scalar.extui b : BitVec 32) 0#32 = 1#1 →
    Scalar.cmpi .ne (Scalar.extui (Scalar.xori b 1#1) : BitVec 32) 0#32 = 1#1 := by decide

/-- With the shift known beforehand, a block starts from sums of zero and the scores of its first tile. -/
def Ready (Q K : S8192x256.Idx → EReal) (i : ℕ) (d17 : S2x1024x128.Idx → EReal) (d18 : S2x1024x256.Idx → EReal) (d19 : S2x1024x512.Idx → EReal) : Prop :=
  POk d17 (fun _ _ _ => 0) ∧ POk d18 (fun _ _ _ => 0) ∧ SOk d19 Q K i 0

/-- Row `R` of the two heads' difference, the shift `M` known beforehand. -/
def rowF (Q K V : S8192x256.Idx → EReal) (M lam : EReal) (R : ℕ) (y : Fin 256) : EReal :=
  outO lam (lS (wF Q K M 0 R) (R / 512 + 1)) (lS (wF Q K M 1 R) (R / 512 + 1)) (aS (wF Q K M 0 R) V (R / 512 + 1) y) (aS (wF Q K M 1 R) V (R / 512 + 1) y)

/-- Row `R` of the two heads' difference, the running maximum rescaled. -/
def rowO (Q K V : S8192x256.Idx → EReal) (lam : EReal) (R : ℕ) (y : Fin 256) : EReal :=
  outO lam (lO (sM Q K 0 R) (R / 512 + 1)) (lO (sM Q K 1 R) (R / 512 + 1)) (aO (sM Q K 0 R) V (R / 512 + 1) y) (aO (sM Q K 1 R) V (R / 512 + 1) y)

/-- The row `o` scaled to a mean square of one, and by the weights `w`. -/
def rowN (o : Fin 256 → EReal) (w : Fin 256 → EReal) (y : Fin 256) : EReal := normO (o y) (∑ z : Fin 256, o z * o z) (w y)

/-- The factor of the second head, from the four vectors' windows. -/
def lamX (a b c d : S1x128.Idx → EReal) : EReal :=
  lamE (fun e => a (ix2 (0 : Fin 1) e)) (fun e => b (ix2 (0 : Fin 1) e)) (fun e => c (ix2 (0 : Fin 1) e)) (fun e => d (ix2 (0 : Fin 1) e))

/-- The output block of a point, of the rows `o` and the norm's weights `w`. -/
def outB (o : ℕ → Fin 256 → EReal) (w : S4x256.Idx → EReal) (i : grid0.Coords) (j : S1024x256.Idx) : EReal :=
  rowN (o (1024 * (i 1).val + (j 0).val)) (fun y => w (ix2 (i 0 : Fin 4) y)) (j 1)

/-- On the diagonal block's first tile the mask is the local one. -/
theorem wF_d0 (Q K : S8192x256.Idx → EReal) (M : EReal) (c i r k : ℕ) :
    wF Q K M c (1024 * i + r) (512 * (2 * i) + k) = if k / 64 ≤ r / 64 then Ideal.exp2 (sc Q K c (1024 * i + r) (512 * (2 * i) + k) - M) else 0 :=
  if_congr (by omega) rfl rfl
/-- On the diagonal block's second tile likewise, for the lower rows. -/
theorem wF_d1 (Q K : S8192x256.Idx → EReal) (M : EReal) (c i k : ℕ) (r : Fin 512) :
    wF Q K M c (1024 * i + (lo r).val) (512 * (2 * i + 1) + k) = if k / 64 ≤ r.val / 64 then Ideal.exp2 (sc Q K c (1024 * i + (lo r).val) (512 * (2 * i + 1) + k) - M) else 0 :=
  if_congr (by rw [lo_val]; omega) rfl rfl
theorem sM_d0 (Q K : S8192x256.Idx → EReal) (c i r k : ℕ) :
    sM Q K c (1024 * i + r) (512 * (2 * i) + k) = if k / 64 ≤ r / 64 then sc Q K c (1024 * i + r) (512 * (2 * i) + k) else ⊥ :=
  if_congr (by omega) rfl rfl
theorem sM_d1 (Q K : S8192x256.Idx → EReal) (c i k : ℕ) (r : Fin 512) :
    sM Q K c (1024 * i + (lo r).val) (512 * (2 * i + 1) + k) = if k / 64 ≤ r.val / 64 then sc Q K c (1024 * i + (lo r).val) (512 * (2 * i + 1) + k) else ⊥ :=
  if_congr (by rw [lo_val]; omega) rfl rfl

/-- The floor of a division by 64 in the kernel's words, for a number below 1024. -/
theorem quot_nat (n : ℕ) (h : n < 1024) :
    Scalar.select
      (IntOp.andi
        (IntOp.cmpi .ne
          (IntOp.subi (BitVec.setWidth 32 (IntOp.cmpi .sgt (BitVec.ofNat 32 n) 0#32)) (BitVec.setWidth 32 (IntOp.cmpi .slt (BitVec.ofNat 32 n) 0#32)))
          (Scalar.subi (Scalar.extui (Scalar.cmpi .sgt 64#32 0#32)) (Scalar.extui (Scalar.cmpi .slt 64#32 0#32)) : BitVec 32))
        (IntOp.cmpi .ne (IntOp.remsi .vector (BitVec.ofNat 32 n) 64#32) 0#32))
      (IntOp.subi (IntOp.divsi .vector (BitVec.ofNat 32 n) 64#32) 1#32)
      (IntOp.divsi .vector (BitVec.ofNat 32 n) 64#32) = BitVec.ofNat 32 (n / 64) := quot_word ⟨n, h⟩

theorem quot_one : ∀ n : Fin 1024,
    Scalar.select
      (IntOp.andi
        (IntOp.cmpi .ne
          (IntOp.subi (BitVec.setWidth 32 (IntOp.cmpi .sgt (BitVec.ofNat 32 n.val) 0#32)) (BitVec.setWidth 32 (IntOp.cmpi .slt (BitVec.ofNat 32 n.val) 0#32)))
          1#32)
        (IntOp.cmpi .ne (IntOp.remsi .vector (BitVec.ofNat 32 n.val) 64#32) 0#32))
      (IntOp.subi (IntOp.divsi .vector (BitVec.ofNat 32 n.val) 64#32) 1#32)
      (IntOp.divsi .vector (BitVec.ofNat 32 n.val) 64#32) = BitVec.ofNat 32 (n.val / 64) := by decide +kernel
theorem quot_nat1 (n : ℕ) (h : n < 1024) :
    Scalar.select
      (IntOp.andi
        (IntOp.cmpi .ne
          (IntOp.subi (BitVec.setWidth 32 (IntOp.cmpi .sgt (BitVec.ofNat 32 n) 0#32)) (BitVec.setWidth 32 (IntOp.cmpi .slt (BitVec.ofNat 32 n) 0#32)))
          1#32)
        (IntOp.cmpi .ne (IntOp.remsi .vector (BitVec.ofNat 32 n) 64#32) 0#32))
      (IntOp.subi (IntOp.divsi .vector (BitVec.ofNat 32 n) 64#32) 1#32)
      (IntOp.divsi .vector (BitVec.ofNat 32 n) 64#32) = BitVec.ofNat 32 (n / 64) := quot_one ⟨n, h⟩

theorem lo_div (i : ℕ) (r : Fin 512) : (1024 * i + (lo r).val) / 512 = 2 * i + 1 := by rw [lo_val]; omega
theorem hi_div (i : ℕ) (r : Fin 512) : (1024 * i + (hi r).val) / 512 = 2 * i := by rw [hi_val]; omega
theorem ix2_eq (j : S1024x256.Idx) : ∃ (r : Fin 1024) (y : Fin 256), j = ix2 r y := ⟨j 0, j 1, funext fun d => by
    match d with
    | ⟨0, _⟩ => rfl
    | ⟨1, _⟩ => rfl⟩

end Cert.KernelIdeal.Attn

end
-- ==== Proof.AttnFirst.lean ====
module

public import proofs.«01_k».proof.Proof.Gen.KernelIdeal.Frame
public import proofs.«01_k».proof.Proof.Gen.KernelIdeal.Skeleton
public import proofs.«01_k».proof.Proof.AttnLoop1
public import proofs.«01_k».proof.Proof.AttnBlock
public import Idealize.ShloMosaic.Lib.Pipeline.Frame
public import Idealize.ShloMosaic.Lib.Tactic
public import Idealize.ShloMosaic.Lib.Exec

/-! The attention kernel at its first block of queries: what one run of the body leaves, in the branch with a fixed shift. -/

@[expose] public section

set_option maxRecDepth 16384
set_option maxHeartbeats 0

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem run_first (c : Dev nD) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt Ideal .f32) (X3 : S8192x256.Idx → Elt Ideal .bf16) (X4 : S8192x256.Idx → Elt Ideal .bf16) (X5 : S8192x256.Idx → Elt Ideal .bf16) (X6 : S1x128.Idx → Elt Ideal .f32) (X7 : S1x128.Idx → Elt Ideal .f32) (X8 : S1x128.Idx → Elt Ideal .f32) (X9 : S1x128.Idx → Elt Ideal .f32) (X10 : S4x256.Idx → Elt Ideal .f32) (X11 : S64x5632.Idx → Elt Ideal .f32) (X12 : S64x5632.Idx → Elt Ideal .f32) (d16 : S2x1024x128.Idx → Elt Ideal .f32) (d17 : S2x1024x128.Idx → Elt Ideal .f32) (d18 : S2x1024x256.Idx → Elt Ideal .f32) (d19 : S2x1024x512.Idx → Elt Ideal .f32) (d20 : S2x1024x512.Idx → Elt Ideal .f32) (hv : flagOn X2) (h2 : k0_cond2 i = 1#1) (hi0 : (i 1).val = 0) (h3 : k0_cond3 i = 1#1) (h4 : ¬ k0_cond4 i = 1#1) (K : PUnit → sProp 𝕄) :
    iprop(ins c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ ((ins c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ owns (c : Thread nD τ) arg13 fullShare (outB (rowF X3 X4 X5 (X2 (ix1 (0 : Fin 2))) (lamX X6 X7 X8 X9)) X10 i) ∗ owns (c : Thread nD τ) arg14 fullShare X11 ∗ owns (c : Thread nD τ) arg15 fullShare X12 ∗ (∃ d16 d17 d18 d19 d20, ⌜Ready X3 X4 ((i 1).val + 1) d17 d18 d19⌝ ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20)) -∗ K ⟨⟩))
      ⊢ wp frame (wpE defs₀ Variants.none (c : Thread nD τ) none) Set.univ (cc0_diffattn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_diffattn_eq_skeleton]; unfold cc0_diffattn_skel ins owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, Hk⟩
  subst hf2 hf3 hf4 hf5 hf6 hf7 hf8 hf9 hf10 hf11 hf12 hf16 hf17 hf18 hf19 hf20
  sl_exec
  have hw : run_first.sl.v4 c arg2 f2 = 1#1 := hv _
  sl_exec
  sl_for (fun k _ => t1Inv c i arg3 arg4 arg5 arg17 arg18 arg19 arg20 (arg2.view.read (Elt Ideal) f2 (ix1 (0 : Fin 2))) f3 f4 f5 k) $$ [H3 H4 H5 H17 H18 H19 H20]
  case region =>
    intro k acc
    sl_unfold_run_names
    rw [rdp]
    exact t1_step _ _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ f3 f4 f5 k acc
  · unfold t1Inv
    isplitl [H3]
    · iexact H3
    isplitl [H4]
    · iexact H4
    isplitl [H5]
    · iexact H5
    isplitl [H17]
    · iexists _
      isplitr
      swap
      · iexact H17
      ipureintro
      refine ⟨fun r x => ?_, fun r x => ?_⟩
      · refine (wf128 _ _ _ _ _ _).trans ?_
        show _ = (0 : EReal)
        sl_unfold_run_names
        pointwise [k0_pay1]
      · refine (wf128 _ _ _ _ _ _).trans ?_
        show _ = (0 : EReal)
        sl_unfold_run_names
        pointwise [k0_pay1]
    isplitl [H18]
    · iexists _
      isplitr
      swap
      · iexact H18
      ipureintro
      refine ⟨fun r x => ?_, fun r x => ?_⟩
      · refine (wf256 _ _ _ _ _ _).trans ?_
        show _ = (0 : EReal)
        sl_unfold_run_names
        pointwise [k0_pay2]
      · refine (wf256 _ _ _ _ _ _).trans ?_
        show _ = (0 : EReal)
        sl_unfold_run_names
        pointwise [k0_pay2]
    isplitl [H19]
    · iexists _
      isplitr
      swap
      · iexact H19
      ipureintro
      sl_unfold_run_names
      refine ⟨fun r k => ?_, fun r k => ?_⟩
      · show _ = sc _ _ 0 _ (512 * 0 + k.val)
        pointwise [k0_pay3, k0_pay4, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, sc]
        exact Finset.sum_congr rfl fun x _ => congrArg₂ (· * ·) (load8 _ _ _ 0 0 rfl _ r x _ _ (by omega) (by omega)) (load8 _ _ _ 0 0 rfl _ k x _ _ (by omega) (by omega))
      · show _ = sc _ _ 1 _ (512 * 0 + k.val)
        pointwise [k0_pay3, k0_pay4, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, sc]
        exact Finset.sum_congr rfl fun x _ => congrArg₂ (· * ·) (load8 _ _ _ 0 128 rfl _ r x _ _ (by omega) (by omega)) (load8 _ _ _ 0 128 rfl _ k x _ _ (by omega) (by omega))
    iexists _
    iexact H20
  iintro %acc HI
  unfold t1Inv
  rw [show Scf.trips (k0_t1_loop i).lb (k0_t1_loop i).ub (k0_t1_loop i).st = (i 1).val from k0_t1_trips i]
  icases HI with ⟨H3, H4, H5, ⟨%g17, %h17, H17⟩, ⟨%g18, %h18, H18⟩, ⟨%g19, %h19, H19⟩, ⟨%g20, H20⟩⟩
  have htr : (k0_t2_loop i).trips = 0 := by have := (k0_t2_abs i).2.1; omega
  sl_exec
  have hw7 : ¬ run_first.sl.v7 c arg2 f2 = 1#1 := flag_not _ hw
  sl_exec
  sl_step
  iapply Hk
  obtain ⟨h170, h171⟩ := h17
  obtain ⟨h180, h181⟩ := h18
  obtain ⟨h190, h191⟩ := h19
  isplitl [H2 H3 H4 H5 H6 H7 H8 H9 H10 H11 H12]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexists _; isplitr; swap; · iexact H12
    ipureintro; rfl
  isplitl [H13]
  · iexists _; isplitr; swap; · iexact H13
    ipureintro
    refine funext fun j => ?_
    obtain ⟨r, y, rfl⟩ := ix2_eq j
    refine (wf_out _ _ _ _ _ _ _).trans ?_
    have hL0 : ∀ (r : Fin 1024) (x : Fin 128), run_first.sl.v404 c i arg2 arg3 arg4 arg17 arg19 arg20 h3 f2 f3 f4 g17 g19 (ix3 (0 : Fin 1) r x) = lS (wF (View.read (Elt Ideal) arg3.view f3) (View.read (Elt Ideal) arg4.view f4) (View.read (Elt Ideal) arg2.view f2 (ix1 0)) 0 (1024 * (i 1).val + r.val)) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hL1 : ∀ (r : Fin 1024) (x : Fin 128), run_first.sl.v410 c i arg2 arg3 arg4 arg17 arg19 arg20 h3 f2 f3 f4 g17 g19 (ix3 (0 : Fin 1) r x) = lS (wF (View.read (Elt Ideal) arg3.view f3) (View.read (Elt Ideal) arg4.view f4) (View.read (Elt Ideal) arg2.view f2 (ix1 0)) 1 (1024 * (i 1).val + r.val)) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hA0 : ∀ (r : Fin 1024) (x : Fin 256), run_first.sl.v416 c i arg2 arg3 arg4 arg5 arg18 arg19 arg20 h3 f2 f3 f4 f5 g18 g19 (ix3 (0 : Fin 1) r x) = aS (wF (View.read (Elt Ideal) arg3.view f3) (View.read (Elt Ideal) arg4.view f4) (View.read (Elt Ideal) arg2.view f2 (ix1 0)) 0 (1024 * (i 1).val + r.val)) (View.read (Elt Ideal) arg5.view f5) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hA1 : ∀ (r : Fin 1024) (x : Fin 256), run_first.sl.v420 c i arg2 arg3 arg4 arg5 arg18 arg19 arg20 h3 f2 f3 f4 f5 g18 g19 (ix3 (0 : Fin 1) r x) = aS (wF (View.read (Elt Ideal) arg3.view f3) (View.read (Elt Ideal) arg4.view f4) (View.read (Elt Ideal) arg2.view f2 (ix1 0)) 1 (1024 * (i 1).val + r.val)) (View.read (Elt Ideal) arg5.view f5) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hO : ∀ (r : Fin 1024) (z : Fin 256), run_first.sl.v424 c i arg2 arg3 arg4 arg5 arg6 arg7 arg8 arg9 arg17 arg18 arg19 arg20 h3 f2 f3 f4 f5 f6 f7 f8 f9 g17 g18 g19 (ix2 r z) = rowF (View.read (Elt Ideal) arg3.view f3) (View.read (Elt Ideal) arg4.view f4) (View.read (Elt Ideal) arg5.view f5) (View.read (Elt Ideal) arg2.view f2 (ix1 0)) (lamX (View.read (Elt Ideal) arg6.view f6) (View.read (Elt Ideal) arg7.view f7) (View.read (Elt Ideal) arg8.view f8) (View.read (Elt Ideal) arg9.view f9)) (1024 * (i 1).val + r.val) z := by
      intro r z
      clear * - hL0 hL1 hA0 hA1
      (try unfold run_first.sl.v424); (try unfold run_first.sl.v423); (try unfold run_first.sl.v422); (try unfold run_first.sl.v421); (try unfold run_first.sl.v419); (try unfold run_first.sl.v418); (try unfold run_first.sl.v417); (try unfold run_first.sl.v415); (try unfold run_first.sl.v414); (try unfold run_first.sl.v413); (try unfold run_first.sl.v412); (try unfold run_first.sl.v411); (try unfold run_first.sl.v409); (try unfold run_first.sl.v408); (try unfold run_first.sl.v407); (try unfold run_first.sl.v406); (try unfold run_first.sl.v405)
      generalize run_first.sl.v404 c i arg2 arg3 arg4 arg17 arg19 arg20 h3 f2 f3 f4 g17 g19 = A0 at hL0 ⊢
      generalize run_first.sl.v410 c i arg2 arg3 arg4 arg17 arg19 arg20 h3 f2 f3 f4 g17 g19 = A1 at hL1 ⊢
      generalize run_first.sl.v416 c i arg2 arg3 arg4 arg5 arg18 arg19 arg20 h3 f2 f3 f4 f5 g18 g19 = A2 at hA0 ⊢
      generalize run_first.sl.v420 c i arg2 arg3 arg4 arg5 arg18 arg19 arg20 h3 f2 f3 f4 f5 g18 g19 = A3 at hA1 ⊢
      sl_unfold_run_names
      pointwise [hL0, hL1, hA0, hA1, vl128, outO, lamE, lamX, rowF, rowO]
      try rfl
    clear * - hO
    (try unfold run_first.sl.v441); (try unfold run_first.sl.v440); (try unfold run_first.sl.v439); (try unfold run_first.sl.v438); (try unfold run_first.sl.v437); (try unfold run_first.sl.v436); (try unfold run_first.sl.v435); (try unfold run_first.sl.v434); (try unfold run_first.sl.v433); (try unfold run_first.sl.v432); (try unfold run_first.sl.v431); (try unfold run_first.sl.v430); (try unfold run_first.sl.v429); (try unfold run_first.sl.v428); (try unfold run_first.sl.v427); (try unfold run_first.sl.v426); (try unfold run_first.sl.v425)
    generalize run_first.sl.v424 c i arg2 arg3 arg4 arg5 arg6 arg7 arg8 arg9 arg17 arg18 arg19 arg20 h3 f2 f3 f4 f5 f6 f7 f8 f9 g17 g18 g19 = A at hO ⊢
    sl_unfold_run_names
    pointwise [hO, rn19, rn28, rn49, outB, rowN, normO]
    try rfl
  isplitl [H14]
  · iexists _; isplitr; swap; · iexact H14
    ipureintro
    refine funext fun j => ?_
    obtain ⟨r, y, rfl⟩ := ix2_eq' j
    refine (wf_slab _ _ _ _ _ _ _).trans ?_
    sl_unfold_run_names
    exact rd_slab _ _ _ _
  isplitl [H15]
  · iexists _; isplitr; swap; · iexact H15
    ipureintro
    refine funext fun j => ?_
    obtain ⟨r, y, rfl⟩ := ix2_eq' j
    refine (wf_slab _ _ _ _ _ _ _).trans ?_
    sl_unfold_run_names
    exact rd_slab _ _ _ _
  iexists _; iexists _; iexists _; iexists _; iexists _
  isplitr
  swap
  · isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    iexists _; isplitr; swap; · iexact H20
    ipureintro; rfl
  ipureintro
  refine ⟨⟨fun r x => ?_, fun r x => ?_⟩, ⟨fun r x => ?_, fun r x => ?_⟩, ⟨fun r k => ?_, fun r k => ?_⟩⟩
  · refine (wf128 _ _ _ _ _ _).trans ?_
    sl_unfold_run_names
    pointwise []
  · refine (wf128 _ _ _ _ _ _).trans ?_
    sl_unfold_run_names
    pointwise []
  · refine (wf256 _ _ _ _ _ _).trans ?_
    sl_unfold_run_names
    pointwise []
  · refine (wf256 _ _ _ _ _ _).trans ?_
    sl_unfold_run_names
    pointwise []
  · sl_unfold_run_names
    pointwise [k0_pay9, k0_pay10, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, sc]
    try exact Finset.sum_congr rfl fun x _ => congrArg₂ (· * ·) rfl (load8 _ _ _ 0 0 rfl _ k x _ _ (by omega) (by omega))
  · sl_unfold_run_names
    pointwise [k0_pay9, k0_pay10, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, sc]
    try exact Finset.sum_congr rfl fun x _ => congrArg₂ (· * ·) rfl (load8 _ _ _ 0 128 rfl _ k x _ _ (by omega) (by omega))

end Cert.KernelIdeal.Attn

end
-- ==== Proof.AttnMid.lean ====
module

public import proofs.«01_k».proof.Proof.Gen.KernelIdeal.Frame
public import proofs.«01_k».proof.Proof.Gen.KernelIdeal.Skeleton
public import proofs.«01_k».proof.Proof.AttnLoop1
public import proofs.«01_k».proof.Proof.AttnBlock
public import Idealize.ShloMosaic.Lib.Pipeline.Frame
public import Idealize.ShloMosaic.Lib.Tactic
public import Idealize.ShloMosaic.Lib.Exec

/-! The attention kernel at a middle block of queries, in the branch with a fixed shift: it reads the scores kept by the step before and keeps those of the step after. -/

@[expose] public section

set_option maxRecDepth 16384
set_option maxHeartbeats 0

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem run_middle (c : Dev nD) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt Ideal .f32) (X3 : S8192x256.Idx → Elt Ideal .bf16) (X4 : S8192x256.Idx → Elt Ideal .bf16) (X5 : S8192x256.Idx → Elt Ideal .bf16) (X6 : S1x128.Idx → Elt Ideal .f32) (X7 : S1x128.Idx → Elt Ideal .f32) (X8 : S1x128.Idx → Elt Ideal .f32) (X9 : S1x128.Idx → Elt Ideal .f32) (X10 : S4x256.Idx → Elt Ideal .f32) (X11 : S64x5632.Idx → Elt Ideal .f32) (X12 : S64x5632.Idx → Elt Ideal .f32) (d16 : S2x1024x128.Idx → Elt Ideal .f32) (d17 : S2x1024x128.Idx → Elt Ideal .f32) (d18 : S2x1024x256.Idx → Elt Ideal .f32) (d19 : S2x1024x512.Idx → Elt Ideal .f32) (d20 : S2x1024x512.Idx → Elt Ideal .f32) (hv : flagOn X2) (h2 : ¬ k0_cond2 i = 1#1) (h3 : k0_cond3 i = 1#1) (h4 : ¬ k0_cond4 i = 1#1) (hr : Ready X3 X4 (i 1).val d17 d18 d19) (K : PUnit → sProp 𝕄) :
    iprop(ins c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ ((ins c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ owns (c : Thread nD τ) arg13 fullShare (outB (rowF X3 X4 X5 (X2 (ix1 (0 : Fin 2))) (lamX X6 X7 X8 X9)) X10 i) ∗ owns (c : Thread nD τ) arg14 fullShare X11 ∗ owns (c : Thread nD τ) arg15 fullShare X12 ∗ (∃ d16 d17 d18 d19 d20, ⌜Ready X3 X4 ((i 1).val + 1) d17 d18 d19⌝ ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20)) -∗ K ⟨⟩))
      ⊢ wp frame (wpE defs₀ Variants.none (c : Thread nD τ) none) Set.univ (cc0_diffattn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_diffattn_eq_skeleton]; unfold cc0_diffattn_skel ins owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, Hk⟩
  obtain ⟨hr17, hr18, hr19⟩ := hr
  subst hf2 hf3 hf4 hf5 hf6 hf7 hf8 hf9 hf10 hf11 hf12 hf16 hf17 hf18 hf19 hf20
  sl_exec
  have hw : run_middle.sl.v4 c arg2 f2 = 1#1 := hv _
  sl_exec
  sl_for (fun k _ => t1Inv c i arg3 arg4 arg5 arg17 arg18 arg19 arg20 (arg2.view.read (Elt Ideal) f2 (ix1 (0 : Fin 2))) f3 f4 f5 k) $$ [H3 H4 H5 H17 H18 H19 H20]
  case region =>
    intro k acc
    sl_unfold_run_names
    rw [rdp]
    exact t1_step _ _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ f3 f4 f5 k acc
  · unfold t1Inv
    isplitl [H3]
    · iexact H3
    isplitl [H4]
    · iexact H4
    isplitl [H5]
    · iexact H5
    isplitl [H17]
    · iexists _
      isplitr
      swap
      · iexact H17
      ipureintro
      exact hr17
    isplitl [H18]
    · iexists _
      isplitr
      swap
      · iexact H18
      ipureintro
      exact hr18
    isplitl [H19]
    · iexists _
      isplitr
      swap
      · iexact H19
      ipureintro
      exact hr19
    iexists _
    iexact H20
  iintro %acc HI
  unfold t1Inv
  rw [show Scf.trips (k0_t1_loop i).lb (k0_t1_loop i).ub (k0_t1_loop i).st = (i 1).val from k0_t1_trips i]
  icases HI with ⟨H3, H4, H5, ⟨%g17, %h17, H17⟩, ⟨%g18, %h18, H18⟩, ⟨%g19, %h19, H19⟩, ⟨%g20, H20⟩⟩
  have htr : (k0_t2_loop i).trips = 0 := by have := (k0_t2_abs i).2.1; omega
  sl_exec
  have hw7 : ¬ run_middle.sl.v7 c arg2 f2 = 1#1 := flag_not _ hw
  sl_exec
  sl_step
  iapply Hk
  obtain ⟨h170, h171⟩ := h17
  obtain ⟨h180, h181⟩ := h18
  obtain ⟨h190, h191⟩ := h19
  isplitl [H2 H3 H4 H5 H6 H7 H8 H9 H10 H11 H12]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexists _; isplitr; swap; · iexact H12
    ipureintro; rfl
  isplitl [H13]
  · iexists _; isplitr; swap; · iexact H13
    ipureintro
    refine funext fun j => ?_
    obtain ⟨r, y, rfl⟩ := ix2_eq j
    refine (wf_out _ _ _ _ _ _ _).trans ?_
    have hL0 : ∀ (r : Fin 1024) (x : Fin 128), run_middle.sl.v404 c i arg2 arg3 arg4 arg17 arg19 arg20 h3 f2 f3 f4 g17 g19 (ix3 (0 : Fin 1) r x) = lS (wF (View.read (Elt Ideal) arg3.view f3) (View.read (Elt Ideal) arg4.view f4) (View.read (Elt Ideal) arg2.view f2 (ix1 0)) 0 (1024 * (i 1).val + r.val)) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hL1 : ∀ (r : Fin 1024) (x : Fin 128), run_middle.sl.v410 c i arg2 arg3 arg4 arg17 arg19 arg20 h3 f2 f3 f4 g17 g19 (ix3 (0 : Fin 1) r x) = lS (wF (View.read (Elt Ideal) arg3.view f3) (View.read (Elt Ideal) arg4.view f4) (View.read (Elt Ideal) arg2.view f2 (ix1 0)) 1 (1024 * (i 1).val + r.val)) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hA0 : ∀ (r : Fin 1024) (x : Fin 256), run_middle.sl.v416 c i arg2 arg3 arg4 arg5 arg18 arg19 arg20 h3 f2 f3 f4 f5 g18 g19 (ix3 (0 : Fin 1) r x) = aS (wF (View.read (Elt Ideal) arg3.view f3) (View.read (Elt Ideal) arg4.view f4) (View.read (Elt Ideal) arg2.view f2 (ix1 0)) 0 (1024 * (i 1).val + r.val)) (View.read (Elt Ideal) arg5.view f5) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hA1 : ∀ (r : Fin 1024) (x : Fin 256), run_middle.sl.v420 c i arg2 arg3 arg4 arg5 arg18 arg19 arg20 h3 f2 f3 f4 f5 g18 g19 (ix3 (0 : Fin 1) r x) = aS (wF (View.read (Elt Ideal) arg3.view f3) (View.read (Elt Ideal) arg4.view f4) (View.read (Elt Ideal) arg2.view f2 (ix1 0)) 1 (1024 * (i 1).val + r.val)) (View.read (Elt Ideal) arg5.view f5) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hO : ∀ (r : Fin 1024) (z : Fin 256), run_middle.sl.v424 c i arg2 arg3 arg4 arg5 arg6 arg7 arg8 arg9 arg17 arg18 arg19 arg20 h3 f2 f3 f4 f5 f6 f7 f8 f9 g17 g18 g19 (ix2 r z) = rowF (View.read (Elt Ideal) arg3.view f3) (View.read (Elt Ideal) arg4.view f4) (View.read (Elt Ideal) arg5.view f5) (View.read (Elt Ideal) arg2.view f2 (ix1 0)) (lamX (View.read (Elt Ideal) arg6.view f6) (View.read (Elt Ideal) arg7.view f7) (View.read (Elt Ideal) arg8.view f8) (View.read (Elt Ideal) arg9.view f9)) (1024 * (i 1).val + r.val) z := by
      intro r z
      clear * - hL0 hL1 hA0 hA1
      (try unfold run_middle.sl.v424); (try unfold run_middle.sl.v423); (try unfold run_middle.sl.v422); (try unfold run_middle.sl.v421); (try unfold run_middle.sl.v419); (try unfold run_middle.sl.v418); (try unfold run_middle.sl.v417); (try unfold run_middle.sl.v415); (try unfold run_middle.sl.v414); (try unfold run_middle.sl.v413); (try unfold run_middle.sl.v412); (try unfold run_middle.sl.v411); (try unfold run_middle.sl.v409); (try unfold run_middle.sl.v408); (try unfold run_middle.sl.v407); (try unfold run_middle.sl.v406); (try unfold run_middle.sl.v405)
      generalize run_middle.sl.v404 c i arg2 arg3 arg4 arg17 arg19 arg20 h3 f2 f3 f4 g17 g19 = A0 at hL0 ⊢
      generalize run_middle.sl.v410 c i arg2 arg3 arg4 arg17 arg19 arg20 h3 f2 f3 f4 g17 g19 = A1 at hL1 ⊢
      generalize run_middle.sl.v416 c i arg2 arg3 arg4 arg5 arg18 arg19 arg20 h3 f2 f3 f4 f5 g18 g19 = A2 at hA0 ⊢
      generalize run_middle.sl.v420 c i arg2 arg3 arg4 arg5 arg18 arg19 arg20 h3 f2 f3 f4 f5 g18 g19 = A3 at hA1 ⊢
      sl_unfold_run_names
      pointwise [hL0, hL1, hA0, hA1, vl128, outO, lamE, lamX, rowF, rowO]
      try rfl
    clear * - hO
    (try unfold run_middle.sl.v441); (try unfold run_middle.sl.v440); (try unfold run_middle.sl.v439); (try unfold run_middle.sl.v438); (try unfold run_middle.sl.v437); (try unfold run_middle.sl.v436); (try unfold run_middle.sl.v435); (try unfold run_middle.sl.v434); (try unfold run_middle.sl.v433); (try unfold run_middle.sl.v432); (try unfold run_middle.sl.v431); (try unfold run_middle.sl.v430); (try unfold run_middle.sl.v429); (try unfold run_middle.sl.v428); (try unfold run_middle.sl.v427); (try unfold run_middle.sl.v426); (try unfold run_middle.sl.v425)
    generalize run_middle.sl.v424 c i arg2 arg3 arg4 arg5 arg6 arg7 arg8 arg9 arg17 arg18 arg19 arg20 h3 f2 f3 f4 f5 f6 f7 f8 f9 g17 g18 g19 = A at hO ⊢
    sl_unfold_run_names
    pointwise [hO, rn19, rn28, rn49, outB, rowN, normO]
    try rfl
  isplitl [H14]
  · iexists _; isplitr; swap; · iexact H14
    ipureintro
    refine funext fun j => ?_
    obtain ⟨r, y, rfl⟩ := ix2_eq' j
    refine (wf_slab _ _ _ _ _ _ _).trans ?_
    sl_unfold_run_names
    exact rd_slab _ _ _ _
  isplitl [H15]
  · iexists _; isplitr; swap; · iexact H15
    ipureintro
    refine funext fun j => ?_
    obtain ⟨r, y, rfl⟩ := ix2_eq' j
    refine (wf_slab _ _ _ _ _ _ _).trans ?_
    sl_unfold_run_names
    exact rd_slab _ _ _ _
  iexists _; iexists _; iexists _; iexists _; iexists _
  isplitr
  swap
  · isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    iexists _; isplitr; swap; · iexact H20
    ipureintro; rfl
  ipureintro
  refine ⟨⟨fun r x => ?_, fun r x => ?_⟩, ⟨fun r x => ?_, fun r x => ?_⟩, ⟨fun r k => ?_, fun r k => ?_⟩⟩
  · refine (wf128 _ _ _ _ _ _).trans ?_
    sl_unfold_run_names
    pointwise []
  · refine (wf128 _ _ _ _ _ _).trans ?_
    sl_unfold_run_names
    pointwise []
  · refine (wf256 _ _ _ _ _ _).trans ?_
    sl_unfold_run_names
    pointwise []
  · refine (wf256 _ _ _ _ _ _).trans ?_
    sl_unfold_run_names
    pointwise []
  · sl_unfold_run_names
    pointwise [k0_pay9, k0_pay10, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, sc]
    try exact Finset.sum_congr rfl fun x _ => congrArg₂ (· * ·) rfl (load8 _ _ _ 0 0 rfl _ k x _ _ (by omega) (by omega))
  · sl_unfold_run_names
    pointwise [k0_pay9, k0_pay10, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, sc]
    try exact Finset.sum_congr rfl fun x _ => congrArg₂ (· * ·) rfl (load8 _ _ _ 0 128 rfl _ k x _ _ (by omega) (by omega))

end Cert.KernelIdeal.Attn

end
-- ==== Proof.AttnLast.lean ====
module

public import proofs.«01_k».proof.Proof.Gen.KernelIdeal.Frame
public import proofs.«01_k».proof.Proof.Gen.KernelIdeal.Skeleton
public import proofs.«01_k».proof.Proof.AttnLoop1
public import proofs.«01_k».proof.Proof.AttnBlock
public import Idealize.ShloMosaic.Lib.Pipeline.Frame
public import Idealize.ShloMosaic.Lib.Tactic
public import Idealize.ShloMosaic.Lib.Exec

/-! The attention kernel at its last block of queries, in the branch with a fixed shift: it reads the scores kept by the step before. -/

@[expose] public section

set_option maxRecDepth 16384
set_option maxHeartbeats 0

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem run_last (c : Dev nD) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt Ideal .f32) (X3 : S8192x256.Idx → Elt Ideal .bf16) (X4 : S8192x256.Idx → Elt Ideal .bf16) (X5 : S8192x256.Idx → Elt Ideal .bf16) (X6 : S1x128.Idx → Elt Ideal .f32) (X7 : S1x128.Idx → Elt Ideal .f32) (X8 : S1x128.Idx → Elt Ideal .f32) (X9 : S1x128.Idx → Elt Ideal .f32) (X10 : S4x256.Idx → Elt Ideal .f32) (X11 : S64x5632.Idx → Elt Ideal .f32) (X12 : S64x5632.Idx → Elt Ideal .f32) (d16 : S2x1024x128.Idx → Elt Ideal .f32) (d17 : S2x1024x128.Idx → Elt Ideal .f32) (d18 : S2x1024x256.Idx → Elt Ideal .f32) (d19 : S2x1024x512.Idx → Elt Ideal .f32) (d20 : S2x1024x512.Idx → Elt Ideal .f32) (hv : flagOn X2) (h2 : ¬ k0_cond2 i = 1#1) (h3 : ¬ k0_cond3 i = 1#1) (h4 : k0_cond4 i = 1#1) (hr : Ready X3 X4 (i 1).val d17 d18 d19) (K : PUnit → sProp 𝕄) :
    iprop(ins c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ ((ins c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ owns (c : Thread nD τ) arg13 fullShare (outB (rowF X3 X4 X5 (X2 (ix1 (0 : Fin 2))) (lamX X6 X7 X8 X9)) X10 i) ∗ owns (c : Thread nD τ) arg14 fullShare X11 ∗ owns (c : Thread nD τ) arg15 fullShare X12 ∗ (∃ d16 d17 d18 d19 d20, ⌜True⌝ ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20)) -∗ K ⟨⟩))
      ⊢ wp frame (wpE defs₀ Variants.none (c : Thread nD τ) none) Set.univ (cc0_diffattn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_diffattn_eq_skeleton]; unfold cc0_diffattn_skel ins owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, Hk⟩
  obtain ⟨hr17, hr18, hr19⟩ := hr
  subst hf2 hf3 hf4 hf5 hf6 hf7 hf8 hf9 hf10 hf11 hf12 hf16 hf17 hf18 hf19 hf20
  sl_exec
  have hw : run_last.sl.v4 c arg2 f2 = 1#1 := hv _
  sl_exec
  sl_for (fun k _ => t1Inv c i arg3 arg4 arg5 arg17 arg18 arg19 arg20 (arg2.view.read (Elt Ideal) f2 (ix1 (0 : Fin 2))) f3 f4 f5 k) $$ [H3 H4 H5 H17 H18 H19 H20]
  case region =>
    intro k acc
    sl_unfold_run_names
    rw [rdp]
    exact t1_step _ _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ _ f3 f4 f5 k acc
  · unfold t1Inv
    isplitl [H3]
    · iexact H3
    isplitl [H4]
    · iexact H4
    isplitl [H5]
    · iexact H5
    isplitl [H17]
    · iexists _
      isplitr
      swap
      · iexact H17
      ipureintro
      exact hr17
    isplitl [H18]
    · iexists _
      isplitr
      swap
      · iexact H18
      ipureintro
      exact hr18
    isplitl [H19]
    · iexists _
      isplitr
      swap
      · iexact H19
      ipureintro
      exact hr19
    iexists _
    iexact H20
  iintro %acc HI
  unfold t1Inv
  rw [show Scf.trips (k0_t1_loop i).lb (k0_t1_loop i).ub (k0_t1_loop i).st = (i 1).val from k0_t1_trips i]
  icases HI with ⟨H3, H4, H5, ⟨%g17, %h17, H17⟩, ⟨%g18, %h18, H18⟩, ⟨%g19, %h19, H19⟩, ⟨%g20, H20⟩⟩
  have htr : (k0_t2_loop i).trips = 0 := by have := (k0_t2_abs i).2.1; omega
  sl_exec
  have hw7 : ¬ run_last.sl.v7 c arg2 f2 = 1#1 := flag_not _ hw
  sl_exec
  sl_step
  iapply Hk
  obtain ⟨h170, h171⟩ := h17
  obtain ⟨h180, h181⟩ := h18
  obtain ⟨h190, h191⟩ := h19
  isplitl [H2 H3 H4 H5 H6 H7 H8 H9 H10 H11 H12]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexists _; isplitr; swap; · iexact H12
    ipureintro; rfl
  isplitl [H13]
  · iexists _; isplitr; swap; · iexact H13
    ipureintro
    refine funext fun j => ?_
    obtain ⟨r, y, rfl⟩ := ix2_eq j
    refine (wf_out _ _ _ _ _ _ _).trans ?_
    have hL0 : ∀ (r : Fin 1024) (x : Fin 128), run_last.sl.v404 c i arg2 arg3 arg4 arg17 arg19 arg20 h4 f2 f3 f4 g17 g19 (ix3 (0 : Fin 1) r x) = lS (wF (View.read (Elt Ideal) arg3.view f3) (View.read (Elt Ideal) arg4.view f4) (View.read (Elt Ideal) arg2.view f2 (ix1 0)) 0 (1024 * (i 1).val + r.val)) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hL1 : ∀ (r : Fin 1024) (x : Fin 128), run_last.sl.v410 c i arg2 arg3 arg4 arg17 arg19 arg20 h4 f2 f3 f4 g17 g19 (ix3 (0 : Fin 1) r x) = lS (wF (View.read (Elt Ideal) arg3.view f3) (View.read (Elt Ideal) arg4.view f4) (View.read (Elt Ideal) arg2.view f2 (ix1 0)) 1 (1024 * (i 1).val + r.val)) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hA0 : ∀ (r : Fin 1024) (x : Fin 256), run_last.sl.v416 c i arg2 arg3 arg4 arg5 arg18 arg19 arg20 h4 f2 f3 f4 f5 g18 g19 (ix3 (0 : Fin 1) r x) = aS (wF (View.read (Elt Ideal) arg3.view f3) (View.read (Elt Ideal) arg4.view f4) (View.read (Elt Ideal) arg2.view f2 (ix1 0)) 0 (1024 * (i 1).val + r.val)) (View.read (Elt Ideal) arg5.view f5) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hA1 : ∀ (r : Fin 1024) (x : Fin 256), run_last.sl.v420 c i arg2 arg3 arg4 arg5 arg18 arg19 arg20 h4 f2 f3 f4 f5 g18 g19 (ix3 (0 : Fin 1) r x) = aS (wF (View.read (Elt Ideal) arg3.view f3) (View.read (Elt Ideal) arg4.view f4) (View.read (Elt Ideal) arg2.view f2 (ix1 0)) 1 (1024 * (i 1).val + r.val)) (View.read (Elt Ideal) arg5.view f5) ((1024 * (i 1).val + r.val) / 512 + 1) x := by
      intro r x
      clear * - h170 h171 h180 h181 h190 h191
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, h170, h171, h180, h181, h190, h191, hi_div, lo_div, lS, aS, lane4, sc]
        simp (disch := omega) only [quot_nat, quot_nat1, select_le, wF_d0, wF_d1, ite_mul, zero_mul, sc, Nat.mul_zero, Nat.zero_add, Nat.mul_one]
        rfl
    have hO : ∀ (r : Fin 1024) (z : Fin 256), run_last.sl.v424 c i arg2 arg3 arg4 arg5 arg6 arg7 arg8 arg9 arg17 arg18 arg19 arg20 h4 f2 f3 f4 f5 f6 f7 f8 f9 g17 g18 g19 (ix2 r z) = rowF (View.read (Elt Ideal) arg3.view f3) (View.read (Elt Ideal) arg4.view f4) (View.read (Elt Ideal) arg5.view f5) (View.read (Elt Ideal) arg2.view f2 (ix1 0)) (lamX (View.read (Elt Ideal) arg6.view f6) (View.read (Elt Ideal) arg7.view f7) (View.read (Elt Ideal) arg8.view f8) (View.read (Elt Ideal) arg9.view f9)) (1024 * (i 1).val + r.val) z := by
      intro r z
      clear * - hL0 hL1 hA0 hA1
      (try unfold run_last.sl.v424); (try unfold run_last.sl.v423); (try unfold run_last.sl.v422); (try unfold run_last.sl.v421); (try unfold run_last.sl.v419); (try unfold run_last.sl.v418); (try unfold run_last.sl.v417); (try unfold run_last.sl.v415); (try unfold run_last.sl.v414); (try unfold run_last.sl.v413); (try unfold run_last.sl.v412); (try unfold run_last.sl.v411); (try unfold run_last.sl.v409); (try unfold run_last.sl.v408); (try unfold run_last.sl.v407); (try unfold run_last.sl.v406); (try unfold run_last.sl.v405)
      generalize run_last.sl.v404 c i arg2 arg3 arg4 arg17 arg19 arg20 h4 f2 f3 f4 g17 g19 = A0 at hL0 ⊢
      generalize run_last.sl.v410 c i arg2 arg3 arg4 arg17 arg19 arg20 h4 f2 f3 f4 g17 g19 = A1 at hL1 ⊢
      generalize run_last.sl.v416 c i arg2 arg3 arg4 arg5 arg18 arg19 arg20 h4 f2 f3 f4 f5 g18 g19 = A2 at hA0 ⊢
      generalize run_last.sl.v420 c i arg2 arg3 arg4 arg5 arg18 arg19 arg20 h4 f2 f3 f4 f5 g18 g19 = A3 at hA1 ⊢
      sl_unfold_run_names
      pointwise [hL0, hL1, hA0, hA1, vl128, outO, lamE, lamX, rowF, rowO]
      try rfl
    clear * - hO
    unfold k0_pay11
    (try unfold run_last.sl.v441); (try unfold run_last.sl.v440); (try unfold run_last.sl.v439); (try unfold run_last.sl.v438); (try unfold run_last.sl.v437); (try unfold run_last.sl.v436); (try unfold run_last.sl.v435); (try unfold run_last.sl.v434); (try unfold run_last.sl.v433); (try unfold run_last.sl.v432); (try unfold run_last.sl.v431); (try unfold run_last.sl.v430); (try unfold run_last.sl.v429); (try unfold run_last.sl.v428); (try unfold run_last.sl.v427); (try unfold run_last.sl.v426); (try unfold run_last.sl.v425)
    generalize run_last.sl.v424 c i arg2 arg3 arg4 arg5 arg6 arg7 arg8 arg9 arg17 arg18 arg19 arg20 h4 f2 f3 f4 f5 f6 f7 f8 f9 g17 g18 g19 = A at hO ⊢
    sl_unfold_run_names
    pointwise [hO, rn19, rn28, rn49, outB, rowN, normO]
    try rfl
  isplitl [H14]
  · iexists _; isplitr; swap; · iexact H14
    ipureintro
    refine funext fun j => ?_
    obtain ⟨r, y, rfl⟩ := ix2_eq' j
    refine (wf_slab _ _ _ _ _ _ _).trans ?_
    sl_unfold_run_names
    exact rd_slab _ _ _ _
  isplitl [H15]
  · iexists _; isplitr; swap; · iexact H15
    ipureintro
    refine funext fun j => ?_
    obtain ⟨r, y, rfl⟩ := ix2_eq' j
    refine (wf_slab _ _ _ _ _ _ _).trans ?_
    sl_unfold_run_names
    exact rd_slab _ _ _ _
  iexists _; iexists _; iexists _; iexists _; iexists _
  isplitr
  swap
  · isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    iexists _; isplitr; swap; · iexact H20
    ipureintro; rfl
  ipureintro
  trivial

end Cert.KernelIdeal.Attn

end
-- ==== Proof.AttnLoop3.lean ====
module

public import proofs.«01_k».proof.Proof.Gen.KernelIdeal.Frame
public import proofs.«01_k».proof.Proof.Gen.KernelIdeal.Skeleton
public import proofs.«01_k».proof.Proof.AttnState
public import Idealize.ShloMosaic.Lib.Pipeline.Frame
public import Idealize.ShloMosaic.Lib.Tactic
public import Idealize.ShloMosaic.Lib.Exec

/-! One trip of the loop that takes a tile of keys below the diagonal, the running maximum rescaling. -/

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

/-- Block `i` has `2i` tiles below the diagonal. -/
theorem k0_t3_trips : ∀ i : grid0.Coords, (k0_t3_loop i).trips = 2 * (i 1).val := by decide +kernel

/-- Before trip `k` of the loop: the running maximum and the sums over the tiles before it. -/
def t3Inv (c : Dev nD) (i : grid0.Coords) (arg3 : Memref sig .tc .vmem S8192x256 .bf16) (arg4 : Memref sig .tc .vmem S8192x256 .bf16) (arg5 : Memref sig .tc .vmem S8192x256 .bf16) (arg16 : Memref sig .tc .vmem S2x1024x128 .f32) (arg17 : Memref sig .tc .vmem S2x1024x128 .f32) (arg18 : Memref sig .tc .vmem S2x1024x256 .f32) (X3 : BufTy.Contents (Elt Ideal) arg3.view.ty) (X4 : BufTy.Contents (Elt Ideal) arg4.view.ty) (X5 : BufTy.Contents (Elt Ideal) arg5.view.ty) (k : ℕ) : sProp 𝕄 :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗
    (∃ f : BufTy.Contents (Elt Ideal) arg16.view.ty, ⌜POk (arg16.view.read (Elt Ideal) f) (fun c' r _ => mS (sM (arg3.view.read (Elt Ideal) X3) (arg4.view.read (Elt Ideal) X4) c' (1024 * (i 1).val + r)) k)⌝ ∗ (arg16.view.loc (c : Thread nD τ) ↦[arg16.view.set]{fullShare} f)) ∗
    (∃ f : BufTy.Contents (Elt Ideal) arg17.view.ty, ⌜POk (arg17.view.read (Elt Ideal) f) (fun c' r x => lO (sM (arg3.view.read (Elt Ideal) X3) (arg4.view.read (Elt Ideal) X4) c' (1024 * (i 1).val + r)) k x)⌝ ∗ (arg17.view.loc (c : Thread nD τ) ↦[arg17.view.set]{fullShare} f)) ∗
    (∃ f : BufTy.Contents (Elt Ideal) arg18.view.ty, ⌜POk (arg18.view.read (Elt Ideal) f) (fun c' r y => aO (sM (arg3.view.read (Elt Ideal) X3) (arg4.view.read (Elt Ideal) X4) c' (1024 * (i 1).val + r)) (arg5.view.read (Elt Ideal) X5) k y)⌝ ∗ (arg18.view.loc (c : Thread nD τ) ↦[arg18.view.set]{fullShare} f)))

theorem t3_step (𝒱 : Variants) (c : Dev nD) (bd : Option 𝒱.V) (E : Set ℕ) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (arg1 : BitVec 32) (X3 : BufTy.Contents (Elt Ideal) arg3.view.ty) (X4 : BufTy.Contents (Elt Ideal) arg4.view.ty) (X5 : BufTy.Contents (Elt Ideal) arg5.view.ty) (k : Fin (k0_t3_loop i).trips) (acc : Unit) :
    t3Inv c i arg3 arg4 arg5 arg16 arg17 arg18 X3 X4 X5 k.val ⊢ wp frame (wpE defs₀ 𝒱 (c : Thread nD τ) bd) E
      (k0_t3_body (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg1 k acc) (fun _ => t3Inv c i arg3 arg4 arg5 arg16 arg17 arg18 X3 X4 X5 (k.val + 1)) := by
  have hk : k.val < 2 * (i 1).val := by
    have := k.isLt
    have h2 := k0_t3_trips i
    omega
  unfold t3Inv
  iintro ⟨HR3, HR4, HR5, ⟨%f16, %h16, HW16⟩, ⟨%f17, %h17, HW17⟩, ⟨%f18, %h18, HW18⟩⟩
  obtain ⟨h160, h161⟩ := h16
  obtain ⟨h170, h171⟩ := h17
  obtain ⟨h180, h181⟩ := h18
  unfold k0_t3_body
  sl_exec
  sl_step
  isplitl [HR3]
  · iexact HR3
  isplitl [HR4]
  · iexact HR4
  isplitl [HR5]
  · iexact HR5
  isplitl [HW16]
  · iexists _
    isplitr
    swap
    · iexact HW16
    ipureintro
    sl_unfold_run_names
    refine ⟨fun r x => ?_, fun r x => ?_⟩
    · pointwise [k0_pay154, k0_pay155, k0_pay156, k0_pay157, k0_pay158, k0_pay159, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, h160, h170, h180, mS, lO, aO, rowMax, lane4, sc]
      simp (disch := omega) only [sM_below, sc, Nat.mul_zero, Nat.zero_add, Nat.mul_one]

    · pointwise [k0_pay154, k0_pay155, k0_pay156, k0_pay157, k0_pay158, k0_pay159, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, h161, h171, h181, mS, lO, aO, rowMax, lane4, sc]
      simp (disch := omega) only [sM_below, sc, Nat.mul_zero, Nat.zero_add, Nat.mul_one]

  isplitl [HW17]
  · iexists _
    isplitr
    swap
    · iexact HW17
    ipureintro
    sl_unfold_run_names
    refine ⟨fun r x => ?_, fun r x => ?_⟩
    · pointwise [k0_pay154, k0_pay155, k0_pay156, k0_pay157, k0_pay158, k0_pay159, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, h160, h170, h180, mS, lO, aO, rowMax, lane4, sc]
      simp (disch := omega) only [sM_below, sc, Nat.mul_zero, Nat.zero_add, Nat.mul_one]
      rfl
    · pointwise [k0_pay154, k0_pay155, k0_pay156, k0_pay157, k0_pay158, k0_pay159, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, h161, h171, h181, mS, lO, aO, rowMax, lane4, sc]
      simp (disch := omega) only [sM_below, sc, Nat.mul_zero, Nat.zero_add, Nat.mul_one]
      rfl
  · iexists _
    isplitr
    swap
    · iexact HW18
    ipureintro
    sl_unfold_run_names
    refine ⟨fun r x => ?_, fun r x => ?_⟩
    · pointwise [k0_pay154, k0_pay155, k0_pay156, k0_pay157, k0_pay158, k0_pay159, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, h160, h170, h180, mS, lO, aO, rowMax, lane4, sc]
      simp (disch := omega) only [sM_below, sc, Nat.mul_zero, Nat.zero_add, Nat.mul_one]
      rfl
    · pointwise [k0_pay154, k0_pay155, k0_pay156, k0_pay157, k0_pay158, k0_pay159, rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, h161, h171, h181, mS, lO, aO, rowMax, lane4, sc]
      simp (disch := omega) only [sM_below, sc, Nat.mul_zero, Nat.zero_add, Nat.mul_one]
      rfl

end Cert.KernelIdeal.Attn

end
-- ==== Proof.AttnOnline.lean ====
module

public import proofs.«01_k».proof.Proof.Gen.KernelIdeal.Frame
public import proofs.«01_k».proof.Proof.Gen.KernelIdeal.Skeleton
public import proofs.«01_k».proof.Proof.AttnLoop3
public import proofs.«01_k».proof.Proof.AttnBlock
public import Idealize.ShloMosaic.Lib.Pipeline.Frame
public import Idealize.ShloMosaic.Lib.Tactic
public import Idealize.ShloMosaic.Lib.Exec

/-! One run of the attention kernel in the branch with a running maximum. -/

@[expose] public section

set_option maxRecDepth 16384
set_option maxHeartbeats 0

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem run_online (c : Dev nD) (i : grid0.Coords) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt Ideal .f32) (X3 : S8192x256.Idx → Elt Ideal .bf16) (X4 : S8192x256.Idx → Elt Ideal .bf16) (X5 : S8192x256.Idx → Elt Ideal .bf16) (X6 : S1x128.Idx → Elt Ideal .f32) (X7 : S1x128.Idx → Elt Ideal .f32) (X8 : S1x128.Idx → Elt Ideal .f32) (X9 : S1x128.Idx → Elt Ideal .f32) (X10 : S4x256.Idx → Elt Ideal .f32) (X11 : S64x5632.Idx → Elt Ideal .f32) (X12 : S64x5632.Idx → Elt Ideal .f32) (d16 : S2x1024x128.Idx → Elt Ideal .f32) (d17 : S2x1024x128.Idx → Elt Ideal .f32) (d18 : S2x1024x256.Idx → Elt Ideal .f32) (d19 : S2x1024x512.Idx → Elt Ideal .f32) (d20 : S2x1024x512.Idx → Elt Ideal .f32) (hv : flagOff X2) (K : PUnit → sProp 𝕄) :
    iprop(ins c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ ((ins c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ owns (c : Thread nD τ) arg13 fullShare (outB (rowO X3 X4 X5 (lamX X6 X7 X8 X9)) X10 i) ∗ owns (c : Thread nD τ) arg14 fullShare X11 ∗ owns (c : Thread nD τ) arg15 fullShare X12 ∗ (∃ d16 d17 d18 d19 d20, ⌜True⌝ ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20)) -∗ K ⟨⟩))
      ⊢ wp frame (wpE defs₀ Variants.none (c : Thread nD τ) none) Set.univ (cc0_diffattn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0_diffattn_eq_skeleton]; unfold cc0_diffattn_skel ins owns
  iintro ⟨⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩⟩, ⟨%d13, %f13, -, H13⟩, ⟨%d14, %f14, -, H14⟩, ⟨%d15, %f15, -, H15⟩, ⟨%f16, %hf16, H16⟩, ⟨%f17, %hf17, H17⟩, ⟨%f18, %hf18, H18⟩, ⟨%f19, %hf19, H19⟩, ⟨%f20, %hf20, H20⟩, Hk⟩
  subst hf2 hf3 hf4 hf5 hf6 hf7 hf8 hf9 hf10 hf11 hf12 hf16 hf17 hf18 hf19 hf20
  sl_exec
  have hw : ¬ run_online.sl.v4 c arg2 f2 = 1#1 := hv _
  sl_exec
  have hw7 : run_online.sl.v7 c arg2 f2 = 1#1 := flag_of_not _ hw
  sl_exec
  sl_for (fun k _ => t3Inv c i arg3 arg4 arg5 arg16 arg17 arg18 f3 f4 f5 k) $$ [H3 H4 H5 H16 H17 H18]
  case region =>
    intro k acc
    sl_unfold_run_names
    exact t3_step _ _ _ _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 _ f3 f4 f5 k acc
  · unfold t3Inv
    isplitl [H3]
    · iexact H3
    isplitl [H4]
    · iexact H4
    isplitl [H5]
    · iexact H5
    isplitl [H16]
    · iexists _
      isplitr
      swap
      · iexact H16
      ipureintro
      refine ⟨fun r x => ?_, fun r x => ?_⟩
      · refine (wf128 _ _ _ _ _ _).trans ?_
        show _ = (⊥ : EReal)
        sl_unfold_run_names
        pointwise []
        rfl
      · refine (wf128 _ _ _ _ _ _).trans ?_
        show _ = (⊥ : EReal)
        sl_unfold_run_names
        pointwise []
        rfl
    isplitl [H17]
    · iexists _
      isplitr
      swap
      · iexact H17
      ipureintro
      refine ⟨fun r x => ?_, fun r x => ?_⟩
      · refine (wf128 _ _ _ _ _ _).trans ?_
        show _ = (0 : EReal)
        sl_unfold_run_names
        pointwise [k0_pay151]
        skip
      · refine (wf128 _ _ _ _ _ _).trans ?_
        show _ = (0 : EReal)
        sl_unfold_run_names
        pointwise [k0_pay151]
        skip
    iexists _
    isplitr
    swap
    · iexact H18
    ipureintro
    refine ⟨fun r x => ?_, fun r x => ?_⟩
    · refine (wf256 _ _ _ _ _ _).trans ?_
      show _ = (0 : EReal)
      sl_unfold_run_names
      pointwise [k0_pay152]
      skip
    · refine (wf256 _ _ _ _ _ _).trans ?_
      show _ = (0 : EReal)
      sl_unfold_run_names
      pointwise [k0_pay152]
      skip
  iintro %acc HI
  unfold t3Inv
  rw [show Scf.trips (k0_t3_loop i).lb (k0_t3_loop i).ub (k0_t3_loop i).st = 2 * (i 1).val from k0_t3_trips i]
  icases HI with ⟨H3, H4, H5, ⟨%g16, %h16, H16⟩, ⟨%g17, %h17, H17⟩, ⟨%g18, %h18, H18⟩⟩
  have htr : (k0_t4_loop i).trips = 0 := by have := (k0_t4_abs i).2.1; omega
  sl_exec
  sl_step
  iapply Hk
  obtain ⟨h160, h161⟩ := h16
  obtain ⟨h170, h171⟩ := h17
  obtain ⟨h180, h181⟩ := h18
  isplitl [H2 H3 H4 H5 H6 H7 H8 H9 H10 H11 H12]
  · isplitl [H2]
    · iexists _; isplitr; swap; · iexact H2
      ipureintro; rfl
    isplitl [H3]
    · iexists _; isplitr; swap; · iexact H3
      ipureintro; rfl
    isplitl [H4]
    · iexists _; isplitr; swap; · iexact H4
      ipureintro; rfl
    isplitl [H5]
    · iexists _; isplitr; swap; · iexact H5
      ipureintro; rfl
    isplitl [H6]
    · iexists _; isplitr; swap; · iexact H6
      ipureintro; rfl
    isplitl [H7]
    · iexists _; isplitr; swap; · iexact H7
      ipureintro; rfl
    isplitl [H8]
    · iexists _; isplitr; swap; · iexact H8
      ipureintro; rfl
    isplitl [H9]
    · iexists _; isplitr; swap; · iexact H9
      ipureintro; rfl
    isplitl [H10]
    · iexists _; isplitr; swap; · iexact H10
      ipureintro; rfl
    isplitl [H11]
    · iexists _; isplitr; swap; · iexact H11
      ipureintro; rfl
    iexists _; isplitr; swap; · iexact H12
    ipureintro; rfl
  isplitl [H13]
  · iexists _; isplitr; swap; · iexact H13
    ipureintro
    refine funext fun j => ?_
    obtain ⟨r, y, rfl⟩ := ix2_eq j
    refine (wf_out _ _ _ _ _ _ _).trans ?_
    have hL0 : ∀ (r : Fin 1024) (x : Fin 128), run_online.sl.v474 c i arg3 arg4 arg16 arg17 f3 f4 g16 g17 (ix3 (0 : Fin 1) r x) = lO (sM (View.read (Elt Ideal) arg3.view f3) (View.read (Elt Ideal) arg4.view f4) 0 (1024 * (i 1).val + r.val)) ((1024 * (i 1).val + r.val) / 512 + 1) x := by
      intro r x
      clear * - h160 h161 h170 h171 h180 h181
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, fs0, fs1, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, h160, h161, h170, h171, h180, h181, hi_div, lo_div, lO, aO, mS, rowMax, lane4, mask_bot]
        simp (disch := omega) only [quot_nat, quot_nat1, select_le, sM_d0, sM_d1, fs0, fs1, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, fs0, fs1, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, h160, h161, h170, h171, h180, h181, hi_div, lo_div, lO, aO, mS, rowMax, lane4, mask_bot]
        simp (disch := omega) only [quot_nat, quot_nat1, select_le, sM_d0, sM_d1, fs0, fs1, Nat.mul_zero, Nat.zero_add, Nat.mul_one]
        rfl
    have hL1 : ∀ (r : Fin 1024) (x : Fin 128), run_online.sl.v480 c i arg3 arg4 arg16 arg17 f3 f4 g16 g17 (ix3 (0 : Fin 1) r x) = lO (sM (View.read (Elt Ideal) arg3.view f3) (View.read (Elt Ideal) arg4.view f4) 1 (1024 * (i 1).val + r.val)) ((1024 * (i 1).val + r.val) / 512 + 1) x := by
      intro r x
      clear * - h160 h161 h170 h171 h180 h181
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, fs0, fs1, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, h160, h161, h170, h171, h180, h181, hi_div, lo_div, lO, aO, mS, rowMax, lane4, mask_bot]
        simp (disch := omega) only [quot_nat, quot_nat1, select_le, sM_d0, sM_d1, fs0, fs1, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, fs0, fs1, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, h160, h161, h170, h171, h180, h181, hi_div, lo_div, lO, aO, mS, rowMax, lane4, mask_bot]
        simp (disch := omega) only [quot_nat, quot_nat1, select_le, sM_d0, sM_d1, fs0, fs1, Nat.mul_zero, Nat.zero_add, Nat.mul_one]
        rfl
    have hA0 : ∀ (r : Fin 1024) (x : Fin 256), run_online.sl.v486 c i arg3 arg4 arg5 arg16 arg18 f3 f4 f5 g16 g18 (ix3 (0 : Fin 1) r x) = aO (sM (View.read (Elt Ideal) arg3.view f3) (View.read (Elt Ideal) arg4.view f4) 0 (1024 * (i 1).val + r.val)) (View.read (Elt Ideal) arg5.view f5) ((1024 * (i 1).val + r.val) / 512 + 1) x := by
      intro r x
      clear * - h160 h161 h170 h171 h180 h181
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, fs0, fs1, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, h160, h161, h170, h171, h180, h181, hi_div, lo_div, lO, aO, mS, rowMax, lane4, mask_bot]
        simp (disch := omega) only [quot_nat, quot_nat1, select_le, sM_d0, sM_d1, fs0, fs1, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, fs0, fs1, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, h160, h161, h170, h171, h180, h181, hi_div, lo_div, lO, aO, mS, rowMax, lane4, mask_bot]
        simp (disch := omega) only [quot_nat, quot_nat1, select_le, sM_d0, sM_d1, fs0, fs1, Nat.mul_zero, Nat.zero_add, Nat.mul_one]
        rfl
    have hA1 : ∀ (r : Fin 1024) (x : Fin 256), run_online.sl.v490 c i arg3 arg4 arg5 arg16 arg18 f3 f4 f5 g16 g18 (ix3 (0 : Fin 1) r x) = aO (sM (View.read (Elt Ideal) arg3.view f3) (View.read (Elt Ideal) arg4.view f4) 1 (1024 * (i 1).val + r.val)) (View.read (Elt Ideal) arg5.view f5) ((1024 * (i 1).val + r.val) / 512 + 1) x := by
      intro r x
      clear * - h160 h161 h170 h171 h180 h181
      sl_unfold_run_names
      obtain ⟨r, rfl⟩ | ⟨r, rfl⟩ := half_cases r
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, fs0, fs1, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, h160, h161, h170, h171, h180, h181, hi_div, lo_div, lO, aO, mS, rowMax, lane4, mask_bot]
        simp (disch := omega) only [quot_nat, quot_nat1, select_le, sM_d0, sM_d1, fs0, fs1, Nat.mul_zero, Nat.zero_add, Nat.mul_one]
        rfl
      · pointwise [rd2, rd4, rd30, rd32, rd40, rd42, rd14, rd16, rd23, rd25, rd45, rd47, rd20, rd21, rd3_1, rd3_2, rd5_1, rd5_2, rd31, rd33, rd41, rd43, rd15, rd17, rd24, rd26, rd46, rd48, rdv1, rdv6, rdv29, rdv13, rdv22, rdv39, rdv18, rdv27, rdv44, rd00q, rd01q, rd00k, rd01k, rp128_0_full, rp128_0_low, rp128_1_full, rp128_1_low, rp256_0_full, rp256_0_low, rp256_1_full, rp256_1_low, rp512_0_full, rp512_0_low, rp512_1_full, rp512_1_low, wh128_0_full, wm128_0_full, wh128_0_low, wm128_0_low, wu128_0_low, wh128_1_full, wm128_1_full, wh128_1_low, wm128_1_low, wu128_1_low, wf128, wh256_0_full, wm256_0_full, wh256_0_low, wm256_0_low, wu256_0_low, wh256_1_full, wm256_1_full, wh256_1_low, wm256_1_low, wu256_1_low, wf256, wh512_0_full, wm512_0_full, wh512_0_low, wm512_0_low, wu512_0_low, wh512_1_full, wm512_1_full, wh512_1_low, wm512_1_low, wu512_1_low, wf512, rn19, rn28, rn49, readCov_eq, read_nil, rdp, fs0, fs1, k0_pay152, k0_pay153, k0_pay154, k0_pay155, k0_pay156, k0_pay157, k0_pay158, k0_pay159, k0_pay160, k0_pay161, k0_pay162, k0_pay163, k0_pay164, k0_pay165, k0_pay166, k0_pay167, k0_pay168, k0_pay169, k0_pay170, k0_pay171, k0_pay172, k0_pay173, k0_pay174, k0_pay175, k0_pay176, k0_pay177, k0_pay178, k0_pay179, k0_pay180, k0_pay181, k0_pay182, k0_pay183, k0_pay184, k0_pay185, k0_pay186, k0_pay187, k0_pay188, k0_pay189, k0_pay190, k0_pay191, k0_pay192, k0_pay193, k0_pay194, k0_pay195, k0_pay196, k0_pay197, k0_pay198, k0_pay199, k0_pay200, k0_pay201, k0_pay202, k0_pay203, k0_pay204, k0_pay205, k0_pay206, k0_pay207, k0_pay208, h160, h161, h170, h171, h180, h181, hi_div, lo_div, lO, aO, mS, rowMax, lane4, mask_bot]
        simp (disch := omega) only [quot_nat, quot_nat1, select_le, sM_d0, sM_d1, fs0, fs1, Nat.mul_zero, Nat.zero_add, Nat.mul_one]
        rfl
    clear * - hL0 hL1 hA0 hA1
    unfold k0_pay12
    (try unfold run_online.sl.v511); (try unfold run_online.sl.v510); (try unfold run_online.sl.v509); (try unfold run_online.sl.v508); (try unfold run_online.sl.v507); (try unfold run_online.sl.v506); (try unfold run_online.sl.v505); (try unfold run_online.sl.v504); (try unfold run_online.sl.v503); (try unfold run_online.sl.v502); (try unfold run_online.sl.v501); (try unfold run_online.sl.v500); (try unfold run_online.sl.v499); (try unfold run_online.sl.v498); (try unfold run_online.sl.v497); (try unfold run_online.sl.v496); (try unfold run_online.sl.v495); (try unfold run_online.sl.v494); (try unfold run_online.sl.v493); (try unfold run_online.sl.v492); (try unfold run_online.sl.v491); (try unfold run_online.sl.v489); (try unfold run_online.sl.v488); (try unfold run_online.sl.v487); (try unfold run_online.sl.v485); (try unfold run_online.sl.v484); (try unfold run_online.sl.v483); (try unfold run_online.sl.v482); (try unfold run_online.sl.v481); (try unfold run_online.sl.v479); (try unfold run_online.sl.v478); (try unfold run_online.sl.v477); (try unfold run_online.sl.v476); (try unfold run_online.sl.v475)
    generalize run_online.sl.v474 c i arg3 arg4 arg16 arg17 f3 f4 g16 g17 = A0 at hL0 ⊢
    generalize run_online.sl.v480 c i arg3 arg4 arg16 arg17 f3 f4 g16 g17 = A1 at hL1 ⊢
    generalize run_online.sl.v486 c i arg3 arg4 arg5 arg16 arg18 f3 f4 f5 g16 g18 = A2 at hA0 ⊢
    generalize run_online.sl.v490 c i arg3 arg4 arg5 arg16 arg18 f3 f4 f5 g16 g18 = A3 at hA1 ⊢
    sl_unfold_run_names
    pointwise [hL0, hL1, hA0, hA1, vl128, outO, lamE, lamX, rowO, rn19, rn28, rn49, outB, rowN, normO]
    try rfl
  isplitl [H14]
  · iexists _; isplitr; swap; · iexact H14
    ipureintro
    refine funext fun j => ?_
    obtain ⟨r, y, rfl⟩ := ix2_eq' j
    refine (wf_slab _ _ _ _ _ _ _).trans ?_
    sl_unfold_run_names
    exact rd_slab _ _ _ _
  isplitl [H15]
  · iexists _; isplitr; swap; · iexact H15
    ipureintro
    refine funext fun j => ?_
    obtain ⟨r, y, rfl⟩ := ix2_eq' j
    refine (wf_slab _ _ _ _ _ _ _).trans ?_
    sl_unfold_run_names
    exact rd_slab _ _ _ _
  iexists _; iexists _; iexists _; iexists _; iexists _
  isplitr
  swap
  · isplitl [H16]
    · iexists _; isplitr; swap; · iexact H16
      ipureintro; rfl
    isplitl [H17]
    · iexists _; isplitr; swap; · iexact H17
      ipureintro; rfl
    isplitl [H18]
    · iexists _; isplitr; swap; · iexact H18
      ipureintro; rfl
    isplitl [H19]
    · iexists _; isplitr; swap; · iexact H19
      ipureintro; rfl
    iexists _; isplitr; swap; · iexact H20
    ipureintro; rfl
  ipureintro
  trivial

end Cert.KernelIdeal.Attn

end
-- ==== Proof.AttnRun.lean ====
module

public import proofs.«01_k».proof.Proof.Gen.KernelIdeal.Frame
public import proofs.«01_k».proof.Proof.Gen.KernelIdeal.Skeleton
public import proofs.«01_k».proof.Proof.AttnFirst
public import proofs.«01_k».proof.Proof.AttnMid
public import proofs.«01_k».proof.Proof.AttnLast
public import proofs.«01_k».proof.Proof.AttnOnline
public import Idealize.ShloMosaic.Lib.Pipeline.Frame
public import Idealize.ShloMosaic.Lib.Tactic
public import Idealize.ShloMosaic.Lib.Exec

/-! The attention kernel at any point of its grid, and its run: each result array as the blocks the points write back. -/

@[expose] public section

set_option maxRecDepth 16384
set_option maxHeartbeats 4000000

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

theorem flag_cases (X : S2.Idx → Elt Ideal .f32) : flagOn X ∨ flagOff X := by
  have h : ∀ x y : S1.Idx, x = y := by decide
  rcases Classical.em (flagOn X) with h1 | h1
  · exact .inl h1
  · refine .inr fun x hx => h1 fun y => ?_
    rw [h y x]; exact hx

theorem flag_excl (X : S2.Idx → Elt Ideal .f32) (h : flagOff X) : ¬ flagOn X := fun h' => h (ix1 (0 : Fin 1)) (h' (ix1 (0 : Fin 1)))

open Classical in
/-- Row `R` of the heads' difference as the body computes it, in the form the second parameter selects. -/
def rowA (P : S2.Idx → EReal) (Q K V : S8192x256.Idx → EReal) (lam : EReal) (R : ℕ) (y : Fin 256) : EReal :=
  if flagOn P then rowF Q K V (P (ix1 (0 : Fin 2))) lam R y else rowO Q K V lam R y

theorem rowA_on (P : S2.Idx → EReal) (Q K V : S8192x256.Idx → EReal) (lam : EReal) (h : flagOn P) :
    rowA P Q K V lam = rowF Q K V (P (ix1 (0 : Fin 2))) lam := funext fun R => funext fun y => if_pos h
theorem rowA_off (P : S2.Idx → EReal) (Q K V : S8192x256.Idx → EReal) (lam : EReal) (h : flagOff P) :
    rowA P Q K V lam = rowO Q K V lam := funext fun R => funext fun y => if_neg (flag_excl P h)

/-- The grid's points are of three kinds, by the query block: the first, a middle one, the last. -/
theorem point_cases : ∀ t : Fin cfg0.N,
    (k0_cond2 (grid0.coords t) = 1#1 ∧ k0_cond3 (grid0.coords t) = 1#1 ∧ ¬ k0_cond4 (grid0.coords t) = 1#1 ∧ (grid0.coords t 1).val = 0)
    ∨ (¬ k0_cond2 (grid0.coords t) = 1#1 ∧ k0_cond3 (grid0.coords t) = 1#1 ∧ ¬ k0_cond4 (grid0.coords t) = 1#1 ∧ (grid0.coords t 1).val ≠ 0)
    ∨ (¬ k0_cond2 (grid0.coords t) = 1#1 ∧ ¬ k0_cond3 (grid0.coords t) = 1#1 ∧ k0_cond4 (grid0.coords t) = 1#1 ∧ (grid0.coords t 1).val ≠ 0 ∧ (grid0.coords t 1).val = 7) :=
  (by decide +kernel : ∀ t : Fin grid0.N,
    (k0_cond2 (grid0.coords t) = 1#1 ∧ k0_cond3 (grid0.coords t) = 1#1 ∧ ¬ k0_cond4 (grid0.coords t) = 1#1 ∧ (grid0.coords t 1).val = 0)
    ∨ (¬ k0_cond2 (grid0.coords t) = 1#1 ∧ k0_cond3 (grid0.coords t) = 1#1 ∧ ¬ k0_cond4 (grid0.coords t) = 1#1 ∧ (grid0.coords t 1).val ≠ 0)
    ∨ (¬ k0_cond2 (grid0.coords t) = 1#1 ∧ ¬ k0_cond3 (grid0.coords t) = 1#1 ∧ k0_cond4 (grid0.coords t) = 1#1 ∧ (grid0.coords t 1).val ≠ 0 ∧ (grid0.coords t 1).val = 7))

/-- The body at any point: one of the four runs. -/
theorem run_any (c : Dev nD) (i : grid0.Coords)
    (hi : (k0_cond2 i = 1#1 ∧ k0_cond3 i = 1#1 ∧ ¬ k0_cond4 i = 1#1 ∧ (i 1).val = 0)
      ∨ (¬ k0_cond2 i = 1#1 ∧ k0_cond3 i = 1#1 ∧ ¬ k0_cond4 i = 1#1 ∧ (i 1).val ≠ 0)
      ∨ (¬ k0_cond2 i = 1#1 ∧ ¬ k0_cond3 i = 1#1 ∧ k0_cond4 i = 1#1 ∧ (i 1).val ≠ 0 ∧ (i 1).val = 7)) (arg2 : Memref sig .tc .smem S2 .f32) (harg2 : arg2.IsWhole) (arg3 : Memref sig .tc .vmem S8192x256 .bf16) (harg3 : arg3.IsWhole) (arg4 : Memref sig .tc .vmem S8192x256 .bf16) (harg4 : arg4.IsWhole) (arg5 : Memref sig .tc .vmem S8192x256 .bf16) (harg5 : arg5.IsWhole) (arg6 : Memref sig .tc .vmem S1x128 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128 .f32) (harg9 : arg9.IsWhole) (arg10 : Memref sig .tc .vmem S4x256 .f32) (harg10 : arg10.IsWhole) (arg11 : Memref sig .tc .vmem S64x5632 .f32) (harg11 : arg11.IsWhole) (arg12 : Memref sig .tc .vmem S64x5632 .f32) (harg12 : arg12.IsWhole) (arg13 : Memref sig .tc .vmem S1024x256 .bf16) (harg13 : arg13.IsWhole) (arg14 : Memref sig .tc .vmem S64x5632 .bf16) (harg14 : arg14.IsWhole) (arg15 : Memref sig .tc .vmem S64x5632 .bf16) (harg15 : arg15.IsWhole) (arg16 : Memref sig .tc .vmem S2x1024x128 .f32) (harg16 : arg16.IsWhole) (arg17 : Memref sig .tc .vmem S2x1024x128 .f32) (harg17 : arg17.IsWhole) (arg18 : Memref sig .tc .vmem S2x1024x256 .f32) (harg18 : arg18.IsWhole) (arg19 : Memref sig .tc .vmem S2x1024x512 .f32) (harg19 : arg19.IsWhole) (arg20 : Memref sig .tc .vmem S2x1024x512 .f32) (harg20 : arg20.IsWhole) (X2 : S2.Idx → Elt Ideal .f32) (X3 : S8192x256.Idx → Elt Ideal .bf16) (X4 : S8192x256.Idx → Elt Ideal .bf16) (X5 : S8192x256.Idx → Elt Ideal .bf16) (X6 : S1x128.Idx → Elt Ideal .f32) (X7 : S1x128.Idx → Elt Ideal .f32) (X8 : S1x128.Idx → Elt Ideal .f32) (X9 : S1x128.Idx → Elt Ideal .f32) (X10 : S4x256.Idx → Elt Ideal .f32) (X11 : S64x5632.Idx → Elt Ideal .f32) (X12 : S64x5632.Idx → Elt Ideal .f32) (d16 : S2x1024x128.Idx → Elt Ideal .f32) (d17 : S2x1024x128.Idx → Elt Ideal .f32) (d18 : S2x1024x256.Idx → Elt Ideal .f32) (d19 : S2x1024x512.Idx → Elt Ideal .f32) (d20 : S2x1024x512.Idx → Elt Ideal .f32)
    (hr : flagOn X2 → (i 1).val ≠ 0 → Ready X3 X4 (i 1).val d17 d18 d19) (K : PUnit → sProp 𝕄) :
    iprop(ins c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ (∃ d, owns (c : Thread nD τ) arg13 fullShare d) ∗ (∃ d, owns (c : Thread nD τ) arg14 fullShare d) ∗ (∃ d, owns (c : Thread nD τ) arg15 fullShare d) ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20 ∗ ((ins c arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 ∗ owns (c : Thread nD τ) arg13 fullShare (outB (rowA X2 X3 X4 X5 (lamX X6 X7 X8 X9)) X10 i) ∗ owns (c : Thread nD τ) arg14 fullShare X11 ∗ owns (c : Thread nD τ) arg15 fullShare X12 ∗ (∃ d16 d17 d18 d19 d20, ⌜flagOn X2 → (i 1).val ≠ 7 → Ready X3 X4 ((i 1).val + 1) d17 d18 d19⌝ ∗ owns (c : Thread nD τ) arg16 fullShare d16 ∗ owns (c : Thread nD τ) arg17 fullShare d17 ∗ owns (c : Thread nD τ) arg18 fullShare d18 ∗ owns (c : Thread nD τ) arg19 fullShare d19 ∗ owns (c : Thread nD τ) arg20 fullShare d20)) -∗ K ⟨⟩))
      ⊢ wp frame (wpE defs₀ Variants.none (c : Thread nD τ) none) Set.univ (cc0_diffattn (F := Ideal) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  iintro ⟨HI, H13, H14, H15, H16, H17, H18, H19, H20, Hk⟩
  rcases flag_cases X2 with hv | hv
  · rcases hi with ⟨h2, h3, h4, h0⟩ | ⟨h2, h3, h4, h0⟩ | ⟨h2, h3, h4, h0, h7⟩
    · skip
      iapply (run_first c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 d16 d17 d18 d19 d20 hv h2 h0 h3 h4 K)
      isplitl [HI]; · iexact HI
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iintro ⟨HI, H13, H14, H15, %e16, %e17, %e18, %e19, %e20, %hp, S16, S17, S18, S19, S20⟩
      iapply Hk
      isplitl [HI]; · iexact HI
      isplitl [H13]
      · rw [rowA_on _ _ _ _ _ hv]; iexact H13
      isplitl [H14]; · iexact H14
      isplitl [H15]; · iexact H15
      iexists e16; iexists e17; iexists e18; iexists e19; iexists e20
      isplitr
      · ipureintro; exact fun _ _ => hp
      isplitl [S16]; · iexact S16
      isplitl [S17]; · iexact S17
      isplitl [S18]; · iexact S18
      isplitl [S19]; · iexact S19
      iexact S20

    · skip
      iapply (run_middle c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 d16 d17 d18 d19 d20 hv h2 h3 h4 (hr hv h0) K)
      isplitl [HI]; · iexact HI
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iintro ⟨HI, H13, H14, H15, %e16, %e17, %e18, %e19, %e20, %hp, S16, S17, S18, S19, S20⟩
      iapply Hk
      isplitl [HI]; · iexact HI
      isplitl [H13]
      · rw [rowA_on _ _ _ _ _ hv]; iexact H13
      isplitl [H14]; · iexact H14
      isplitl [H15]; · iexact H15
      iexists e16; iexists e17; iexists e18; iexists e19; iexists e20
      isplitr
      · ipureintro; exact fun _ _ => hp
      isplitl [S16]; · iexact S16
      isplitl [S17]; · iexact S17
      isplitl [S18]; · iexact S18
      isplitl [S19]; · iexact S19
      iexact S20

    · skip
      iapply (run_last c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 d16 d17 d18 d19 d20 hv h2 h3 h4 (hr hv h0) K)
      isplitl [HI]; · iexact HI
      isplitl [H13]; · iexact H13
      isplitl [H14]; · iexact H14
      isplitl [H15]; · iexact H15
      isplitl [H16]; · iexact H16
      isplitl [H17]; · iexact H17
      isplitl [H18]; · iexact H18
      isplitl [H19]; · iexact H19
      isplitl [H20]; · iexact H20
      iintro ⟨HI, H13, H14, H15, %e16, %e17, %e18, %e19, %e20, %hp, S16, S17, S18, S19, S20⟩
      iapply Hk
      isplitl [HI]; · iexact HI
      isplitl [H13]
      · rw [rowA_on _ _ _ _ _ hv]; iexact H13
      isplitl [H14]; · iexact H14
      isplitl [H15]; · iexact H15
      iexists e16; iexists e17; iexists e18; iexists e19; iexists e20
      isplitr
      · ipureintro; exact fun _ h => absurd h7 h
      isplitl [S16]; · iexact S16
      isplitl [S17]; · iexact S17
      isplitl [S18]; · iexact S18
      isplitl [S19]; · iexact S19
      iexact S20

  · skip
    iapply (run_online c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 X2 X3 X4 X5 X6 X7 X8 X9 X10 X11 X12 d16 d17 d18 d19 d20 hv K)
    isplitl [HI]; · iexact HI
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    iintro ⟨HI, H13, H14, H15, %e16, %e17, %e18, %e19, %e20, %hp, S16, S17, S18, S19, S20⟩
    iapply Hk
    isplitl [HI]; · iexact HI
    isplitl [H13]
    · rw [rowA_off _ _ _ _ _ hv]; iexact H13
    isplitl [H14]; · iexact H14
    isplitl [H15]; · iexact H15
    iexists e16; iexists e17; iexists e18; iexists e19; iexists e20
    isplitr
    · ipureintro; exact fun h => absurd h (flag_excl _ hv)
    isplitl [S16]; · iexact S16
    isplitl [S17]; · iexact S17
    isplitl [S18]; · iexact S18
    isplitl [S19]; · iexact S19
    iexact S20

variable (m : (ℓ : Loc nD τ sig) → Buf (Elt Ideal) ℓ) (ρ : Dev nD → PrngReg)

/-- What the scratch holds on entry to point `n`, where the shift is known beforehand and the block is not a head pair's first. -/
def Rdy (c : Dev nD) (n : ℕ) (d17 : S2x1024x128.Idx → EReal) (d18 : S2x1024x256.Idx → EReal) (d19 : S2x1024x512.Idx → EReal) : Prop :=
  ∀ h : n < cfg0.N, flagOn (iblk m c 0 ⟨n, h⟩) → (grid0.coords ⟨n, h⟩ 1).val ≠ 0 →
    Ready (iblk m c 1 ⟨n, h⟩) (iblk m c 2 ⟨n, h⟩) (grid0.coords ⟨n, h⟩ 1).val d17 d18 d19

/-- The scratch between two points. -/
def Scr (c : Dev nD) (n : ℕ) : sProp 𝕄 :=
  iprop((∃ d16 d17 d18 d19 d20, ⌜Rdy m c n d17 d18 d19⌝ ∗ owns (c : Thread nD τ) (Memref.whole cc0_scratch0) fullShare d16 ∗ owns (c : Thread nD τ) (Memref.whole cc0_scratch1) fullShare d17 ∗ owns (c : Thread nD τ) (Memref.whole cc0_scratch2) fullShare d18 ∗ owns (c : Thread nD τ) (Memref.whole cc0_scratch3) fullShare d19 ∗ owns (c : Thread nD τ) (Memref.whole cc0_scratch4) fullShare d20) ∗ ∃ r, prngReg c r)

/-- The proof data: every input window's block stays in place, the results' windows get what the body leaves. -/
def dats (_ : Fin 1) (c : Dev nD) : Dat τ (Elt Ideal) Unit ℕ (UR sig nD τ) ℕ cfg0 c where
  A w := V m c (Pipeline.arrRef spec0 w)
  after w t := match w with
    | 0 => iblk m c 0 t | 1 => iblk m c 1 t | 2 => iblk m c 2 t | 3 => iblk m c 3 t | 4 => iblk m c 4 t
    | 5 => iblk m c 5 t | 6 => iblk m c 6 t | 7 => iblk m c 7 t | 8 => iblk m c 8 t | 9 => iblk m c 9 t
    | 10 => iblk m c 10 t
    | 11 => outB (rowA (iblk m c 0 t) (iblk m c 1 t) (iblk m c 2 t) (iblk m c 3 t) (lamX (iblk m c 4 t) (iblk m c 5 t) (iblk m c 6 t) (iblk m c 7 t))) (iblk m c 8 t) (grid0.coords t)
    | 12 => iblk m c 9 t
    | 13 => iblk m c 10 t
  Φ t := Scr m c t.val
  q w := Pipeline.shareOf spec0 w
  owed _ := 0

theorem A_eq (c : Dev nD) (w : Fin cfg0.W) : (dats m 0 c).A w = V m c (Pipeline.arrRef spec0 w) := by dsimp only [dats]

/-- The block indices of the windows, at every point. -/
theorem index_closed : ∀ t : Fin cfg0.N,
    (grid0.coords t 0).val = t.val / 8 ∧ (grid0.coords t 1).val = t.val % 8
    ∧ win0_0.index t (0 : Fin 1) = 0
    ∧ win0_1.index t (0 : Fin 2) = 0 ∧ win0_1.index t (1 : Fin 2) = 12 + t.val / 8
    ∧ win0_2.index t (0 : Fin 2) = 0 ∧ win0_2.index t (1 : Fin 2) = 16 + t.val / 8
    ∧ win0_3.index t (0 : Fin 2) = 0 ∧ win0_3.index t (1 : Fin 2) = 20 + t.val / 8
    ∧ win0_8.index t (0 : Fin 2) = 0 ∧ win0_8.index t (1 : Fin 2) = 0
    ∧ win0_11.index t (0 : Fin 2) = t.val % 8 ∧ win0_11.index t (1 : Fin 2) = t.val / 8 :=
  (by decide +kernel : ∀ t : Fin grid0.N, _)

/-- The projected inputs, as launched. -/
abbrev proj (c : Dev nD) : S8192x6144.Idx → EReal := m ((c : Thread nD τ).loc main_arg0)

theorem point_lt (t : Fin cfg0.N) : t.val < 32 := t.isLt

theorem q_block (c : Dev nD) (t : Fin cfg0.N) (r : Fin 8192) (e : Fin 256) :
    iblk m c 1 t (ix2 r e) = proj m c (ix2 r ⟨256 * (12 + t.val / 8) + e.val, by have := point_lt t; omega⟩) := by
  obtain ⟨-, -, -, h0, h1, -⟩ := index_closed t
  refine Eq.trans ?_ (congrFun (V_main_arg0 m c) _)
  show V m c (Pipeline.arrRef spec0 1) (((cfg0.win 1).blk t).view.emb (ix2 r e)) = _
  refine congrArg (V m c main_arg0) (funext fun d => Fin.ext ?_)
  match d with
  | ⟨0, _⟩ => show win0_1.index t (0 : Fin 2) * 8192 + 1 * r.val = r.val; omega
  | ⟨1, _⟩ => show win0_1.index t (1 : Fin 2) * 256 + 1 * e.val = 256 * (12 + t.val / 8) + e.val; omega
theorem k_block (c : Dev nD) (t : Fin cfg0.N) (r : Fin 8192) (e : Fin 256) :
    iblk m c 2 t (ix2 r e) = proj m c (ix2 r ⟨256 * (16 + t.val / 8) + e.val, by have := point_lt t; omega⟩) := by
  obtain ⟨-, -, -, -, -, h0, h1, -⟩ := index_closed t
  refine Eq.trans ?_ (congrFun (V_main_arg0 m c) _)
  show V m c (Pipeline.arrRef spec0 2) (((cfg0.win 2).blk t).view.emb (ix2 r e)) = _
  refine congrArg (V m c main_arg0) (funext fun d => Fin.ext ?_)
  match d with
  | ⟨0, _⟩ => show win0_2.index t (0 : Fin 2) * 8192 + 1 * r.val = r.val; omega
  | ⟨1, _⟩ => show win0_2.index t (1 : Fin 2) * 256 + 1 * e.val = 256 * (16 + t.val / 8) + e.val; omega
theorem v_block (c : Dev nD) (t : Fin cfg0.N) (r : Fin 8192) (e : Fin 256) :
    iblk m c 3 t (ix2 r e) = proj m c (ix2 r ⟨256 * (20 + t.val / 8) + e.val, by have := point_lt t; omega⟩) := by
  obtain ⟨-, -, -, -, -, -, -, h0, h1, -⟩ := index_closed t
  refine Eq.trans ?_ (congrFun (V_main_arg0 m c) _)
  show V m c (Pipeline.arrRef spec0 3) (((cfg0.win 3).blk t).view.emb (ix2 r e)) = _
  refine congrArg (V m c main_arg0) (funext fun d => Fin.ext ?_)
  match d with
  | ⟨0, _⟩ => show win0_3.index t (0 : Fin 2) * 8192 + 1 * r.val = r.val; omega
  | ⟨1, _⟩ => show win0_3.index t (1 : Fin 2) * 256 + 1 * e.val = 256 * (20 + t.val / 8) + e.val; omega
theorem p_block (c : Dev nD) (t : Fin cfg0.N) : iblk m c 0 t = V m c main_v15 := by
  obtain ⟨-, -, h0, -⟩ := index_closed t
  refine funext fun j => ?_
  show V m c (Pipeline.arrRef spec0 0) (((cfg0.win 0).blk t).view.emb j) = _
  refine congrArg (V m c main_v15) (funext fun d => Fin.ext ?_)
  match d with
  | ⟨0, _⟩ => show win0_0.index t (0 : Fin 1) * 2 + 1 * (j 0).val = (j 0).val; omega

theorem ix2_eqq (j : S8192x256.Idx) : j = ix2 (j 0) (j 1) := eq_ix2 j

theorem q_same (c : Dev nD) (t t' : Fin cfg0.N) (h : t.val / 8 = t'.val / 8) : (iblk m c 1 t : S8192x256.Idx → EReal) = iblk m c 1 t' :=
  funext fun j => by rw [ix2_eqq j]; refine (q_block m c t _ _).trans (Eq.trans ?_ (q_block m c t' _ _).symm); simp only [h]
theorem k_same (c : Dev nD) (t t' : Fin cfg0.N) (h : t.val / 8 = t'.val / 8) : (iblk m c 2 t : S8192x256.Idx → EReal) = iblk m c 2 t' :=
  funext fun j => by rw [ix2_eqq j]; refine (k_block m c t _ _).trans (Eq.trans ?_ (k_block m c t' _ _).symm); simp only [h]

/-- What a point leaves in the scratch is what the next one starts from. -/
theorem rdy_next (c : Dev nD) (t : Fin cfg0.N) (d17 d18 d19)
    (h : flagOn (iblk m c 0 t) → (grid0.coords t 1).val ≠ 7 → Ready (iblk m c 1 t) (iblk m c 2 t) ((grid0.coords t 1).val + 1) d17 d18 d19) :
    Rdy m c (t.val + 1) d17 d18 d19 := fun hn hf h0 => by
  have e1 := (index_closed t).2.1
  have e2 := (index_closed ⟨t.val + 1, hn⟩).2.1
  have e2' : (grid0.coords ⟨t.val + 1, hn⟩ 1).val = (t.val + 1) % 8 := e2
  have hd : t.val / 8 = (⟨t.val + 1, hn⟩ : Fin cfg0.N).val / 8 := by show t.val / 8 = (t.val + 1) / 8; omega
  rw [p_block] at hf
  rw [← q_same m c t _ hd, ← k_same m c t _ hd, show (grid0.coords ⟨t.val + 1, hn⟩ 1).val = (grid0.coords t 1).val + 1 by omega]
  refine h ?_ (by omega)
  rw [p_block]; exact hf

/-- What the body is called with at point `t`, and what it returns. -/
def bodyPre (c : Dev nD) (t : Fin cfg0.N) : sProp 𝕄 :=
  iprop(Scr m c t.val ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ (∃ d, owns (c : Thread nD τ) (st0_11 t) fullShare d) ∗ (∃ d, owns (c : Thread nD τ) (st0_12 t) fullShare d) ∗ (∃ d, owns (c : Thread nD τ) (st0_13 t) fullShare d))
def bodyPost (c : Dev nD) (t : Fin cfg0.N) : sProp 𝕄 :=
  iprop(Scr m c (t.val + 1) ∗ (dats m 0 c).owesAt () t.castSucc ∗ owns (c : Thread nD τ) (st0_0 t) fullShare (iblk m c 0 t) ∗ owns (c : Thread nD τ) (st0_1 t) fullShare (iblk m c 1 t) ∗ owns (c : Thread nD τ) (st0_2 t) fullShare (iblk m c 2 t) ∗ owns (c : Thread nD τ) (st0_3 t) fullShare (iblk m c 3 t) ∗ owns (c : Thread nD τ) (st0_4 t) fullShare (iblk m c 4 t) ∗ owns (c : Thread nD τ) (st0_5 t) fullShare (iblk m c 5 t) ∗ owns (c : Thread nD τ) (st0_6 t) fullShare (iblk m c 6 t) ∗ owns (c : Thread nD τ) (st0_7 t) fullShare (iblk m c 7 t) ∗ owns (c : Thread nD τ) (st0_8 t) fullShare (iblk m c 8 t) ∗ owns (c : Thread nD τ) (st0_9 t) fullShare (iblk m c 9 t) ∗ owns (c : Thread nD τ) (st0_10 t) fullShare (iblk m c 10 t) ∗ owns (c : Thread nD τ) (st0_11 t) fullShare (outB (rowA (iblk m c 0 t) (iblk m c 1 t) (iblk m c 2 t) (iblk m c 3 t) (lamX (iblk m c 4 t) (iblk m c 5 t) (iblk m c 6 t) (iblk m c 7 t))) (iblk m c 8 t) (grid0.coords t)) ∗ owns (c : Thread nD τ) (st0_12 t) fullShare (iblk m c 9 t) ∗ owns (c : Thread nD τ) (st0_13 t) fullShare (iblk m c 10 t))

/-- The body at the point, between the obligation's two ends. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0 Scr
  iintro ⟨⟨⟨%d16, %d17, %d18, %d19, %d20, %hd, S0, S1, S2, S3, S4⟩, Hg⟩, HO, H0, H1, H2, H3, H4, H5, H6, H7, H8, H9, H10, H11, H12, H13⟩
  iapply (run_any c (grid0.coords t) (point_cases t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) d16 d17 d18 d19 d20 (hd t.isLt) _)
  isplitl [H0 H1 H2 H3 H4 H5 H6 H7 H8 H9 H10]
  · unfold ins
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  isplitl [H11]; · iexact H11
  isplitl [H12]; · iexact H12
  isplitl [H13]; · iexact H13
  isplitl [S0]; · iexact S0
  isplitl [S1]; · iexact S1
  isplitl [S2]; · iexact S2
  isplitl [S3]; · iexact S3
  isplitl [S4]; · iexact S4
  unfold ins
  iintro ⟨⟨H0, H1, H2, H3, H4, H5, H6, H7, H8, H9, H10⟩, H11, H12, H13, %e16, %e17, %e18, %e19, %e20, %he, S0, S1, S2, S3, S4⟩
  isplitl [S0 S1 S2 S3 S4 Hg]
  · isplitl [S0 S1 S2 S3 S4]
    · iexists e16; iexists e17; iexists e18; iexists e19; iexists e20
      isplitr
      · ipureintro; exact rdy_next m c t _ _ _ he
      isplitl [S0]; · iexact S0
      isplitl [S1]; · iexact S1
      isplitl [S2]; · iexact S2
      isplitl [S3]; · iexact S3
      iexact S4
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The body table's row at the point is the body as the launch spells it. -/
theorem defs₀_row (t : Fin cfg0.N) : defs₀ (F := Ideal) .tc cfg0.body (cfg0.bodyArgs t (cfg0.slots t)) = bodyAt0 t := by
  unfold defs₀; rw [Defs.onTc_tc]

theorem before_0 (c : Dev nD) (t : Fin cfg0.N) (d) : (dats m 0 c).before 0 t d = iblk m c 0 t :=
  before0_0_of m (dats m 0 c) rfl (fun _ => rfl) t d
theorem before_1 (c : Dev nD) (t : Fin cfg0.N) (d) : (dats m 0 c).before 1 t d = iblk m c 1 t :=
  before0_1_of m (dats m 0 c) rfl (fun _ => rfl) t d
theorem before_2 (c : Dev nD) (t : Fin cfg0.N) (d) : (dats m 0 c).before 2 t d = iblk m c 2 t :=
  before0_2_of m (dats m 0 c) rfl (fun _ => rfl) t d
theorem before_3 (c : Dev nD) (t : Fin cfg0.N) (d) : (dats m 0 c).before 3 t d = iblk m c 3 t :=
  before0_3_of m (dats m 0 c) rfl (fun _ => rfl) t d
theorem before_4 (c : Dev nD) (t : Fin cfg0.N) (d) : (dats m 0 c).before 4 t d = iblk m c 4 t :=
  before0_4_of m (dats m 0 c) rfl (fun _ => rfl) t d
theorem before_5 (c : Dev nD) (t : Fin cfg0.N) (d) : (dats m 0 c).before 5 t d = iblk m c 5 t :=
  before0_5_of m (dats m 0 c) rfl (fun _ => rfl) t d
theorem before_6 (c : Dev nD) (t : Fin cfg0.N) (d) : (dats m 0 c).before 6 t d = iblk m c 6 t :=
  before0_6_of m (dats m 0 c) rfl (fun _ => rfl) t d
theorem before_7 (c : Dev nD) (t : Fin cfg0.N) (d) : (dats m 0 c).before 7 t d = iblk m c 7 t :=
  before0_7_of m (dats m 0 c) rfl (fun _ => rfl) t d
theorem before_8 (c : Dev nD) (t : Fin cfg0.N) (d) : (dats m 0 c).before 8 t d = iblk m c 8 t :=
  before0_8_of m (dats m 0 c) rfl (fun _ => rfl) t d
theorem before_9 (c : Dev nD) (t : Fin cfg0.N) (d) : (dats m 0 c).before 9 t d = iblk m c 9 t :=
  before0_9_of m (dats m 0 c) rfl (fun _ => rfl) t d
theorem before_10 (c : Dev nD) (t : Fin cfg0.N) (d) : (dats m 0 c).before 10 t d = iblk m c 10 t :=
  before0_10_of m (dats m 0 c) rfl (fun _ => rfl) t d

/-- The library's body obligation. -/
theorem body_obligation (c : Dev nD) :
    BodyObligation (dats m 0 c) (defs₀ (F := Ideal)) Variants.none () Set.univ := fun t => by
  rw [bigSep_W0, bigSep_W0, defs₀_row]
  refine triple_restated (sound_body m c t) rfl ?_ fun _ => .rfl
  unfold bodyPre
  show iprop(Scr m c t.val ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ d, owns (c : Thread nD τ) (st0_8 t) fullShare ((dats m 0 c).before 8 t d)) ∗ (∃ d, owns (c : Thread nD τ) (st0_9 t) fullShare ((dats m 0 c).before 9 t d)) ∗ (∃ d, owns (c : Thread nD τ) (st0_10 t) fullShare ((dats m 0 c).before 10 t d)) ∗ (∃ d, owns (c : Thread nD τ) (st0_11 t) fullShare ((dats m 0 c).before 11 t d)) ∗ (∃ d, owns (c : Thread nD τ) (st0_12 t) fullShare ((dats m 0 c).before 12 t d)) ∗ (∃ d, owns (c : Thread nD τ) (st0_13 t) fullShare ((dats m 0 c).before 13 t d))) ⊢ _
  iintro ⟨HΦ, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  isplitl [HΦ]; · iexact HΦ
  isplitl [HO]; · iexact HO
  isplitl [H0]
  · rw [← before_0 m c t d0]; iexact H0
  isplitl [H1]
  · rw [← before_1 m c t d1]; iexact H1
  isplitl [H2]
  · rw [← before_2 m c t d2]; iexact H2
  isplitl [H3]
  · rw [← before_3 m c t d3]; iexact H3
  isplitl [H4]
  · rw [← before_4 m c t d4]; iexact H4
  isplitl [H5]
  · rw [← before_5 m c t d5]; iexact H5
  isplitl [H6]
  · rw [← before_6 m c t d6]; iexact H6
  isplitl [H7]
  · rw [← before_7 m c t d7]; iexact H7
  isplitl [H8]
  · rw [← before_8 m c t d8]; iexact H8
  isplitl [H9]
  · rw [← before_9 m c t d9]; iexact H9
  isplitl [H10]
  · rw [← before_10 m c t d10]; iexact H10
  isplitl [H11]
  · iexists _; iexact H11
  isplitl [H12]
  · iexists _; iexact H12
  iexists _; iexact H13

theorem scr_in (c : Dev nD) : Pipeline.ΦA spec0 c ⊢ (dats m 0 c).Φ 0 := by
  show _ ⊢ Scr m c 0
  unfold Pipeline.ΦA Scr
  rw [scopedRest0_eq]
  simp only [owns_whole]
  iintro ⟨⟨⟨%g0, S0⟩, ⟨%g1, S1⟩, ⟨%g2, S2⟩, ⟨%g3, S3⟩, ⟨%g4, S4⟩⟩, Hg⟩
  isplitl [S0 S1 S2 S3 S4]
  · iexists g0; iexists g1; iexists g2; iexists g3; iexists g4
    isplitr
    · ipureintro
      exact fun h _ h0 => absurd (index_closed ⟨0, h⟩).2.1 (fun e => h0 e)
    isplitl [S0]; · iexact S0
    isplitl [S1]; · iexact S1
    isplitl [S2]; · iexact S2
    isplitl [S3]; · iexact S3
    iexact S4
  iexact Hg

theorem scr_out (c : Dev nD) : (dats m 0 c).Φ (Fin.last cfg0.N) ⊢ Pipeline.ΦA spec0 c := by
  show Scr m c _ ⊢ _
  unfold Pipeline.ΦA Scr
  rw [scopedRest0_eq]
  simp only [owns_whole]
  iintro ⟨⟨%d16, %d17, %d18, %d19, %d20, %hd, S0, S1, S2, S3, S4⟩, Hg⟩
  isplitl [S0 S1 S2 S3 S4]
  · isplitl [S0]
    · iexists d16; iexact S0
    isplitl [S1]
    · iexists d17; iexact S1
    isplitl [S2]
    · iexists d18; iexact S2
    isplitl [S3]
    · iexists d19; iexact S3
    iexists d20; iexact S4
  iexact Hg

set_option backward.isDefEq.respectTransparency.types false in
/-- The run, every window's array at the contents the points write back. -/
theorem run_main :
    θ_run defs (onTc (τ := τ) (main (F := Ideal))) (s₀ m ρ) (Pipeline.FramePost cfgs (dats m) 0 (V m)) :=
  Pipeline.θ_run_frame_track_shared cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := scr_in m) (hout := scr_out m)

end Cert.KernelIdeal.Attn

end
-- ==== Proof.AttnHost.lean ====
module

public import proofs.«01_k».proof.Proof.AttnRun
public import Idealize.ShloMosaic.Lib.Pointwise
public import Idealize.ShloMosaic.Lib.Claim
public import Idealize.ShloMosaic.PureOps.Ideal.Laws
public import Idealize.ShloMosaic.PureOps.Reduce

/-! What the attention kernel finds in the windows that the host fills: the lambda vectors, the norm's weights, and the
two parameters of the softmax, the shift and the flag. -/

@[expose] public section

set_option maxRecDepth 16384
set_option maxHeartbeats 4000000

noncomputable section

namespace Cert.KernelIdeal.Attn

open Cert.KernelIdeal Cert.KernelIdeal.Gen Idealize.ShloMosaic Idealize.ShloMosaic.TcCoe Idealize.ShloMosaic.Tactic Idealize.SL.Sem
open scoped BigOperators

variable (m : (ℓ : Loc nD τ sig) → Buf (Elt Ideal) ℓ) (c : Dev nD)

theorem index_rest : ∀ t : Fin cfg0.N,
    (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_12.index t (0 : Fin 2) = t.val ∧ win0_12.index t (1 : Fin 2) = 0)
    ∧ (win0_13.index t (0 : Fin 2) = t.val ∧ win0_13.index t (1 : Fin 2) = 0) :=
  (by decide +kernel : ∀ t : Fin grid0.N, _)

theorem l4_block (t : Fin cfg0.N) (k : Fin 128) : iblk m c 4 t (ix2 (0 : Fin 1) k) = m ((c : Thread nD τ).loc main_arg3) (ix1 k) := by
  obtain ⟨⟨h0, h1⟩, -⟩ := index_rest t
  have e : ((cfg0.win 4).blk t).view.emb (ix2 (0 : Fin 1) k) = ix2 (0 : Fin 1) k := funext fun d => Fin.ext (by
    match d with
    | ⟨0, _⟩ => show win0_4.index t (0 : Fin 2) * 1 + 1 * 0 = 0; omega
    | ⟨1, _⟩ => show win0_4.index t (1 : Fin 2) * 128 + 1 * k.val = k.val; omega)
  show V m c (Pipeline.arrRef spec0 4) (((cfg0.win 4).blk t).view.emb (ix2 (0 : Fin 1) k)) = _
  rw [e]
  show V m c main_v0 (ix2 (0 : Fin 1) k) = _
  entry_read
  pointwise
theorem l5_block (t : Fin cfg0.N) (k : Fin 128) : iblk m c 5 t (ix2 (0 : Fin 1) k) = m ((c : Thread nD τ).loc main_arg4) (ix1 k) := by
  obtain ⟨-, ⟨h0, h1⟩, -⟩ := index_rest t
  have e : ((cfg0.win 5).blk t).view.emb (ix2 (0 : Fin 1) k) = ix2 (0 : Fin 1) k := funext fun d => Fin.ext (by
    match d with
    | ⟨0, _⟩ => show win0_5.index t (0 : Fin 2) * 1 + 1 * 0 = 0; omega
    | ⟨1, _⟩ => show win0_5.index t (1 : Fin 2) * 128 + 1 * k.val = k.val; omega)
  show V m c (Pipeline.arrRef spec0 5) (((cfg0.win 5).blk t).view.emb (ix2 (0 : Fin 1) k)) = _
  rw [e]
  show V m c main_v1 (ix2 (0 : Fin 1) k) = _
  entry_read
  pointwise
theorem l6_block (t : Fin cfg0.N) (k : Fin 128) : iblk m c 6 t (ix2 (0 : Fin 1) k) = m ((c : Thread nD τ).loc main_arg5) (ix1 k) := by
  obtain ⟨-, -, ⟨h0, h1⟩, -⟩ := index_rest t
  have e : ((cfg0.win 6).blk t).view.emb (ix2 (0 : Fin 1) k) = ix2 (0 : Fin 1) k := funext fun d => Fin.ext (by
    match d with
    | ⟨0, _⟩ => show win0_6.index t (0 : Fin 2) * 1 + 1 * 0 = 0; omega
    | ⟨1, _⟩ => show win0_6.index t (1 : Fin 2) * 128 + 1 * k.val = k.val; omega)
  show V m c (Pipeline.arrRef spec0 6) (((cfg0.win 6).blk t).view.emb (ix2 (0 : Fin 1) k)) = _
  rw [e]
  show V m c main_v2 (ix2 (0 : Fin 1) k) = _
  entry_read
  pointwise
theorem l7_block (t : Fin cfg0.N) (k : Fin 128) : iblk m c 7 t (ix2 (0 : Fin 1) k) = m ((c : Thread nD τ).loc main_arg6) (ix1 k) := by
  obtain ⟨-, -, -, ⟨h0, h1⟩, -⟩ := index_rest t
  have e : ((cfg0.win 7).blk t).view.emb (ix2 (0 : Fin 1) k) = ix2 (0 : Fin 1) k := funext fun d => Fin.ext (by
    match d with
    | ⟨0, _⟩ => show win0_7.index t (0 : Fin 2) * 1 + 1 * 0 = 0; omega
    | ⟨1, _⟩ => show win0_7.index t (1 : Fin 2) * 128 + 1 * k.val = k.val; omega)
  show V m c (Pipeline.arrRef spec0 7) (((cfg0.win 7).blk t).view.emb (ix2 (0 : Fin 1) k)) = _
  rw [e]
  show V m c main_v3 (ix2 (0 : Fin 1) k) = _
  entry_read
  pointwise
theorem n_block (t : Fin cfg0.N) (h : Fin 4) (k : Fin 256) : iblk m c 8 t (ix2 h k) = m ((c : Thread nD τ).loc main_arg7) (ix2 h k) := by
  obtain ⟨-, -, -, -, -, -, -, -, -, h0, h1, -⟩ := index_closed t
  refine Eq.trans ?_ (congrFun (V_main_arg7 m c) _)
  show V m c (Pipeline.arrRef spec0 8) (((cfg0.win 8).blk t).view.emb (ix2 h k)) = _
  refine congrArg (V m c main_arg7) (funext fun d => Fin.ext ?_)
  match d with
  | ⟨0, _⟩ => show win0_8.index t (0 : Fin 2) * 4 + 1 * h.val = h.val; omega
  | ⟨1, _⟩ => show win0_8.index t (1 : Fin 2) * 256 + 1 * k.val = k.val; omega

theorem lam_block (t : Fin cfg0.N) : lamX (iblk m c 4 t) (iblk m c 5 t) (iblk m c 6 t) (iblk m c 7 t)
    = lamE (fun k => m ((c : Thread nD τ).loc main_arg3) (ix1 k)) (fun k => m ((c : Thread nD τ).loc main_arg4) (ix1 k))
        (fun k => m ((c : Thread nD τ).loc main_arg5) (ix1 k)) (fun k => m ((c : Thread nD τ).loc main_arg6) (ix1 k)) := by
  unfold lamX
  rw [funext fun k => l4_block m c t k, funext fun k => l5_block m c t k, funext fun k => l6_block m c t k, funext fun k => l7_block m c t k]

/-- The query norm's weights, as launched. -/
abbrev qw (k : Fin 128) : EReal := m ((c : Thread nD τ).loc main_arg1) (ix1 k)
/-- The key norm's weights, as launched. -/
abbrev kw (k : Fin 128) : EReal := m ((c : Thread nD τ).loc main_arg2) (ix1 k)

/-- The shift of the fixed softmax before it is rounded up: a constant times the largest product of the two norm weights. -/
def bound : EReal :=
  Ideal.ofBits .f32 0x418293EE#32 * Finset.fold max (Ideal.ofBits .f32 0xFF800000#32)
    (fun k : Fin 128 => FloatOps.absf (F := Ideal) (φ := .f32) (qw m c k * kw m c k))
    Finset.univ * Ideal.ofBits .f32 0x3F828F5C#32

theorem shift_val : (V m c main_v15 (ix1 (0 : Fin 2)) : EReal) = Ideal.liftRound Int.ceil (bound m c) + 1 := by
  entry_read
  pointwise [bound]
theorem flag_val : (V m c main_v15 (ix1 (1 : Fin 2)) : EReal)
    = FloatOps.uitofp (F := Ideal) .f32 (BitVec.ofBool (decide (Ideal.liftRound Int.ceil (bound m c) + 1 ≤ Ideal.ofBits .f32 0x42700000#32))) := by
  entry_read
  pointwise [bound]

theorem abs_nonneg' (x : EReal) : 0 ≤ max x (-x) := by
  rcases le_total 0 x with h | h
  · exact h.trans (le_max_left _ _)
  · refine le_trans ?_ (le_max_right _ _)
    have := EReal.neg_le_neg_iff.mpr h
    simpa using this

theorem word_a : 0 ≤ Ideal.ofBits .f32 0x418293EE#32 := by
  simp [Ideal.ofBits, Ideal.ieee]; rw [← EReal.coe_mul]; exact EReal.coe_nonneg.mpr (by norm_num)
theorem word_b : 0 ≤ Ideal.ofBits .f32 0x3F828F5C#32 := by
  simp [Ideal.ofBits, Ideal.ieee]; rw [← EReal.coe_mul]; exact EReal.coe_nonneg.mpr (by norm_num)
theorem word_half : 0 ≤ Ideal.ofBits .f32 0x3F000000#32 := by
  simp [Ideal.ofBits, Ideal.ieee]; rw [← EReal.coe_mul]; exact EReal.coe_nonneg.mpr (by norm_num)
theorem word_sixty : Ideal.ofBits .f32 0x42700000#32 < ⊤ := by
  simp [Ideal.ofBits, Ideal.ieee]; rw [← EReal.coe_mul]; exact EReal.coe_lt_top _

theorem bound_nonneg : 0 ≤ bound m c := by
  refine mul_nonneg (mul_nonneg word_a ?_) word_b
  exact (abs_nonneg' _).trans ((Finset.le_fold_max _).mpr (.inr ⟨(0 : Fin 128), Finset.mem_univ _, le_rfl⟩))

theorem ceil_ne_bot (x : EReal) (h : 0 ≤ x) : Ideal.liftRound Int.ceil x + 1 ≠ ⊥ := by
  induction x with
  | bot => exact absurd h (by simp)
  | top => show (⊤ : EReal) + 1 ≠ ⊥; simp; exact EReal.coe_ne_bot (1 : ℝ)
  | coe r =>
    show (((⌈r⌉ : ℤ) : ℝ) : EReal) + 1 ≠ ⊥
    rw [← EReal.coe_one, ← EReal.coe_add]; exact EReal.coe_ne_bot _

/-- Where the fixed branch is taken, its shift is a real number. -/
theorem shift_real (h : flagOn (V m c main_v15)) : ∃ μ : ℝ, (V m c main_v15 (ix1 (0 : Fin 2)) : EReal) = (μ : EReal) := by
  have hle : Ideal.liftRound Int.ceil (bound m c) + 1 ≤ Ideal.ofBits .f32 0x42700000#32 := by
    by_contra hn
    have h1 := h (ix1 (0 : Fin 1))
    have e : View.ld (V m c main_v15) (Rect.unit (s := S2) ![1] S1.size inb_S2_S1_1) (ix1 (0 : Fin 1)) = (0 : EReal) := by
      refine Eq.trans (congrArg (V m c main_v15) (?_ : _ = ix1 (1 : Fin 2))) ((flag_val m c).trans ?_)
      · funext d; match d with | ⟨0, _⟩ => rfl
      · rw [decide_eq_false hn]
        show (((0 : ℕ) : ℝ) : EReal) = 0
        simp
    unfold flagWord at h1
    rw [e] at h1
    have e2 : Scalar.cmpf (F := Ideal) .ogt (0 : EReal) (Scalar.ofBits (F := Ideal) .f32 0x3F000000#32) = 0#1 := by
      show BitVec.ofBool (decide ((Ideal.ofBits .f32 0x3F000000#32) < (0 : EReal))) = 0#1
      rw [decide_eq_false (not_lt.mpr word_half)]; rfl
    rw [e2] at h1
    exact absurd h1 (by decide)
  rw [shift_val]
  exact ⟨_, (EReal.coe_toReal (hle.trans_lt word_sixty).ne (ceil_ne_bot _ (bound_nonneg m c))).symm⟩

end Cert.KernelIdeal.Attn

end
-- ==== Proof.AttnMath.lean ====
module

public import proofs.«01_k».proof.Proof.AttnBlock

/-! Softmax against its two tiled forms: over finite scores, the sums with a shift known beforehand and the sums rescaled to a
running maximum both leave the same quotients, those of the weights `2 ^ score`. -/

@[expose] public section

set_option maxRecDepth 16384

noncomputable section

namespace Cert.KernelIdeal.Attn

open Cert.KernelIdeal Cert.KernelIdeal.Gen Idealize.ShloMosaic Idealize.ShloMosaic.TcCoe Idealize.SL.Sem
open scoped BigOperators

theorem coe_sum {ι : Type} (s : Finset ι) (f : ι → ℝ) : ((∑ i ∈ s, f i : ℝ) : EReal) = ∑ i ∈ s, (f i : EReal) :=
  map_sum (⟨⟨((↑) : ℝ → EReal), EReal.coe_zero⟩, EReal.coe_add⟩ : ℝ →+ EReal) f s

theorem neg_inf : Ideal.ofBits .f32 0xFF800000#32 = (⊥ : EReal) := by simp [Ideal.ofBits, Ideal.ieee]

theorem div_real (x y : ℝ) (hy : y ≠ 0) : Ideal.div (x : EReal) (y : EReal) = ((x / y : ℝ) : EReal) := by
  rw [Ideal.div_coe hy, ← EReal.coe_mul, mul_one_div]

/-- A key's weight `2 ^ (score - μ)` under the chunk mask, over the reals. -/
def wR (a : ℕ → ℝ) (R : ℕ) (μ : ℝ) (k : ℕ) : ℝ := if k / 64 ≤ R / 64 then Real.rpow 2 (a k - μ) else 0

theorem wR_nonneg (a : ℕ → ℝ) (R : ℕ) (μ : ℝ) (k : ℕ) : 0 ≤ wR a R μ k := by
  unfold wR; split
  · exact Real.rpow_nonneg (by norm_num) _
  · exact le_rfl

theorem wR_shift (a : ℕ → ℝ) (R : ℕ) (μ μ' : ℝ) (k : ℕ) : wR a R μ' k = Real.rpow 2 (μ - μ') * wR a R μ k := by
  unfold wR; split
  · exact (congrArg (Real.rpow 2) (by ring)).trans (Real.rpow_add (by norm_num) (μ - μ') (a k - μ))
  · exact (mul_zero _).symm

theorem wF_coe (Q K : S8192x256.Idx → EReal) (c R : ℕ) (a : ℕ → ℝ) (ha : ∀ k, sc Q K c R k = (a k : EReal)) (μ : ℝ) (k : ℕ) :
    wF Q K (μ : EReal) c R k = (wR a R μ k : EReal) := by
  unfold wF wR
  split
  · rw [ha, ← EReal.coe_sub, Ideal.exp2_coe]
  · exact EReal.coe_zero.symm

theorem exp2_sM (Q K : S8192x256.Idx → EReal) (c R : ℕ) (μ : ℝ) (k : ℕ) :
    Ideal.exp2 (sM Q K c R k - (μ : EReal)) = wF Q K (μ : EReal) c R k := by
  unfold sM wF
  split
  · rfl
  · rw [EReal.bot_sub]; rfl

/-- The lane sums over the reals. -/
def lR (g : ℕ → ℝ) (n x : ℕ) : ℝ :=
  ∑ j ∈ Finset.range n, (g (512 * j + x) + g (512 * j + (128 + x)) + g (512 * j + (256 + x)) + g (512 * j + (384 + x)))

theorem lS_coe (w : ℕ → EReal) (g : ℕ → ℝ) (hw : ∀ k, w k = (g k : EReal)) (n : ℕ) (x : Fin 128) : lS w n x = (lR g n x.val : EReal) := by
  induction n with
  | zero => simp [lS, lR]
  | succ n ih =>
    have e : lR g (n + 1) x.val = lR g n x.val + (g (512 * n + x.val) + g (512 * n + (128 + x.val)) + g (512 * n + (256 + x.val)) + g (512 * n + (384 + x.val))) :=
      Finset.sum_range_succ _ _
    rw [lS, ih, e, EReal.coe_add, EReal.coe_add, EReal.coe_add, EReal.coe_add]
    simp only [lane4, hw, Nat.zero_add]

theorem aS_coe (w : ℕ → EReal) (g : ℕ → ℝ) (hw : ∀ k, w k = (g k : EReal)) (V : S8192x256.Idx → EReal) (v : ℕ → ℝ) (y : Fin 256)
    (hv : ∀ k, at8 V k y.val = (v k : EReal)) (n : ℕ) : aS w V n y = ((∑ k ∈ Finset.range (512 * n), g k * v k : ℝ) : EReal) := by
  induction n with
  | zero => simp [aS]
  | succ n ih =>
    rw [aS, ih, Nat.mul_succ, Finset.sum_range_add, EReal.coe_add, ← Fin.sum_univ_eq_sum_range (fun k => g (512 * n + k) * v (512 * n + k)) 512, coe_sum]
    simp only [hw, hv, EReal.coe_mul]
    exact congrArg _ (((Finset.sum_congr rfl fun k _ => (EReal.coe_mul _ _).symm).trans (coe_sum _ _).symm).trans rfl)

theorem lR_sum (g : ℕ → ℝ) (n : ℕ) : ∑ x : Fin 128, lR g n x.val = ∑ k ∈ Finset.range (512 * n), g k := by
  induction n with
  | zero => simp [lR]
  | succ n ih =>
    have e : ∀ x, lR g (n + 1) x = lR g n x + (g (512 * n + x) + g (512 * n + (128 + x)) + g (512 * n + (256 + x)) + g (512 * n + (384 + x))) :=
      fun x => Finset.sum_range_succ _ _
    simp only [e, Finset.sum_add_distrib, ih]
    rw [Nat.mul_succ, Finset.sum_range_add, show 512 = 128 + 128 + 128 + 128 from rfl, Finset.sum_range_add _ (128 + 128 + 128), Finset.sum_range_add _ (128 + 128), Finset.sum_range_add _ 128 128]
    rw [Fin.sum_univ_eq_sum_range (fun x => g ((128 + 128 + 128 + 128) * n + x)), Fin.sum_univ_eq_sum_range (fun x => g ((128 + 128 + 128 + 128) * n + (128 + x))),
      Fin.sum_univ_eq_sum_range (fun x => g ((128 + 128 + 128 + 128) * n + (256 + x))), Fin.sum_univ_eq_sum_range (fun x => g ((128 + 128 + 128 + 128) * n + (384 + x)))]

theorem rowMax_lt_top (f : Fin 512 → EReal) (h : ∀ k, f k ≠ ⊤) : rowMax f ≠ ⊤ := by
  refine ne_of_lt ((Finset.fold_max_lt _).2 ⟨?_, fun k _ => lt_top_iff_ne_top.2 (h k)⟩)
  rw [neg_inf]; exact bot_lt_top
theorem le_rowMax (f : Fin 512 → EReal) (k : Fin 512) : f k ≤ rowMax f :=
  (Finset.le_fold_max _).2 (.inr ⟨k, Finset.mem_univ _, le_rfl⟩)

theorem sM_ne_top (Q K : S8192x256.Idx → EReal) (c R : ℕ) (a : ℕ → ℝ) (ha : ∀ k, sc Q K c R k = (a k : EReal)) (k : ℕ) : sM Q K c R k ≠ ⊤ := by
  unfold sM; split
  · rw [ha]; exact EReal.coe_ne_top _
  · exact bot_ne_top

/-- After at least one tile the running maximum is a real number, and the rescaled sums are those with it as the shift. -/
theorem online (Q K V : S8192x256.Idx → EReal) (c R : ℕ) (a : ℕ → ℝ) (ha : ∀ k, sc Q K c R k = (a k : EReal))
    (v : ℕ → Fin 256 → ℝ) (hv : ∀ k (y : Fin 256), at8 V k y.val = (v k y : EReal)) (n : ℕ) :
    ∃ μ : ℝ, mS (sM Q K c R) (n + 1) = (μ : EReal) ∧ (∀ x, lO (sM Q K c R) (n + 1) x = lS (wF Q K (μ : EReal) c R) (n + 1) x)
      ∧ ∀ y, aO (sM Q K c R) V (n + 1) y = aS (wF Q K (μ : EReal) c R) V (n + 1) y := by
  induction n with
  | zero =>
    have h1 : mS (sM Q K c R) 1 ≠ ⊤ := by
      rw [mS, mS, bot_sup_eq]; exact rowMax_lt_top _ fun k => sM_ne_top Q K c R a ha _
    have h2 : mS (sM Q K c R) 1 ≠ ⊥ := by
      rw [mS, mS, bot_sup_eq]
      refine ne_of_gt (lt_of_lt_of_le ?_ (le_rowMax _ (0 : Fin 512)))
      show ⊥ < sM Q K c R 0
      rw [sM, if_pos (by omega), ha]; exact EReal.bot_lt_coe _
    have e := EReal.coe_toReal h1 h2
    generalize (mS (sM Q K c R) 1).toReal = μ at e
    refine ⟨μ, e.symm, fun x => ?_, fun y => ?_⟩
    · rw [lO, lS, lO, lS, mul_zero]
      rw [zero_add, ← e]; simp only [exp2_sM, zero_add]
    · rw [aO, aS, aO, aS, mul_zero]
      rw [zero_add, ← e]; simp only [exp2_sM, zero_add]
  | succ n ih =>
    obtain ⟨μ, hμ, hl, hA⟩ := ih
    have h1 : mS (sM Q K c R) (n + 1 + 1) ≠ ⊤ := by
      rw [mS, hμ]
      exact ne_of_lt (max_lt (EReal.coe_lt_top _) (lt_top_iff_ne_top.2 (rowMax_lt_top _ fun k => sM_ne_top Q K c R a ha _)))
    have h2 : mS (sM Q K c R) (n + 1 + 1) ≠ ⊥ := by
      rw [mS, hμ]
      exact ne_of_gt (lt_of_lt_of_le (EReal.bot_lt_coe μ) (le_max_left _ _))
    have e := EReal.coe_toReal h1 h2
    generalize (mS (sM Q K c R) (n + 1 + 1)).toReal = μ' at e
    have hw := fun k => wF_coe Q K c R a ha μ k
    have hw' := fun k => wF_coe Q K c R a ha μ' k
    refine ⟨μ', e.symm, fun x => ?_, fun y => ?_⟩
    · rw [lO, hl, hμ, ← e, lS_coe _ _ hw, ← EReal.coe_sub, Ideal.exp2_coe, ← EReal.coe_mul]
      rw [show lS (wF Q K (μ' : EReal) c R) (n + 1 + 1) x = lS (wF Q K (μ' : EReal) c R) (n + 1) x + lane4 (fun k => wF Q K (μ' : EReal) c R (512 * (n + 1) + k.val)) x from rfl,
        lS_coe _ _ hw']
      simp only [exp2_sM]
      congr 2
      unfold lR
      rw [Finset.mul_sum]
      exact Finset.sum_congr rfl fun j _ => by rw [wR_shift a R μ μ', wR_shift a R μ μ', wR_shift a R μ μ', wR_shift a R μ μ']; ring
    · rw [aO, hA, hμ, ← e, aS_coe _ _ hw V (fun k => v k y) y (fun k => hv k y), ← EReal.coe_sub, Ideal.exp2_coe, ← EReal.coe_mul]
      rw [show aS (wF Q K (μ' : EReal) c R) V (n + 1 + 1) y = aS (wF Q K (μ' : EReal) c R) V (n + 1) y + ∑ k : Fin 512, wF Q K (μ' : EReal) c R (512 * (n + 1) + k.val) * at8 V (512 * (n + 1) + k.val) y.val from rfl,
        aS_coe _ _ hw' V (fun k => v k y) y (fun k => hv k y)]
      simp only [exp2_sM]
      congr 2
      rw [Finset.mul_sum]
      exact Finset.sum_congr rfl fun j _ => by rw [wR_shift a R μ μ']; ring

/-- Attention of one query row with the weights `2 ^ score`, over the reals. -/
def softR (a0 a1 v : ℕ → ℝ) (lam : ℝ) (R : ℕ) : ℝ :=
  ∑ k ∈ Finset.range 8192, (wR a0 R 0 k / (∑ j ∈ Finset.range 8192, wR a0 R 0 j) - lam * (wR a1 R 0 k / ∑ j ∈ Finset.range 8192, wR a1 R 0 j)) * v k

theorem wR_pos (a : ℕ → ℝ) (R : ℕ) (μ : ℝ) (N : ℕ) (hN : R < N) : 0 < ∑ k ∈ Finset.range N, wR a R μ k := by
  refine Finset.sum_pos' (fun k _ => wR_nonneg a R μ k) ⟨R, Finset.mem_range.2 hN, ?_⟩
  unfold wR; rw [if_pos le_rfl]; exact Real.rpow_pos_of_pos (by norm_num) _

theorem sum_cut (f : ℕ → ℝ) (R n : ℕ) (hn : n = R / 512 + 1) (hR : R < 8192) (hf : ∀ k, ¬ k / 64 ≤ R / 64 → f k = 0) :
    ∑ k ∈ Finset.range (512 * n), f k = ∑ k ∈ Finset.range 8192, f k := by
  refine Finset.sum_subset (Finset.range_subset_range.2 (by omega)) fun k _ hk => hf k ?_
  rw [Finset.mem_range] at hk
  omega

theorem wR_masked (a : ℕ → ℝ) (R : ℕ) (μ : ℝ) (k : ℕ) (h : ¬ k / 64 ≤ R / 64) : wR a R μ k = 0 := if_neg h

/-- The tiled sums divided and subtracted are that attention, whatever the two shifts. -/
theorem outO_soft (Q K V : S8192x256.Idx → EReal) (R : ℕ) (hR : R < 8192) (a0 a1 : ℕ → ℝ) (ha0 : ∀ k, sc Q K 0 R k = (a0 k : EReal)) (ha1 : ∀ k, sc Q K 1 R k = (a1 k : EReal))
    (v : ℕ → Fin 256 → ℝ) (hv : ∀ k (y : Fin 256), at8 V k y.val = (v k y : EReal)) (lam μ0 μ1 : ℝ) (y : Fin 256) :
    outO (lam : EReal) (lS (wF Q K (μ0 : EReal) 0 R) (R / 512 + 1)) (lS (wF Q K (μ1 : EReal) 1 R) (R / 512 + 1)) (aS (wF Q K (μ0 : EReal) 0 R) V (R / 512 + 1) y) (aS (wF Q K (μ1 : EReal) 1 R) V (R / 512 + 1) y)
      = (softR a0 a1 (fun k => v k y) lam R : EReal) := by
  have hw0 := fun k => wF_coe Q K 0 R a0 ha0 μ0 k
  have hw1 := fun k => wF_coe Q K 1 R a1 ha1 μ1 k
  unfold outO
  simp only [lS_coe _ _ hw0, lS_coe _ _ hw1, aS_coe _ _ hw0 V (fun k => v k y) y (fun k => hv k y), aS_coe _ _ hw1 V (fun k => v k y) y (fun k => hv k y)]
  rw [← coe_sum, ← coe_sum, lR_sum, lR_sum]
  have c0 := sum_cut (wR a0 R μ0) R _ rfl hR (wR_masked a0 R μ0)
  have c1 := sum_cut (wR a1 R μ1) R _ rfl hR (wR_masked a1 R μ1)
  have d0 := sum_cut (fun k => wR a0 R μ0 k * v k y) R _ rfl hR fun k h => by rw [wR_masked a0 R μ0 k h, zero_mul]
  have d1 := sum_cut (fun k => wR a1 R μ1 k * v k y) R _ rfl hR fun k h => by rw [wR_masked a1 R μ1 k h, zero_mul]
  rw [c0, c1, d0, d1]
  have p0 := wR_pos a0 R μ0 8192 hR
  have p1 := wR_pos a1 R μ1 8192 hR
  rw [show (1 : EReal) = ((1 : ℝ) : EReal) from rfl, div_real _ _ p0.ne', div_real _ _ p1.ne', ← EReal.coe_mul, ← EReal.coe_mul, ← EReal.coe_sub]
  congr 1
  unfold softR
  have s0 : ∀ k, wR a0 R μ0 k = Real.rpow 2 (0 - μ0) * wR a0 R 0 k := fun k => wR_shift a0 R 0 μ0 k
  have s1 : ∀ k, wR a1 R μ1 k = Real.rpow 2 (0 - μ1) * wR a1 R 0 k := fun k => wR_shift a1 R 0 μ1 k
  have e0 : Real.rpow 2 (0 - μ0) ≠ 0 := (Real.rpow_pos_of_pos (by norm_num) _).ne'
  have e1 : Real.rpow 2 (0 - μ1) ≠ 0 := (Real.rpow_pos_of_pos (by norm_num) _).ne'
  have q0 := (wR_pos a0 R 0 8192 hR).ne'
  have q1 := (wR_pos a1 R 0 8192 hR).ne'
  simp only [s0, s1, mul_assoc, ← Finset.mul_sum]
  generalize Real.rpow 2 (0 - μ0) = E0 at e0 ⊢
  generalize Real.rpow 2 (0 - μ1) = E1 at e1 ⊢
  generalize ∑ j ∈ Finset.range 8192, wR a0 R 0 j = Z0 at q0 ⊢
  generalize ∑ j ∈ Finset.range 8192, wR a1 R 0 j = Z1 at q1 ⊢
  have split : ∀ k, (wR a0 R 0 k / Z0 - lam * (wR a1 R 0 k / Z1)) * v k y = (1 / Z0) * (wR a0 R 0 k * v k y) - (lam / Z1) * (wR a1 R 0 k * v k y) := fun k => by ring
  simp only [split, Finset.sum_sub_distrib, ← Finset.mul_sum]
  field_simp

/-- The form with a shift known beforehand. -/
theorem rowF_soft (Q K V : S8192x256.Idx → EReal) (R : ℕ) (hR : R < 8192) (a0 a1 : ℕ → ℝ) (ha0 : ∀ k, sc Q K 0 R k = (a0 k : EReal)) (ha1 : ∀ k, sc Q K 1 R k = (a1 k : EReal))
    (v : ℕ → Fin 256 → ℝ) (hv : ∀ k (y : Fin 256), at8 V k y.val = (v k y : EReal)) (lam μ : ℝ) (y : Fin 256) :
    rowF Q K V (μ : EReal) (lam : EReal) R y = (softR a0 a1 (fun k => v k y) lam R : EReal) :=
  outO_soft Q K V R hR a0 a1 ha0 ha1 v hv lam μ μ y

/-- The rescaled form. -/
theorem rowO_soft (Q K V : S8192x256.Idx → EReal) (R : ℕ) (hR : R < 8192) (a0 a1 : ℕ → ℝ) (ha0 : ∀ k, sc Q K 0 R k = (a0 k : EReal)) (ha1 : ∀ k, sc Q K 1 R k = (a1 k : EReal))
    (v : ℕ → Fin 256 → ℝ) (hv : ∀ k (y : Fin 256), at8 V k y.val = (v k y : EReal)) (lam : ℝ) (y : Fin 256) :
    rowO Q K V (lam : EReal) R y = (softR a0 a1 (fun k => v k y) lam R : EReal) := by
  obtain ⟨μ0, -, h0, h0'⟩ := online Q K V 0 R a0 ha0 v hv (R / 512)
  obtain ⟨μ1, -, h1, h1'⟩ := online Q K V 1 R a1 ha1 v hv (R / 512)
  rw [← outO_soft Q K V R hR a0 a1 ha0 ha1 v hv lam μ0 μ1 y, rowO, h0', h1', funext h0, funext h1]

end Cert.KernelIdeal.Attn

end
-- ==== Proof.AttnRef.lean ====
module

public import proofs.«01_k».proof.Proof.Gen.ReferenceIdeal.Read
public import proofs.«01_k».proof.Proof.AttnMath
public import Idealize.ShloMosaic.PureOps.Ideal.Laws
public import Idealize.ShloMosaic.PureOps.Reduce

/-! The reference's softmax weights as real numbers: for finite inputs every entry of its attention output is the
difference of two softmax averages, `softR`. -/

@[expose] public section

set_option maxRecDepth 16384
set_option maxHeartbeats 4000000

noncomputable section

namespace Cert.ReferenceIdeal.Soft

open Cert.ReferenceIdeal Cert.ReferenceIdeal.Gen Cert.ReferenceIdeal.Read Idealize.ShloMosaic Idealize.SL.Sem
open Cert.KernelIdeal.Attn (wR wR_nonneg wR_pos softR coe_sum neg_inf div_real)
open scoped BigOperators

abbrev Proj : Type := (⟨S8192x6144, .bf16⟩ : BufTy).Contents (Elt Ideal)
abbrev Lam : Type := (⟨S128, .f32⟩ : BufTy).Contents (Elt Ideal)

/-- An entry of the projected array as a real number. -/
def xR (x0 : Proj) (r j : ℕ) : ℝ :=
  if h : r < 8192 ∧ j < 6144 then (x0 (fun a => match a with | ⟨0, _⟩ => ⟨r, h.1⟩ | ⟨1, _⟩ => ⟨j, h.2⟩) : EReal).toReal else 0

/-- Queries, keys and values are real numbers. -/
def Fin0 (x0 : Proj) : Prop := ∀ i : S8192x6144.Idx, 3072 ≤ (i 1).val → x0 i = ((xR x0 (i 0).val (i 1).val : ℝ) : EReal)

/-- The score of a query row and a key row in half `c` of head `h`. -/
def aR (x0 : Proj) (h c R k : ℕ) : ℝ :=
  ∑ e : Fin 128, xR x0 R (3072 + (256 * h + 128 * c + e.val)) * xR x0 k (4096 + (256 * h + 128 * c + e.val))

/-- Column `y` of head `h`'s values. -/
def vR (x0 : Proj) (h y k : ℕ) : ℝ := xR x0 k (5120 + (256 * h + y))

theorem at_real (x0 : Proj) (hx : Fin0 x0) (i : S8192x6144.Idx) (r j : ℕ) (h0 : (i 0).val = r) (h1 : (i 1).val = j) (hj : 3072 ≤ j) :
    x0 i = ((xR x0 r j : ℝ) : EReal) := by subst h0 h1; exact hx i hj

theorem q_real (x0 : Proj) (hx : Fin0 x0) (i : S4x2x8192x128.Idx) :
    val_main_v6 (F := Ideal) x0 i = ((xR x0 (i 2).val (3072 + (256 * (i 0).val + 128 * (i 1).val + (i 3).val)) : ℝ) : EReal) := by
  rw [val_main_v6_apply, val_main_v5_apply, val_main_v2_apply, val_main_v1_apply, val_main_v0_apply]
  have h0 : (i 0).val < 4 := (i 0).isLt
  have h1 : (i 1).val < 2 := (i 1).isLt
  have h2 : (i 2).val < 8192 := (i 2).isLt
  have h3 : (i 3).val < 128 := (i 3).isLt
  refine at_real x0 hx _ _ _ ?_ ?_ (by omega)
  · show ((((i 2).val * 4 + (i 0).val) * 2 + (i 1).val) * 128 + (i 3).val) / 1024 = _; omega
  · show 3072 + ((((i 2).val * 4 + (i 0).val) * 2 + (i 1).val) * 128 + (i 3).val) % 1024 = _; omega

theorem k_real (x0 : Proj) (hx : Fin0 x0) (i : S4x2x8192x128.Idx) :
    val_main_v8 (F := Ideal) x0 i = ((xR x0 (i 2).val (4096 + (256 * (i 0).val + 128 * (i 1).val + (i 3).val)) : ℝ) : EReal) := by
  rw [val_main_v8_apply, val_main_v7_apply, val_main_v3_apply, val_main_v1_apply, val_main_v0_apply]
  have h0 : (i 0).val < 4 := (i 0).isLt
  have h1 : (i 1).val < 2 := (i 1).isLt
  have h2 : (i 2).val < 8192 := (i 2).isLt
  have h3 : (i 3).val < 128 := (i 3).isLt
  refine at_real x0 hx _ _ _ ?_ ?_ (by omega)
  · show ((((i 2).val * 4 + (i 0).val) * 2 + (i 1).val) * 128 + (i 3).val) / 1024 = _; omega
  · show 3072 + (1024 + ((((i 2).val * 4 + (i 0).val) * 2 + (i 1).val) * 128 + (i 3).val) % 1024) = _; omega

theorem v_real (x0 : Proj) (hx : Fin0 x0) (i : S4x8192x256.Idx) :
    val_main_v10 (F := Ideal) x0 i = ((vR x0 (i 0).val (i 2).val (i 1).val : ℝ) : EReal) := by
  rw [val_main_v10_apply, val_main_v9_apply, val_main_v4_apply, val_main_v1_apply, val_main_v0_apply]
  have h0 : (i 0).val < 4 := (i 0).isLt
  have h1 : (i 1).val < 8192 := (i 1).isLt
  have h2 : (i 2).val < 256 := (i 2).isLt
  refine at_real x0 hx _ _ _ ?_ ?_ (by omega)
  · show (((i 1).val * 4 + (i 0).val) * 256 + (i 2).val) / 1024 = _; omega
  · show 3072 + (2048 + (((i 1).val * 4 + (i 0).val) * 256 + (i 2).val) % 1024) = _; omega

theorem score_real (x0 : Proj) (hx : Fin0 x0) (i : S4x2x8192x8192.Idx) :
    val_main_v11 (F := Ideal) x0 i = ((aR x0 (i 0).val (i 1).val (i 2).val (i 3).val : ℝ) : EReal) := by
  rw [val_main_v11_apply, aR, coe_sum]
  refine Finset.sum_congr rfl fun e _ => ?_
  rw [q_real x0 hx, k_real x0 hx, EReal.coe_mul]

theorem two_real : Ideal.ofBits .f32 0x40000000#32 = ((2 : ℝ) : EReal) := by
  simp [Ideal.ofBits, Ideal.ieee]
  rw [← EReal.coe_mul]; norm_num

theorem ln2_real (i : S_.Idx) : val_main_v12 (F := Ideal) i = ((Real.log 2 : ℝ) : EReal) := by
  rw [val_main_v12_apply, val_main_cst_apply]
  show Ideal.log (Ideal.ofBits .f32 0x40000000#32) = _
  rw [two_real, Ideal.log_coe, if_neg (by norm_num)]

/-- The sign of a word. -/
def sgn (x : BitVec 32) : BitVec 32 := if x = 0 then 0 else if x.msb then -1 else 1

theorem chunk_word : ∀ n : Fin 8192,
    Scalar.select
      (IntOp.andi
        (IntOp.cmpi .ne (sgn (BitVec.ofNat 32 n.val)) (sgn 64#32))
        (IntOp.cmpi .ne (IntOp.remsi .host (BitVec.ofNat 32 n.val) 64#32) 0#32))
      (IntOp.subi (IntOp.divsi .host (BitVec.ofNat 32 n.val) 64#32) 1#32)
      (IntOp.divsi .host (BitVec.ofNat 32 n.val) 64#32) = BitVec.ofNat 32 (n.val / 64) := by decide +kernel

theorem chunk_le : ∀ a b : Fin 128, IntOp.cmpi .sle (BitVec.ofNat 32 a.val) (BitVec.ofNat 32 b.val) = if a.val ≤ b.val then 1#1 else 0#1 := by decide +kernel

theorem chunk_val (i : S8192.Idx) : val_main_v16 (F := Ideal) i = BitVec.ofNat 32 ((i 0).val / 64) := by
  rw [val_main_v16_apply, val_main_call0_v11_apply, val_main_call0_v13_apply, val_main_call0_v6_apply, val_main_call0_v10_apply,
    val_main_call0_v5_apply, val_main_call0_v8_apply, val_main_call0_v9_apply, val_main_call0_v7_apply, val_main_call0_v12_apply,
    val_main_call0_v2_apply, val_main_call0_v1_apply, val_main_call0_v0_apply]
  exact chunk_word ⟨(i 0).val, (i 0).isLt⟩

theorem mask_val (i : S8192x8192.Idx) : val_main_v21 (F := Ideal) i = if (i 1).val / 64 ≤ (i 0).val / 64 then 1#1 else 0#1 := by
  rw [val_main_v21_apply, val_main_v19_apply, val_main_v20_apply, val_main_v17_apply, val_main_v18_apply, chunk_val, chunk_val]
  have h0 : (i 0).val < 8192 := (i 0).isLt
  have h1 : (i 1).val < 8192 := (i 1).isLt
  exact chunk_le ⟨(i 1).val / 64, by omega⟩ ⟨(i 0).val / 64, by omega⟩

theorem masked_val (x0 : Proj) (hx : Fin0 x0) (i : S4x2x8192x8192.Idx) :
    val_main_v22 (F := Ideal) x0 i
      = if (i 3).val / 64 ≤ (i 2).val / 64 then ((aR x0 (i 0).val (i 1).val (i 2).val (i 3).val * Real.log 2 : ℝ) : EReal) else ⊥ := by
  rw [val_main_v22_apply, val_main_call1_v1_apply, val_main_call1_v2_apply, val_main_call1_v0_apply, val_main_cst_0_apply, mask_val,
    val_main_v14_apply, val_main_v13_apply, score_real x0 hx, ln2_real, EReal.coe_mul]
  show Scalar.select (if (i 3).val / 64 ≤ (i 2).val / 64 then 1#1 else 0#1) _ (Ideal.ofBits .f32 0xFF800000#32) = _
  rw [neg_inf]
  by_cases h : (i 3).val / 64 ≤ (i 2).val / 64
  · rw [if_pos h, if_pos h]; rfl
  · rw [if_neg h, if_neg h]; rfl

theorem fold_max_ge {ι : Type} (s : Finset ι) (b : EReal) (f : ι → EReal) (k : ι) (hk : k ∈ s) :
    f k ≤ s.fold max b f := (Finset.le_fold_max (f k)).mpr (.inr ⟨k, hk, le_rfl⟩)

theorem fold_max_lt {ι : Type} (s : Finset ι) (b : EReal) (f : ι → EReal) (hb : b < ⊤) (hf : ∀ k ∈ s, f k < ⊤) :
    s.fold max b f < ⊤ := (Finset.fold_max_lt (c := ⊤)).mpr ⟨hb, hf⟩

/-- A row's maximum is a real number. -/
theorem max_real (x0 : Proj) (hx : Fin0 x0) (i : S4x2x8192.Idx) : ∃ m : ℝ, val_main_v25 (F := Ideal) x0 i = (m : EReal) := by
  rw [val_main_v25_apply, val_main_v24_apply, val_main_cst_2_apply]
  show ∃ m : ℝ, max (Ideal.ofBits .f32 0xFF800000#32) (val_main_v23 (F := Ideal) x0 i) = (m : EReal)
  rw [neg_inf, max_eq_right bot_le]
  unfold val_main_v23
  rw [Host.reduce_eq_fold]
  have hlt := fold_max_lt (Finset.univ.filter fun k => reducesTo_S4x2x8192x8192_S4x2x8192_d3.drop k = i)
    (val_main_cst_1 (F := Ideal) (Shape.Idx.first h_S_)) (val_main_v22 (F := Ideal) x0)
    (by show Ideal.ofBits .f32 0xFF800000#32 < ⊤; rw [neg_inf]; exact bot_lt_top)
    (fun k _ => by rw [masked_val x0 hx]; split_ifs; exacts [EReal.coe_lt_top _, bot_lt_top])
  have hge := fold_max_ge (Finset.univ.filter fun k => reducesTo_S4x2x8192x8192_S4x2x8192_d3.drop k = i)
    (val_main_cst_1 (F := Ideal) (Shape.Idx.first h_S_)) (val_main_v22 (F := Ideal) x0) (idx_main_v30 i ⟨0, by norm_num⟩)
    (Finset.mem_filter.mpr ⟨Finset.mem_univ _, by
      funext a; refine Fin.ext ?_
      match a with
      | ⟨0, _⟩ => rfl
      | ⟨1, _⟩ => rfl
      | ⟨2, _⟩ => rfl⟩)
  rw [masked_val x0 hx, if_pos (by show 0 / 64 ≤ _; omega)] at hge
  refine ⟨_, (EReal.coe_toReal hlt.ne ?_).symm⟩
  intro hb
  exact absurd ((hge.trans_eq hb)) (by exact not_le.mpr (EReal.bot_lt_coe _))

theorem exp_two (a m : ℝ) : Real.exp (a * Real.log 2 - m) = Real.exp (-m) * Real.rpow 2 (a - 0) := by
  show _ = _ * (2 : ℝ) ^ (a - 0)
  rw [Real.rpow_def_of_pos (by norm_num), ← Real.exp_add]; congr 1; ring

theorem exp_real (x0 : Proj) (hx : Fin0 x0) (i : S4x2x8192x8192.Idx) (m : ℝ)
    (hm : val_main_v25 (F := Ideal) x0 (idx_main_v26 (idx_main_v27 i)) = (m : EReal)) :
    val_main_v29 (F := Ideal) x0 i
      = ((Real.exp (-m) * wR (aR x0 (i 0).val (i 1).val (i 2).val) (i 2).val 0 (i 3).val : ℝ) : EReal) := by
  rw [val_main_v29_apply, val_main_v28_apply, val_main_v27_apply, val_main_v26_apply, hm, masked_val x0 hx]
  show Ideal.exp (_ - (m : EReal)) = _
  unfold wR
  by_cases h : (i 3).val / 64 ≤ (i 2).val / 64
  · rw [if_pos h, if_pos h, ← EReal.coe_sub, Ideal.exp_coe, exp_two]
  · rw [if_neg h, if_neg h, mul_zero, EReal.bot_sub, Ideal.exp_bot]; rfl

/-- A softmax weight of the reference. -/
theorem soft_real (x0 : Proj) (hx : Fin0 x0) (i : S4x2x8192x8192.Idx) :
    val_main_v33 (F := Ideal) x0 i
      = ((wR (aR x0 (i 0).val (i 1).val (i 2).val) (i 2).val 0 (i 3).val
          / ∑ j ∈ Finset.range 8192, wR (aR x0 (i 0).val (i 1).val (i 2).val) (i 2).val 0 j : ℝ) : EReal) := by
  obtain ⟨m, hm⟩ := max_real x0 hx (idx_main_v26 (idx_main_v27 i))
  rw [val_main_v33_apply, val_main_v32_apply, val_main_v31_apply, val_main_v30_apply, exp_real x0 hx i m hm]
  have hs : ∀ k : Fin 8192, val_main_v29 (F := Ideal) x0 (idx_main_v30 (idx_main_v31 (idx_main_v32 i)) k)
      = ((Real.exp (-m) * wR (aR x0 (i 0).val (i 1).val (i 2).val) (i 2).val 0 k.val : ℝ) : EReal) := fun k =>
    exp_real x0 hx (idx_main_v30 (idx_main_v31 (idx_main_v32 i)) k) m hm
  rw [Finset.sum_congr rfl fun k _ => hs k, ← coe_sum,
    Fin.sum_univ_eq_sum_range (fun k => Real.exp (-m) * wR (aR x0 (i 0).val (i 1).val (i 2).val) (i 2).val 0 k) 8192, ← Finset.mul_sum]
  have h0 : val_main_cst_3 (F := Ideal) (Shape.Idx.first h_S_) = (0 : EReal) := Ideal.ofBits_zero_f32
  rw [h0, zero_add]
  have hp := wR_pos (aR x0 (i 0).val (i 1).val (i 2).val) (i 2).val 0 8192 (i 2).isLt
  have he := Real.exp_pos (-m)
  refine (div_real _ _ (mul_pos he hp).ne').trans (congrArg _ ?_)
  rw [mul_div_mul_left _ _ he.ne']

/-- The vectors of the two lambda terms are real numbers. -/
def Fin1 (x : Lam) : Prop := ∃ g : Fin 128 → ℝ, ∀ i : S128.Idx, x i = ((g (i 0) : ℝ) : EReal)

theorem word_real (b : BitVec 32) (h : Ideal.ofBits .f32 b ≠ ⊤) (h' : Ideal.ofBits .f32 b ≠ ⊥) : ∃ z : ℝ, Ideal.ofBits .f32 b = (z : EReal) :=
  ⟨_, (EReal.coe_toReal h h').symm⟩

theorem fifth_real : ∃ z : ℝ, Ideal.ofBits .f32 0x3E4CCCCD#32 = (z : EReal) := by
  refine word_real _ ?_ ?_ <;> simp [Ideal.ofBits, Ideal.ieee] <;> rw [← EReal.coe_mul]
  exacts [EReal.coe_ne_top _, EReal.coe_ne_bot _]

theorem lam_real (x3 x4 x5 x6 : Lam) (h3 : Fin1 x3) (h4 : Fin1 x4) (h5 : Fin1 x5) (h6 : Fin1 x6) :
    ∃ lam : ℝ, ∀ i, val_main_v41 (F := Ideal) x3 x4 x5 x6 i = (lam : EReal) := by
  obtain ⟨g3, h3⟩ := h3; obtain ⟨g4, h4⟩ := h4; obtain ⟨g5, h5⟩ := h5; obtain ⟨g6, h6⟩ := h6
  obtain ⟨z, hz⟩ := fifth_real
  refine ⟨Real.exp (∑ j : S128.Idx, g3 (j 0) * g4 (j 0)) - Real.exp (∑ j : S128.Idx, g5 (j 0) * g6 (j 0)) + z, fun i => ?_⟩
  have h0 : val_main_cst_4 (F := Ideal) (Shape.Idx.first h_S_) = (0 : EReal) := Ideal.ofBits_zero_f32
  have h0' : val_main_cst_5 (F := Ideal) (Shape.Idx.first h_S_) = (0 : EReal) := Ideal.ofBits_zero_f32
  have e1 : ∀ j : S128.Idx, val_main_v34 (F := Ideal) x3 x4 j = ((g3 (j 0) * g4 (j 0) : ℝ) : EReal) := fun j => by
    rw [val_main_v34_apply, h3, h4, EReal.coe_mul]; rfl
  have e2 : ∀ j : S128.Idx, val_main_v37 (F := Ideal) x5 x6 j = ((g5 (j 0) * g6 (j 0) : ℝ) : EReal) := fun j => by
    rw [val_main_v37_apply, h5, h6, EReal.coe_mul]; rfl
  rw [val_main_v41_apply, val_main_v40_apply, val_main_v36_apply, val_main_v39_apply, val_main_v35_apply, val_main_v38_apply, h0, h0',
    zero_add, zero_add, Finset.sum_congr rfl fun j _ => e1 j, Finset.sum_congr rfl fun j _ => e2 j, ← coe_sum, ← coe_sum, val_main_cst_6_apply]
  have hf : ∀ a b c : EReal, FloatOps.addf (F := Ideal) (φ := .f32) (FloatOps.subf (F := Ideal) (φ := .f32) (FloatOps.hostUnary (F := Ideal) (φ := .f32) .exp a)
      (FloatOps.hostUnary (F := Ideal) (φ := .f32) .exp b)) c = Ideal.exp a - Ideal.exp b + c := fun _ _ _ => rfl
  refine (hf _ _ _).trans ?_
  show _ + Ideal.ofBits .f32 0x3E4CCCCD#32 = _
  rw [hz, Ideal.exp_coe, Ideal.exp_coe, ← EReal.coe_sub, ← EReal.coe_add]

/-- The reference's attention before its norm: the difference of the two softmax averages. -/
theorem attn_real (x0 : Proj) (x3 x4 x5 x6 : Lam) (hx : Fin0 x0) (lam : ℝ) (hl : ∀ i, val_main_v41 (F := Ideal) x3 x4 x5 x6 i = (lam : EReal))
    (i : S4x8192x256.Idx) :
    val_main_v49 (F := Ideal) x0 x3 x4 x5 x6 i
      = ((softR (aR x0 (i 0).val 0 (i 1).val) (aR x0 (i 0).val 1 (i 1).val) (vR x0 (i 0).val (i 2).val) lam (i 1).val : ℝ) : EReal) := by
  have h0 : (i 0).val < 4 := (i 0).isLt
  have h1 : (i 1).val < 8192 := (i 1).isLt
  rw [val_main_v49_apply, softR, ← Fin.sum_univ_eq_sum_range (fun k => (wR (aR x0 (i 0).val 0 (i 1).val) (i 1).val 0 k
      / (∑ j ∈ Finset.range 8192, wR (aR x0 (i 0).val 0 (i 1).val) (i 1).val 0 j)
      - lam * (wR (aR x0 (i 0).val 1 (i 1).val) (i 1).val 0 k
      / ∑ j ∈ Finset.range 8192, wR (aR x0 (i 0).val 1 (i 1).val) (i 1).val 0 j)) * vR x0 (i 0).val (i 2).val k) 8192, coe_sum]
  refine Finset.sum_congr rfl fun k _ => ?_
  have hk : k.val < 8192 := k.isLt
  have p0 : val_main_v43 (F := Ideal) x0 (lidx_main_v49 i k) = ((wR (aR x0 (i 0).val 0 (i 1).val) (i 1).val 0 k.val
      / (∑ j ∈ Finset.range 8192, wR (aR x0 (i 0).val 0 (i 1).val) (i 1).val 0 j) : ℝ) : EReal) := by
    rw [val_main_v43_apply, val_main_v42_apply, soft_real x0 hx]
    have a0 : (idx_main_v42 (idx_main_v43 (lidx_main_v49 i k)) 0).val = (i 0).val := by
      show (((i 0).val * 8192 + (i 1).val) * 8192 + k.val) / 67108864 = _; omega
    have a1 : (idx_main_v42 (idx_main_v43 (lidx_main_v49 i k)) 1).val = 0 := rfl
    have a2 : (idx_main_v42 (idx_main_v43 (lidx_main_v49 i k)) 2).val = (i 1).val := by
      show (((i 0).val * 8192 + (i 1).val) * 8192 + k.val) / 8192 % 8192 = _; omega
    have a3 : (idx_main_v42 (idx_main_v43 (lidx_main_v49 i k)) 3).val = k.val := by
      show (((i 0).val * 8192 + (i 1).val) * 8192 + k.val) % 8192 = _; omega
    rw [a0, a1, a2, a3]
  have p1 : val_main_v45 (F := Ideal) x0 (lidx_main_v49 i k) = ((wR (aR x0 (i 0).val 1 (i 1).val) (i 1).val 0 k.val
      / (∑ j ∈ Finset.range 8192, wR (aR x0 (i 0).val 1 (i 1).val) (i 1).val 0 j) : ℝ) : EReal) := by
    rw [val_main_v45_apply, val_main_v44_apply, soft_real x0 hx]
    have a0 : (idx_main_v44 (idx_main_v45 (lidx_main_v49 i k)) 0).val = (i 0).val := by
      show (((i 0).val * 8192 + (i 1).val) * 8192 + k.val) / 67108864 = _; omega
    have a1 : (idx_main_v44 (idx_main_v45 (lidx_main_v49 i k)) 1).val = 1 := rfl
    have a2 : (idx_main_v44 (idx_main_v45 (lidx_main_v49 i k)) 2).val = (i 1).val := by
      show (((i 0).val * 8192 + (i 1).val) * 8192 + k.val) / 8192 % 8192 = _; omega
    have a3 : (idx_main_v44 (idx_main_v45 (lidx_main_v49 i k)) 3).val = k.val := by
      show (((i 0).val * 8192 + (i 1).val) * 8192 + k.val) % 8192 = _; omega
    rw [a0, a1, a2, a3]
  rw [val_main_v48_apply, val_main_v47_apply, val_main_v46_apply, p0, p1, hl, v_real x0 hx, EReal.coe_mul, EReal.coe_sub, EReal.coe_mul]
  rfl

end Cert.ReferenceIdeal.Soft

end
-- ==== Proof.AttnClaim.lean ====
/-
  The value claim of the attention. For finite inputs each row of the kernel's first result is the normalised difference
  of the two softmax averages that the reference computes, whichever of the kernel's two branches is taken; the other two
  results are the feed-forward weights in the shorter format.
-/
module

public import proofs.«01_k».proof.Proof.AttnHost
public import proofs.«01_k».proof.Proof.AttnRef
public import proofs.«01_k».proof.Proof.Gen.ReferenceIdeal.Run
public import Idealize.ShloMosaic.Lib.Pointwise
public import Idealize.ShloMosaic.Lib.Pipeline.ValueKit.Geometry
public import proofs.«01_k».proof.Defs

@[expose] public section

set_option maxRecDepth 16384
set_option maxHeartbeats 4000000

noncomputable section

/-! ### The precondition's side conditions -/

namespace Cert.Pre_finite_inputs.Hand

open Cert.Pre_finite_inputs Idealize.ShloMosaic

theorem slices_S8192x6144_S8192x3072_0_3072 : S8192x6144.Slices ![0, 3072] S8192x3072 := by decide
theorem bitsLt_bf16_f32 : FTy.bits .bf16 < FTy.bits .f32 := by decide
theorem bcast_S_S8192x3072 : S_.BroadcastsInDim S8192x3072 (![] : Fin 0 → Fin S8192x3072.rank) := by decide
theorem bcast_S_S128 : S_.BroadcastsInDim S128 (![] : Fin 0 → Fin S128.rank) := by decide

/-- The precondition's shape relations hold. -/
instance facts : Cert.Pre_finite_inputs.Facts where
  slices_S8192x6144_S8192x3072_0_3072 := slices_S8192x6144_S8192x3072_0_3072
  bitsLt_bf16_f32 := bitsLt_bf16_f32
  bcast_S_S8192x3072 := bcast_S_S8192x3072
  bcast_S_S128 := bcast_S_S128

end Cert.Pre_finite_inputs.Hand

namespace Cert.KernelIdeal.Hand

open Cert.KernelIdeal Cert.KernelIdeal.Gen Cert.KernelIdeal.Attn Idealize.ShloMosaic Idealize.ShloMosaic.TcCoe Idealize.ShloMosaic.Tactic Idealize.SL.Sem
open Cert.ReferenceIdeal.Soft (xR Fin0 Fin1 aR vR at_real attn_real lam_real)
open Cert.ReferenceIdeal.Read
open scoped BigOperators

/-! ### What the precondition says -/

theorem inf_top : Ideal.ofBits .f32 0x7F800000#32 = (⊤ : EReal) := by simp [Ideal.ofBits, Ideal.ieee]

theorem fin_of (y : EReal) (h : BitVec.ofBool (decide (max y (-y) < Ideal.ofBits .f32 0x7F800000#32)) = 1#1) : y = ((y.toReal : ℝ) : EReal) := by
  rw [inf_top] at h
  have h' : max y (-y) < ⊤ := by
    by_contra hn
    rw [decide_eq_false hn] at h
    exact absurd h (by decide)
  refine (EReal.coe_toReal ?_ ?_).symm
  · rintro rfl; simp at h'
  · rintro rfl; simp at h'

theorem fin0_of (x0 : Cert.ReferenceIdeal.Soft.Proj) (x1 x2 x3 x4 x5 x6 : Cert.ReferenceIdeal.Soft.Lam) (x7 x8 x9)
    (h : (Cert.Pre_finite_inputs.fn (F := Ideal) x0 x1 x2 x3 x4 x5 x6 x7 x8 x9).1 = fun _ => 1#1) : Fin0 x0 := by
  intro i hi
  have h0 : (i 0).val < 8192 := (i 0).isLt
  have h1 : (i 1).val < 6144 := (i 1).isLt
  have hj := congrFun h (ix2 (⟨(i 0).val, h0⟩ : Fin 8192) (⟨(i 1).val - 3072, by omega⟩ : Fin 3072))
  have e := fin_of _ hj
  have e' : val_main_v0 (F := Ideal) x0 (ix2 (⟨(i 0).val, h0⟩ : Fin 8192) (⟨(i 1).val - 3072, by omega⟩ : Fin 3072))
      = (((val_main_v0 (F := Ideal) x0 (ix2 (⟨(i 0).val, h0⟩ : Fin 8192) (⟨(i 1).val - 3072, by omega⟩ : Fin 3072)) : EReal).toReal : ℝ) : EReal) := e
  rw [val_main_v0_apply] at e'
  have hi' : idx_main_v0 (ix2 (⟨(i 0).val, h0⟩ : Fin 8192) (⟨(i 1).val - 3072, by omega⟩ : Fin 3072)) = i := funext fun d => Fin.ext (by
    match d with
    | ⟨0, _⟩ => rfl
    | ⟨1, _⟩ => show 3072 + ((i 1).val - 3072) = (i 1).val; omega)
  rw [hi'] at e'
  unfold xR
  rw [dif_pos ⟨h0, h1⟩]
  have hk : (fun a => match a with | ⟨0, _⟩ => ⟨(i 0).val, h0⟩ | ⟨1, _⟩ => ⟨(i 1).val, h1⟩ : Cert.ReferenceIdeal.S8192x6144.Idx) = i := funext fun d => Fin.ext (by
    match d with
    | ⟨0, _⟩ => rfl
    | ⟨1, _⟩ => rfl)
  exact e'.trans (congrArg (fun j => ((EReal.toReal (x0 j) : ℝ) : EReal)) hk.symm)

theorem fin1_of (x : Cert.ReferenceIdeal.Soft.Lam) (h : ∀ i, BitVec.ofBool (decide (max (x i : EReal) (-(x i : EReal)) < Ideal.ofBits .f32 0x7F800000#32)) = 1#1) : Fin1 x :=
  ⟨fun k => (x (ix1 k) : EReal).toReal, fun i => (fin_of _ (h i)).trans (congrArg (fun j => (((x j : EReal).toReal : ℝ) : EReal)) (eq_ix1 i))⟩

/-! ### The kernel's rows -/

variable (m : (ℓ : Loc nD τ sig) → Buf (Elt Ideal) ℓ) (c : Dev nD)

theorem xR_out (x0 : Cert.ReferenceIdeal.Soft.Proj) (r j : ℕ) (h : ¬ r < 8192) : xR x0 r j = 0 := dif_neg fun h' => h h'.1

theorem at_q (hx : Fin0 (proj m c)) (t : Fin cfg0.N) (r e : ℕ) (he : e < 256) :
    at8 (iblk m c 1 t) r e = ((xR (proj m c) r (3072 + (256 * (t.val / 8) + e)) : ℝ) : EReal) := by
  unfold at8
  by_cases hr : r < 8192
  · rw [dif_pos ⟨hr, he⟩, q_block]
    exact at_real _ hx _ _ _ rfl (by show 256 * (12 + t.val / 8) + e = _; omega) (by omega)
  · rw [dif_neg (fun h => hr h.1), xR_out _ _ _ hr]; rfl
theorem at_k (hx : Fin0 (proj m c)) (t : Fin cfg0.N) (r e : ℕ) (he : e < 256) :
    at8 (iblk m c 2 t) r e = ((xR (proj m c) r (4096 + (256 * (t.val / 8) + e)) : ℝ) : EReal) := by
  unfold at8
  by_cases hr : r < 8192
  · rw [dif_pos ⟨hr, he⟩, k_block]
    exact at_real _ hx _ _ _ rfl (by show 256 * (16 + t.val / 8) + e = _; omega) (by omega)
  · rw [dif_neg (fun h => hr h.1), xR_out _ _ _ hr]; rfl
theorem at_v (hx : Fin0 (proj m c)) (t : Fin cfg0.N) (r e : ℕ) (he : e < 256) :
    at8 (iblk m c 3 t) r e = ((xR (proj m c) r (5120 + (256 * (t.val / 8) + e)) : ℝ) : EReal) := by
  unfold at8
  by_cases hr : r < 8192
  · rw [dif_pos ⟨hr, he⟩, v_block]
    exact at_real _ hx _ _ _ rfl (by show 256 * (20 + t.val / 8) + e = _; omega) (by omega)
  · rw [dif_neg (fun h => hr h.1), xR_out _ _ _ hr]; rfl

theorem sc_real (hx : Fin0 (proj m c)) (t : Fin cfg0.N) (s R k : ℕ) (hs : s < 2) :
    sc (iblk m c 1 t) (iblk m c 2 t) s R k = ((aR (proj m c) (t.val / 8) s R k : ℝ) : EReal) := by
  unfold sc aR
  rw [coe_sum]
  refine Finset.sum_congr rfl fun e _ => ?_
  have he : 128 * s + e.val < 256 := by have := e.isLt; omega
  rw [at_q m c hx t R _ he, at_k m c hx t k _ he, EReal.coe_mul, ← Nat.add_assoc (256 * (t.val / 8))]

/-- Whichever branch is taken, a row of the kernel's attention is the difference of the two softmax averages. -/
theorem row_real (hx : Fin0 (proj m c)) (t : Fin cfg0.N) (lam : ℝ) (R : ℕ) (hR : R < 8192) (y : Fin 256) :
    rowA (iblk m c 0 t) (iblk m c 1 t) (iblk m c 2 t) (iblk m c 3 t) (lam : EReal) R y
      = ((softR (aR (proj m c) (t.val / 8) 0 R) (aR (proj m c) (t.val / 8) 1 R) (vR (proj m c) (t.val / 8) y.val) lam R : ℝ) : EReal) := by
  have h0 := fun k => sc_real m c hx t 0 R k (by norm_num)
  have h1 := fun k => sc_real m c hx t 1 R k (by norm_num)
  have hv : ∀ (k : ℕ) (z : Fin 256), at8 (iblk m c 3 t) k z.val = ((vR (proj m c) (t.val / 8) z.val k : ℝ) : EReal) := fun k z =>
    at_v m c hx t k z.val z.isLt
  unfold rowA
  split_ifs with hf
  · rw [p_block] at hf ⊢
    obtain ⟨μ, hμ⟩ := shift_real m c hf
    rw [hμ]
    exact rowF_soft _ _ _ R hR _ _ h0 h1 (fun k z => vR (proj m c) (t.val / 8) z.val k) hv lam μ y
  · exact rowO_soft _ _ _ R hR _ _ h0 h1 (fun k z => vR (proj m c) (t.val / 8) z.val k) hv lam y

/-! ### The reference's rows -/

theorem lam_ref (x3 x4 x5 x6 : Cert.ReferenceIdeal.Soft.Lam) (i : Cert.ReferenceIdeal.S_.Idx) :
    val_main_v41 (F := Ideal) x3 x4 x5 x6 i = lamE (fun k => x3 (ix1 k)) (fun k => x4 (ix1 k)) (fun k => x5 (ix1 k)) (fun k => x6 (ix1 k)) := by
  unfold val_main_v41 val_main_v40 val_main_v39 val_main_v38 val_main_v37 val_main_v36 val_main_v35 val_main_v34 val_main_cst_4 val_main_cst_5 val_main_cst_6 lamE
  pointwise

theorem ref_apply (x0 : Cert.ReferenceIdeal.Soft.Proj) (x3 x4 x5 x6 : Cert.ReferenceIdeal.Soft.Lam) (x7 : S4x256.Idx → EReal) (hx : Fin0 x0) (lam : ℝ)
    (hl : ∀ i, val_main_v41 (F := Ideal) x3 x4 x5 x6 i = (lam : EReal)) (i : Cert.ReferenceIdeal.S8192x1024.Idx) (h : Fin 4) (y : Fin 256) (hi : (i 1).val = 256 * h.val + y.val) :
    val_main_v67 (F := Ideal) x0 x3 x4 x5 x6 x7 i
      = rowN (fun z => ((softR (aR x0 h.val 0 (i 0).val) (aR x0 h.val 1 (i 0).val) (vR x0 h.val z.val) lam (i 0).val : ℝ) : EReal)) (fun z => x7 (ix2 h z)) y := by
  have hr : (i 0).val < 8192 := (i 0).isLt
  have e0 : idx_main_v66 i = ix3 (⟨(i 0).val, hr⟩ : Fin 8192) h y := funext fun d => Fin.ext (by
    match d with
    | ⟨0, _⟩ => show ((i 0).val * 1024 + (i 1).val) / 1024 = (i 0).val; omega
    | ⟨1, _⟩ => show ((i 0).val * 1024 + (i 1).val) / 256 % 4 = h.val; omega
    | ⟨2, _⟩ => show ((i 0).val * 1024 + (i 1).val) % 256 = y.val; omega)
  rw [val_main_v67_apply, val_main_v66_apply, val_main_v65_apply, val_main_v63_apply, val_main_v60_apply, val_main_v62_apply, val_main_v61_apply,
    val_main_v64_apply, val_main_v59_apply, val_main_v58_apply, val_main_v57_apply, val_main_v55_apply, val_main_v56_apply, val_main_v53_apply,
    val_main_v54_apply, val_main_v52_apply, e0]
  have ha : ∀ z : Fin 256, val_main_v50 (F := Ideal) x0 x3 x4 x5 x6 (ix3 (⟨(i 0).val, hr⟩ : Fin 8192) h z)
      = ((softR (aR x0 h.val 0 (i 0).val) (aR x0 h.val 1 (i 0).val) (vR x0 h.val z.val) lam (i 0).val : ℝ) : EReal) := fun z => by
    rw [val_main_v50_apply]; exact attn_real x0 x3 x4 x5 x6 hx lam hl _
  have hq : ∀ z : Fin 256, val_main_v51 (F := Ideal) x0 x3 x4 x5 x6 (idx_main_v52 (idx_main_v53 (idx_main_v59 (ix3 (⟨(i 0).val, hr⟩ : Fin 8192) h y))) z)
      = ((softR (aR x0 h.val 0 (i 0).val) (aR x0 h.val 1 (i 0).val) (vR x0 h.val z.val) lam (i 0).val : ℝ) : EReal)
        * ((softR (aR x0 h.val 0 (i 0).val) (aR x0 h.val 1 (i 0).val) (vR x0 h.val z.val) lam (i 0).val : ℝ) : EReal) := fun z => by
    have ez : idx_main_v52 (idx_main_v53 (idx_main_v59 (ix3 (⟨(i 0).val, hr⟩ : Fin 8192) h y))) z = ix3 (⟨(i 0).val, hr⟩ : Fin 8192) h z := funext fun d => Fin.ext (by
      match d with
      | ⟨0, _⟩ => rfl
      | ⟨1, _⟩ => rfl
      | ⟨2, _⟩ => rfl)
    rw [val_main_v51_apply, ez, ha z]; rfl
  rw [Finset.sum_congr rfl fun z _ => hq z, ha y]
  have h0 : ∀ j, val_main_cst_7 (F := Ideal) j = (0 : EReal) := fun _ => Ideal.ofBits_zero_f32
  rw [h0, zero_add]
  have hw : idx_main_v61 (idx_main_v62 (ix3 (⟨(i 0).val, hr⟩ : Fin 8192) h y)) = ix2 h y := funext fun d => Fin.ext (by
    match d with
    | ⟨0, _⟩ => rfl
    | ⟨1, _⟩ => rfl)
  rw [hw]
  unfold rowN normO
  beta_reduce
  generalize ((softR (aR x0 h.val 0 (i 0).val) (aR x0 h.val 1 (i 0).val) (vR x0 h.val y.val) lam (i 0).val : ℝ) : EReal) = o
  generalize (∑ z : Fin 256, ((softR (aR x0 h.val 0 (i 0).val) (aR x0 h.val 1 (i 0).val) (vR x0 h.val z.val) lam (i 0).val : ℝ) : EReal)
        * ((softR (aR x0 h.val 0 (i 0).val) (aR x0 h.val 1 (i 0).val) (vR x0 h.val z.val) lam (i 0).val : ℝ) : EReal)) = ss
  show o * Ideal.rsqrt (Ideal.div ss (Ideal.ofBits .f32 0x43800000#32) + Ideal.ofBits .f32 0x358637BD#32) * x7 (ix2 h y) * Ideal.ofBits .f32 0x3F4CCCCD#32
    = o * (Ideal.rsqrt (Ideal.div ss (Ideal.ofBits .f32 0x43800000#32) + Ideal.ofBits .f32 0x358637BD#32) * Ideal.ofBits .f32 0x3F4CCCCD#32) * x7 (ix2 h y)
  rw [mul_right_comm, mul_assoc o]

/-! ### The results -/

/-- The attention's result: the reference's, of the arrays as launched. -/
abbrev result : Cert.ReferenceIdeal.S8192x1024.Idx → EReal :=
  val_main_v67 (F := Ideal) (m ((c : Thread nD τ).loc main_arg0)) (m ((c : Thread nD τ).loc main_arg3)) (m ((c : Thread nD τ).loc main_arg4))
    (m ((c : Thread nD τ).loc main_arg5)) (m ((c : Thread nD τ).loc main_arg6)) (m ((c : Thread nD τ).loc main_arg7))

theorem final_attn (hx : Fin0 (proj m c)) (lam : ℝ)
    (hl : ∀ i, val_main_v41 (F := Ideal) (m ((c : Thread nD τ).loc main_arg3)) (m ((c : Thread nD τ).loc main_arg4))
      (m ((c : Thread nD τ).loc main_arg5)) (m ((c : Thread nD τ).loc main_arg6)) i = (lam : EReal)) :
    (dats m 0 c).arrAt 11 cfg0.N = result m c := by
  refine (dats m 0 c).arrAt_eq_of_covers 11 (result m c) (by decide +kernel) fun t hf y => ?_
  blk_simp
  obtain ⟨a, b, rfl⟩ : ∃ (a : Fin 1024) (b : Fin 256), y = ix2 a b := ⟨y 0, y 1, eq_ix2 y⟩
  obtain ⟨g0, g1, -, -, -, -, -, -, -, -, -, h0, h1⟩ := index_closed t
  have ht := point_lt t
  show outB (rowA (iblk m c 0 t) (iblk m c 1 t) (iblk m c 2 t) (iblk m c 3 t) (lamX (iblk m c 4 t) (iblk m c 5 t) (iblk m c 6 t) (iblk m c 7 t))) (iblk m c 8 t) (grid0.coords t) (ix2 a b) = _
  have el := (lam_block m c t).trans ((lam_ref _ _ _ _ (fun a => a.elim0)).symm.trans (hl _))
  rw [el]
  unfold outB
  have eh : (grid0.coords t 0 : Fin 4) = ⟨t.val / 8, by omega⟩ := Fin.ext g0
  refine Eq.trans ?_ (ref_apply _ _ _ _ _ _ hx lam hl _ (⟨t.val / 8, by omega⟩ : Fin 4) b ?_).symm
  · show rowN (rowA _ _ _ _ _ (1024 * (grid0.coords t 1).val + a.val)) (fun z => iblk m c 8 t (ix2 (grid0.coords t 0 : Fin 4) z)) b = _
    have e0 : 1024 * (grid0.coords t 1).val + a.val = win0_11.index t (0 : Fin 2) * 1024 + 1 * a.val := by omega
    refine congrArg₂ (fun o w => rowN o w b) (funext fun z => ?_) (funext fun z => ?_)
    · rw [e0]; exact row_real m c hx t lam _ (by omega) z
    · exact (congrArg (fun h : Fin 4 => iblk m c 8 t (ix2 h z)) eh).trans (n_block m c t (⟨t.val / 8, by omega⟩ : Fin 4) z)
  · show win0_11.index t (1 : Fin 2) * 256 + 1 * b.val = 256 * (t.val / 8) + b.val; omega

theorem final_gate : (dats m 0 c).arrAt 12 cfg0.N = m ((c : Thread nD τ).loc main_arg8) := by
  refine (dats m 0 c).arrAt_eq_of_covers 12 (m ((c : Thread nD τ).loc main_arg8)) (by decide +kernel) fun t hf y => ?_
  blk_simp
  obtain ⟨a, b, rfl⟩ : ∃ (a : Fin 64) (b : Fin 5632), y = ix2 a b := ⟨y 0, y 1, eq_ix2 y⟩
  obtain ⟨-, -, -, -, ⟨h0, h1⟩, -, ⟨h2, h3⟩, -⟩ := index_rest t
  refine Eq.trans ?_ (congrFun (V_main_arg8 m c) _)
  show V m c (Pipeline.arrRef spec0 9) (((cfg0.win 9).blk t).view.emb (ix2 a b)) = _
  refine congrArg (V m c main_arg8) (funext fun d => Fin.ext ?_)
  match d with
  | ⟨0, _⟩ => show win0_9.index t (0 : Fin 2) * 64 + 1 * a.val = win0_12.index t (0 : Fin 2) * 64 + 1 * a.val; omega
  | ⟨1, _⟩ => show win0_9.index t (1 : Fin 2) * 5632 + 1 * b.val = win0_12.index t (1 : Fin 2) * 5632 + 1 * b.val; omega

theorem final_up : (dats m 0 c).arrAt 13 cfg0.N = m ((c : Thread nD τ).loc main_arg9) := by
  refine (dats m 0 c).arrAt_eq_of_covers 13 (m ((c : Thread nD τ).loc main_arg9)) (by decide +kernel) fun t hf y => ?_
  blk_simp
  obtain ⟨a, b, rfl⟩ : ∃ (a : Fin 64) (b : Fin 5632), y = ix2 a b := ⟨y 0, y 1, eq_ix2 y⟩
  obtain ⟨-, -, -, -, -, ⟨h0, h1⟩, -, ⟨h2, h3⟩⟩ := index_rest t
  refine Eq.trans ?_ (congrFun (V_main_arg9 m c) _)
  show V m c (Pipeline.arrRef spec0 10) (((cfg0.win 10).blk t).view.emb (ix2 a b)) = _
  refine congrArg (V m c main_arg9) (funext fun d => Fin.ext ?_)
  match d with
  | ⟨0, _⟩ => show win0_10.index t (0 : Fin 2) * 64 + 1 * a.val = win0_13.index t (0 : Fin 2) * 64 + 1 * a.val; omega
  | ⟨1, _⟩ => show win0_10.index t (1 : Fin 2) * 5632 + 1 * b.val = win0_13.index t (1 : Fin 2) * 5632 + 1 * b.val; omega

/-- The value claim of the attention. -/
theorem algebraic : Cert.algebraic_KernelIdeal_ReferenceIdeal_pre_finite_inputs := by
  intro m g m' g' hpre hargs
  refine ⟨fun c => result m c, fun c => m ((c : Thread nD τ).loc main_arg8), fun c => m ((c : Thread nD τ).loc main_arg9), ?_, ?_⟩
  · refine (θ_run defs _ _).mono (fun r h c => ?_) (run_main m g)
    obtain ⟨p0, p3, p4, p5, p6⟩ := hpre c
    have hx := fin0_of _ _ _ _ _ _ _ _ _ _ p0
    obtain ⟨lam, hl⟩ := lam_real _ _ _ _ (fin1_of _ fun i => congrFun p3 i) (fin1_of _ fun i => congrFun p4 i) (fin1_of _ fun i => congrFun p5 i) (fin1_of _ fun i => congrFun p6 i)
    exact ⟨((h c).1 11).trans (final_attn m c hx lam hl), ((h c).1 12).trans (final_gate m c), ((h c).1 13).trans (final_up m c),
      ((h c).1 3).trans (((dats m 0 c).arrAt_in 3 rfl _).trans ((A_eq m c 3).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 8).trans (((dats m 0 c).arrAt_in 8 rfl _).trans ((A_eq m c 8).trans (V_main_arg7 m c))),
      ((h c).1 9).trans (((dats m 0 c).arrAt_in 9 rfl _).trans ((A_eq m c 9).trans (V_main_arg8 m c))),
      ((h c).1 10).trans (((dats m 0 c).arrAt_in 10 rfl _).trans ((A_eq m c 10).trans (V_main_arg9 m c)))⟩
  · refine (θ_run Cert.ReferenceIdeal.defs _ _).mono (fun r h c => ⟨(h c).1.trans ?_, (h c).2.1.trans ?_, (h c).2.2.1.trans ?_, (h c).2.2.2⟩) (Cert.ReferenceIdeal.Value.run m' g')
    · obtain ⟨e0, e1, e2, e3, e4, e5, e6, e7, e8, e9⟩ := hargs c
      rw [val_main_v67_eq, e0, e3, e4, e5, e6, e7]
    · obtain ⟨e0, e1, e2, e3, e4, e5, e6, e7, e8, e9⟩ := hargs c
      rw [e8]; rfl
    · obtain ⟨e0, e1, e2, e3, e4, e5, e6, e7, e8, e9⟩ := hargs c
      rw [e9]; rfl

end Cert.KernelIdeal.Hand

end
-- ==== Proof.lean ====
/-
   The certificate's claim: the frames of the attention call, of the feed-forward call and of the output projection (each
   as the chip computes it and as the reals do), the frames of their references, the name of the mask's constant, and
   the value claims, assembled behind the witnesses of the programs' stated facts.
-/
module

public import proofs.«01_k».proof.Defs
public import proofs.«01_k».proof.Proof.KernelRun
public import proofs.«01_k».proof.Proof.KernelIdealRun
public import proofs.«01_k».proof.Proof.OutProj
public import proofs.«01_k».proof.Proof.Ffn
public import proofs.«01_k».proof.Proof.Gen.Kernel
public import proofs.«01_k».proof.Proof.Gen.KernelIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference.Run
public import proofs.«01_k».proof.Proof.Gen.ReferenceIdeal.Run
public import proofs.«01_k».proof.Proof.Gen.ReferenceIdeal.Read
public import proofs.«01_k».proof.Proof.Gen.Reference2Ideal.Run
public import proofs.«01_k».proof.Proof.Gen.Reference2Ideal.Read
public import proofs.«01_k».proof.Proof.Gen.Reference3Ideal.Run
public import proofs.«01_k».proof.Proof.Gen.Reference3Ideal.Read
public import proofs.«01_k».proof.Proof.AttnClaim
public import Idealize.ShloMosaic.Adequacy
public import Idealize.ShloMosaic.Init

@[expose] public section

noncomputable section

namespace Cert.Proof

open Idealize.ShloMosaic Idealize.SL.Sem

theorem reference_ideal : Cert.quiescent_ReferenceIdeal := fun m ρ _ =>
  (θ_run Cert.ReferenceIdeal.defs _ _).mono (fun r h => ⟨fun c => (h c).2.2.2, sem_eq_zero_of_no_sems (by decide) r.2⟩)
    (Cert.ReferenceIdeal.Value.run (F := Ideal) m ρ)

theorem reference_bits : Cert.quiescent_Reference := fun m ρ _ =>
  (θ_run Cert.Reference.defs _ _).mono (fun r h => ⟨fun c => (h c).2.2.2, sem_eq_zero_of_no_sems (by decide) r.2⟩)
    (Cert.Reference.Value.run (F := Bits) m ρ)

theorem reference2_ideal : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem reference3_ideal : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem claim : Cert.Claim :=
  ⟨Cert.Kernel.Gen.facts, Cert.KernelIdeal.Gen.facts, Cert.ReferenceIdeal.Gen.facts, Cert.Reference.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Pre_finite_inputs.Hand.facts,
    fun m ρ _ => Cert.Kernel.Hand.frame (F := Bits) m ρ,
    fun m ρ _ => Cert.KernelIdeal.Hand.frame (F := Ideal) m ρ,
    fun m ρ _ => Cert.KernelIdeal.Hand.frame (F := Ideal) m ρ,
    reference_ideal,
    fun m ρ _ => reference_ideal m ρ trivial,
    reference_bits,
    fun m ρ _ => Cert.Kernel2.Gen.frame (F := Bits) m ρ,
    fun m ρ _ => Cert.Kernel2Ideal.Gen.frame (F := Ideal) m ρ,
    reference2_ideal,
    fun m ρ _ => Cert.Kernel3.Gen.frame (F := Bits) m ρ,
    fun m ρ _ => Cert.Kernel3Ideal.Gen.frame (F := Ideal) m ρ,
    reference3_ideal,
    IdealRules.named_const.statement Cert.KernelIdeal.κ "mask" .f32 0xF149F2CA#32 ⊥ rfl,
    trivial,
    Cert.KernelIdeal.Hand.algebraic,
    trivial,
    Cert.Kernel2Ideal.Hand.algebraic,
    trivial,
    Cert.Kernel3Ideal.Hand.algebraic⟩

end Cert.Proof

end
